-- ==== Defs.lean ====
def Pre_Kernel [hPre_counts_of_all_tokens : Cert.Pre_counts_of_all_tokens.Facts] (m : (ℓ : Loc Cert.Kernel.nD Cert.Kernel.τ Cert.Kernel.sig) → Buf (Elt Bits) ℓ) : Prop :=
  ∀ c : Dev Cert.Kernel.nD,
    (Cert.Pre_counts_of_all_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_counts_of_all_tokens : Cert.Pre_counts_of_all_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_counts_of_all_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_counts_of_all_tokens : Cert.Pre_counts_of_all_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_of_all_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ranked_tokens [hPre_ranked_tokens : Cert.Pre_ranked_tokens.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ranked_tokens.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ranked_tokens [hPre_ranked_tokens : Cert.Pre_ranked_tokens.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ranked_tokens.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] [hPre_counts_of_all_tokens : Cert.Pre_counts_of_all_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_counts_of_all_tokens : Cert.Pre_counts_of_all_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_counts_of_all_tokens : Cert.Pre_counts_of_all_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_ranked_tokens [hKernel5Ideal : Cert.Kernel5Ideal.Facts] [hPre_ranked_tokens : Cert.Pre_ranked_tokens.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ranked_tokens m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_ranked_tokens [hReference5Ideal : Cert.Reference5Ideal.Facts] [hPre_ranked_tokens : Cert.Pre_ranked_tokens.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ranked_tokens m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_of_all_tokens : Cert.Pre_counts_of_all_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v119) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v121) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_ranked_tokens [hKernel5Ideal : Cert.Kernel5Ideal.Facts] [hReference5Ideal : Cert.Reference5Ideal.Facts] [hPre_ranked_tokens : Cert.Pre_ranked_tokens.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ranked_tokens m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_counts_of_all_tokens : Cert.Pre_counts_of_all_tokens.Facts) (hPre_ranked_tokens : Cert.Pre_ranked_tokens.Facts),
    quiescent_Kernel (hKernel := hKernel) (hPre_counts_of_all_tokens := hPre_counts_of_all_tokens)
    ∧ quiescent_KernelIdeal (hKernelIdeal := hKernelIdeal) (hPre_counts_of_all_tokens := hPre_counts_of_all_tokens)
    ∧ quiescent_ReferenceIdeal (hReferenceIdeal := hReferenceIdeal) (hPre_counts_of_all_tokens := hPre_counts_of_all_tokens)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_ranked_tokens (hKernel5Ideal := hKernel5Ideal) (hPre_ranked_tokens := hPre_ranked_tokens)
    ∧ quiescent_Reference5Ideal (hReference5Ideal := hReference5Ideal)
    ∧ quiescent_Reference5Ideal_pre_ranked_tokens (hReference5Ideal := hReference5Ideal) (hPre_ranked_tokens := hPre_ranked_tokens)
    ∧ preserves_Kernel_KernelIdeal
    ∧ algebraic_KernelIdeal_ReferenceIdeal (hKernelIdeal := hKernelIdeal) (hReferenceIdeal := hReferenceIdeal) (hPre_counts_of_all_tokens := hPre_counts_of_all_tokens)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_ranked_tokens (hKernel5Ideal := hKernel5Ideal) (hReference5Ideal := hReference5Ideal) (hPre_ranked_tokens := hPre_ranked_tokens)
-- ==== Pre_counts_of_all_tokens.lean ====
abbrev S360448x128 : Shape := ⟨2, ![360448, 128]⟩
abbrev S24 : Shape := ⟨1, ![24]⟩
abbrev S16x1024x1024 : Shape := ⟨3, ![16, 1024, 1024]⟩
abbrev S16x512x1024 : Shape := ⟨3, ![16, 512, 1024]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : IVec S360448x128 32) (main_arg1 : IVec S24 32) (main_arg2 : FVec F S16x1024x1024 .f32) (main_arg3 : FVec F S16x512x1024 .f32) : IVec S24 1 :=
  let main_c : IVec S_ 32 := constantI S_ 32 0#32
  let main_v0 : IVec S24 32 := broadcastInDim S24 ![] bcast_S_S24 main_c
  let main_v1 : IVec S24 1 := cmpi .sge main_arg1 main_v0
  let main_c_0 : IVec S_ 32 := constantI S_ 32 32768#32
  let main_v2 : IVec S24 32 := broadcastInDim S24 ![] bcast_S_S24 main_c_0
  let main_v3 : IVec S24 1 := cmpi .sle main_arg1 main_v2
  let main_v4 : IVec S24 1 := andi main_v1 main_v3
  let main_c_1 : IVec S_ 32 := constantI S_ 32 0#32
  let main_v5 : IVec S_ 32 := (fun x v => Host.reduce IntOp.addi x v reducesTo_S24_S_d0 h_S_) main_arg1 main_c_1
  let main_c_2 : IVec S_ 32 := constantI S_ 32 32768#32
  let main_v6 : IVec S_ 1 := cmpi .eq main_v5 main_c_2
  let main_v7 : IVec S24 1 := broadcastInDim S24 ![] bcast_S_S24 main_v6
  let main_v8 : IVec S24 1 := andi main_v4 main_v7
  main_v8
-- ==== Pre_ranked_tokens.lean ====
abbrev S32768x128 : Shape := ⟨2, ![32768, 128]⟩
abbrev S24 : Shape := ⟨1, ![24]⟩
abbrev S32768x1 : Shape := ⟨2, ![32768, 1]⟩
abbrev S32768 : Shape := ⟨1, ![32768]⟩
abbrev S_ : Shape := ⟨0, ![]⟩

class Facts : Prop where
  slices_S32768x128_S32768x1_0_2 : S32768x128.Slices ![0, 2] S32768x1
  shapeCasts_S32768x1_S32768 : S32768x1.ShapeCasts S32768
  bcast_S_S32768 : S_.BroadcastsInDim S32768 (![] : Fin 0 → Fin S32768.rank)
  slices_S32768x128_S32768x1_0_3 : S32768x128.Slices ![0, 3] S32768x1
  reducesTo_S32768_S_d0 : S32768.ReducesTo [0] S_
  h_S_ : 0 < S_.numel

variable [Facts]

def fn {F : FTy → Type} [FloatOps F] (main_arg0 : FVec F S32768x128 .f32) (main_arg1 : IVec S24 32) : IVec S_ 1 :=
  let main_v0 : FVec F S32768x1 .f32 := (extractStridedSlice S32768x1 ![0, 2] · slices_S32768x128_S32768x1_0_2) main_arg0
  let main_v1 : FVec F S32768 .f32 := shapeCast S32768 main_v0 shapeCasts_S32768x1_S32768
  let main_cst : FVec F S_ .f32 := constant S_ .f32 0x41C00000#32
  let main_v2 : FVec F S32768 .f32 := broadcastInDim S32768 ![] bcast_S_S32768 main_cst
  let main_v3 : IVec S32768 1 := cmpf .olt main_v1 main_v2
  let main_v4 : FVec F S32768x1 .f32 := (extractStridedSlice S32768x1 ![0, 3] · slices_S32768x128_S32768x1_0_3) main_arg0
  let main_v5 : FVec F S32768 .f32 := shapeCast S32768 main_v4 shapeCasts_S32768x1_S32768
  let main_cst_0 : FVec F S_ .f32 := constant S_ .f32 0x00000000#32
  let main_v6 : FVec F S32768 .f32 := broadcastInDim S32768 ![] bcast_S_S32768 main_cst_0
  let main_v7 : IVec S32768 1 := cmpf .oge main_v5 main_v6
  let main_v8 : IVec S32768 1 := andi main_v3 main_v7
  let main_v9 : FVec F S32768x1 .f32 := (extractStridedSlice S32768x1 ![0, 3] · slices_S32768x128_S32768x1_0_3) main_arg0
  let main_v10 : FVec F S32768 .f32 := shapeCast S32768 main_v9 shapeCasts_S32768x1_S32768
  let main_cst_1 : FVec F S_ .f32 := constant S_ .f32 0x47000000#32
  let main_v11 : FVec F S32768 .f32 := broadcastInDim S32768 ![] bcast_S_S32768 main_cst_1
  let main_v12 : IVec S32768 1 := cmpf .ole main_v10 main_v11
  let main_v13 : IVec S32768 1 := andi main_v8 main_v12
  let main_c : IVec S_ 1 := constantI S_ 1 1#1
  let main_v14 : IVec S_ 1 := (fun x v => Host.reduce IntOp.andi x v reducesTo_S32768_S_d0 h_S_) main_v13 main_c
  main_v14
-- ==== Kernel.lean ====
abbrev S360448x128 : Shape := ⟨2, ![360448, 128]⟩
abbrev S24 : Shape := ⟨1, ![24]⟩
abbrev S16x1024x1024 : Shape := ⟨3, ![16, 1024, 1024]⟩
abbrev S16x512x1024 : Shape := ⟨3, ![16, 512, 1024]⟩
abbrev S_ : Shape := ⟨0, ![]⟩
abbrev S1 : Shape := ⟨1, ![1]⟩
abbrev S88 : Shape := ⟨1, ![88]⟩
abbrev S1x24 : Shape := ⟨2, ![1, 24]⟩
abbrev S88x1 : Shape := ⟨2, ![88, 1]⟩
abbrev S88x24 : Shape := ⟨2, ![88, 24]⟩
abbrev S4096x128 : Shape := ⟨2, ![4096, 128]⟩
abbrev S1x1024x1024 : Shape := ⟨3, ![1, 1024, 1024]⟩
abbrev S1x512x1024 : Shape := ⟨3, ![1, 512, 1024]⟩
abbrev S512x128 : Shape := ⟨2, ![512, 128]⟩
abbrev S512x1024 : Shape := ⟨2, ![512, 1024]⟩
abbrev S1024x1024 : Shape := ⟨2, ![1024, 1024]⟩
abbrev S512x512 : Shape := ⟨2, ![512, 512]⟩
abbrev S512x1 : Shape := ⟨2, ![512, 1]⟩

abbrev nBuf : Space → Nat
  | .hbm => 63
  | .vmem => 12
  | .smem => 3
  | _ => 0

abbrev bufTy : (tb : Table) → Fin (tcTables nBuf tb) → BufTy
  | .hbm, ⟨0, _⟩ => ⟨S360448x128, .i32⟩
  | .hbm, ⟨1, _⟩ => ⟨S24, .i32⟩
  | .hbm, ⟨2, _⟩ => ⟨S16x1024x1024, .f32⟩
  | .hbm, ⟨3, _⟩ => ⟨S16x512x1024, .f32⟩
  | .hbm, ⟨4, _⟩ => ⟨S24, .i32⟩
  | .hbm, ⟨5, _⟩ => ⟨S24, .i32⟩
  | .hbm, ⟨6, _⟩ => ⟨S_, .i32⟩
  | .hbm, ⟨7, _⟩ => ⟨S24, .i32⟩
  | .hbm, ⟨8, _⟩ => ⟨S24, .i32⟩
  | .hbm, ⟨9, _⟩ => ⟨S_, .i32⟩
  | .hbm, ⟨10, _⟩ => ⟨S_, .i32⟩
  | .hbm, ⟨11, _⟩ => ⟨S24, .i32⟩
  | .hbm, ⟨12, _⟩ => ⟨S24, .i32⟩
  | .hbm, ⟨13, _⟩ => ⟨S24, .i32⟩
  | .hbm, ⟨14, _⟩ => ⟨S_, .i32⟩
  | .hbm, ⟨15, _⟩ => ⟨S24, .i32⟩
  | .hbm, ⟨16, _⟩ => ⟨S24, .i1⟩
  | .hbm, ⟨17, _⟩ => ⟨S24, .i32⟩
  | .hbm, ⟨18, _⟩ => ⟨S24, .i32⟩
  | .hbm, ⟨19, _⟩ => ⟨S_, .i32⟩
  | .hbm, ⟨20, _⟩ => ⟨S24, .i32⟩
  | .hbm, ⟨21, _⟩ => ⟨S24, .i1⟩
  | .hbm, ⟨22, _⟩ => ⟨S24, .i1⟩
  | .hbm, ⟨23, _⟩ => ⟨S_, .i32⟩
  | .hbm, ⟨24, _⟩ => ⟨S24, .i32⟩
  | .hbm, ⟨25, _⟩ => ⟨S24, .i32⟩
  | .hbm, ⟨26, _⟩ => ⟨S24, .i32⟩
  | .hbm, ⟨27, _⟩ => ⟨S_, .i32⟩
  | .hbm, ⟨28, _⟩ => ⟨S_, .i32⟩
  | .hbm, ⟨29, _⟩ => ⟨S24, .i32⟩
  | .hbm, ⟨30, _⟩ => ⟨S88, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S88, .i32⟩
  | .hbm, ⟨35, _⟩ => ⟨S88, .i32⟩
  | .hbm, ⟨36, _⟩ => ⟨S1x24, .i32⟩
  | .hbm, ⟨37, _⟩ => ⟨S88x1, .i32⟩
  | .hbm, ⟨38, _⟩ => ⟨S88x24, .i32⟩
  | .hbm, ⟨39, _⟩ => ⟨S88x24, .i32⟩
  | .hbm, ⟨40, _⟩ => ⟨S88x24, .i1⟩
  | .hbm, ⟨41, _⟩ => ⟨S88x24, .i32⟩
  | .hbm, ⟨42, _⟩ => ⟨S_, .i32⟩
  | .hbm, ⟨43, _⟩ => ⟨S88, .i32⟩
  | .hbm, ⟨44, _⟩ => ⟨S16x1024x1024, .bf16⟩
  | .hbm, ⟨45, _⟩ => ⟨S16x512x1024, .bf16⟩
  | .hbm, ⟨46, _⟩ => ⟨S_, .i32⟩
  | .hbm, ⟨47, _⟩ => ⟨S88, .i32⟩
  | .hbm, ⟨48, _⟩ => ⟨S88, .i1⟩
  | .hbm, ⟨49, _⟩ => ⟨S_, .i32⟩
  | .hbm, ⟨50, _⟩ => ⟨S88, .i32⟩
  | .hbm, ⟨51, _⟩ => ⟨S88, .i32⟩
  | .hbm, ⟨52, _⟩ => ⟨S88, .i32⟩
  | .hbm, ⟨53, _⟩ => ⟨S88x1, .i32⟩
  | .hbm, ⟨54, _⟩ => ⟨S_, .i32⟩
  | .hbm, ⟨55, _⟩ => ⟨S88, .i32⟩
  | .hbm, ⟨56, _⟩ => ⟨S88, .i1⟩
  | .hbm, ⟨57, _⟩ => ⟨S_, .i32⟩
  | .hbm, ⟨58, _⟩ => ⟨S88, .i32⟩
  | .hbm, ⟨59, _⟩ => ⟨S88, .i32⟩
  | .hbm, ⟨60, _⟩ => ⟨S88, .i32⟩
  | .hbm, ⟨61, _⟩ => ⟨S88x1, .i32⟩
  | .hbm, ⟨62, _⟩ => ⟨S360448x128, .f32⟩
  | .local _ .vmem, ⟨0, _⟩ => ⟨S4096x128, .i32⟩
  | .local _ .vmem, ⟨1, _⟩ => ⟨S4096x128, .i32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S4096x128, .f32⟩
  | .local _ .vmem, ⟨11, _⟩ => ⟨S4096x128, .f32⟩
  | .local _ .smem, ⟨0, _⟩ => ⟨S88, .i32⟩
  | .local _ .smem, ⟨1, _⟩ => ⟨S88, .i32⟩
  | .local _ .smem, ⟨2, _⟩ => ⟨S1, .i32⟩
  | _, _ => ⟨S360448x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_c_2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_call1_call0_c : Ref sig .tc := ⟨.hbm, 27, rfl⟩
abbrev main_call1_call0_v0 : Ref sig .tc := ⟨.hbm, 28, rfl⟩
abbrev main_v3 : Ref sig .tc := ⟨.hbm, 29, rfl⟩
abbrev main_v5 : Ref sig .tc := ⟨.hbm, 30, rfl⟩
abbrev main_v6 : Ref sig .tc := ⟨.hbm, 31, rfl⟩
abbrev main_c_3 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_v19 : Ref sig .tc := ⟨.hbm, 47, rfl⟩
abbrev main_v20 : Ref sig .tc := ⟨.hbm, 48, rfl⟩
abbrev main_c_6 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_7 : Ref sig .tc := ⟨.hbm, 54, rfl⟩
abbrev main_v26 : Ref sig .tc := ⟨.hbm, 55, rfl⟩
abbrev main_v27 : Ref sig .tc := ⟨.hbm, 56, rfl⟩
abbrev main_c_8 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v33 : Ref sig .tc := ⟨.hbm, 62, rfl⟩
abbrev main_v25 : Ref sig .tc := ⟨.smem, 0, rfl⟩
abbrev main_v32 : Ref sig .tc := ⟨.smem, 1, rfl⟩
abbrev main_v4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_v25.idx, main_v32.idx, main_v4.idx], fun | 0 => main_v25.names | 1 => main_v32.names | 2 => main_v4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S360448x128 : Shape := ⟨2, ![360448, 128]⟩
abbrev S24 : Shape := ⟨1, ![24]⟩
abbrev S16x1024x1024 : Shape := ⟨3, ![16, 1024, 1024]⟩
abbrev S16x512x1024 : Shape := ⟨3, ![16, 512, 1024]⟩
abbrev S24x2 : Shape := ⟨2, ![24, 2]⟩
abbrev S45056x8x128 : Shape := ⟨3, ![45056, 8, 128]⟩
abbrev S45056x8x128x2 : Shape := ⟨4, ![45056, 8, 128, 2]⟩
abbrev S45056x4x128x1 : Shape := ⟨4, ![45056, 4, 128, 1]⟩
abbrev S45056x4x128 : Shape := ⟨3, ![45056, 4, 128]⟩
abbrev S45056x512 : Shape := ⟨2, ![45056, 512]⟩
abbrev S45056x1024 : Shape := ⟨2, ![45056, 1024]⟩
abbrev S45056x1x2x1 : Shape := ⟨4, ![45056, 1, 2, 1]⟩
abbrev S45056x2 : Shape := ⟨2, ![45056, 2]⟩
abbrev S_ : Shape := ⟨0, ![]⟩
abbrev S45056 : Shape := ⟨1, ![45056]⟩
abbrev S45056x1 : Shape := ⟨2, ![45056, 1]⟩
abbrev S1x24 : Shape := ⟨2, ![1, 24]⟩
abbrev S45056x24 : Shape := ⟨2, ![45056, 24]⟩
abbrev S1 : Shape := ⟨1, ![1]⟩
abbrev S45056x2x1 : Shape := ⟨3, ![45056, 2, 1]⟩
abbrev S1x1x16 : Shape := ⟨3, ![1, 1, 16]⟩
abbrev S45056x2x16 : Shape := ⟨3, ![45056, 2, 16]⟩
abbrev S45056x16 : Shape := ⟨2, ![45056, 16]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 446
  | .vmem => 0
  | .smem => 0
  | _ => 0

abbrev hbmTy0_0 (i : Nat) : BufTy := match i % 128 with
  | 0 => ⟨S360448x128, .i32⟩
  | 1 => ⟨S24, .i32⟩
  | 2 => ⟨S16x1024x1024, .f32⟩
  | 3 => ⟨S16x512x1024, .f32⟩
  | 4 => ⟨S24x2, .i32⟩
  | 5 => ⟨S45056x8x128, .i32⟩
  | 6 => ⟨S45056x8x128x2, .bf16⟩
  | 7 => ⟨S45056x8x128x2, .f32⟩
  | 8 => ⟨S45056x4x128x1, .f32⟩
  | 9 => ⟨S45056x4x128, .f32⟩
  | 10 => ⟨S45056x512, .f32⟩
  | 11 => ⟨S45056x4x128x1, .f32⟩
  | 12 => ⟨S45056x4x128, .f32⟩
  | 13 => ⟨S45056x512, .f32⟩
  | 14 => ⟨S45056x1024, .f32⟩
  | 15 => ⟨S45056x1x2x1, .f32⟩
  | 16 => ⟨S45056x2, .f32⟩
  | 17 => ⟨S45056x1x2x1, .f32⟩
  | 18 => ⟨S45056x2, .f32⟩
  | 19 => ⟨S45056x2, .f32⟩
  | 20 => ⟨S45056x1x2x1, .f32⟩
  | 21 => ⟨S45056x2, .f32⟩
  | 22 => ⟨S45056x2, .f32⟩
  | 23 => ⟨S_, .i32⟩
  | 24 => ⟨S24, .i32⟩
  | 25 => ⟨S24, .i32⟩
  | 26 => ⟨S_, .i32⟩
  | 27 => ⟨S_, .i32⟩
  | 28 => ⟨S24, .i32⟩
  | 29 => ⟨S24, .i32⟩
  | 30 => ⟨S24, .i32⟩
  | 31 => ⟨S_, .i32⟩
  | 32 => ⟨S24, .i32⟩
  | 33 => ⟨S24, .i1⟩
  | 34 => ⟨S24, .i32⟩
  | 35 => ⟨S24, .i32⟩
  | 36 => ⟨S_, .i32⟩
  | 37 => ⟨S24, .i32⟩
  | 38 => ⟨S24, .i1⟩
  | 39 => ⟨S24, .i1⟩
  | 40 => ⟨S_, .i32⟩
  | 41 => ⟨S24, .i32⟩
  | 42 => ⟨S24, .i32⟩
  | 43 => ⟨S24, .i32⟩
  | 44 => ⟨S_, .i32⟩
  | 45 => ⟨S_, .i32⟩
  | 46 => ⟨S24, .i32⟩
  | 47 => ⟨S_, .i32⟩
  | 48 => ⟨S24, .i32⟩
  | 49 => ⟨S24, .i32⟩
  | 50 => ⟨S45056, .i32⟩
  | 51 => ⟨S45056x1, .i32⟩
  | 52 => ⟨S1x24, .i32⟩
  | 53 => ⟨S45056x24, .i32⟩
  | 54 => ⟨S45056x24, .i32⟩
  | 55 => ⟨S45056x24, .i1⟩
  | 56 => ⟨S45056x24, .i32⟩
  | 57 => ⟨S_, .i32⟩
  | 58 => ⟨S45056, .i32⟩
  | 59 => ⟨S_, .i32⟩
  | 60 => ⟨S45056, .i32⟩
  | 61 => ⟨S45056, .i32⟩
  | 62 => ⟨S_, .i32⟩
  | 63 => ⟨S45056, .i32⟩
  | 64 => ⟨S45056, .i1⟩
  | 65 => ⟨S_, .i32⟩
  | 66 => ⟨S45056, .i32⟩
  | 67 => ⟨S45056, .i32⟩
  | 68 => ⟨S45056, .i32⟩
  | 69 => ⟨S45056x1, .i32⟩
  | 70 => ⟨S45056x2, .i32⟩
  | 71 => ⟨S1, .i32⟩
  | 72 => ⟨S_, .i32⟩
  | 73 => ⟨S45056x1, .i32⟩
  | 74 => ⟨S45056x1, .i1⟩
  | 75 => ⟨S_, .f32⟩
  | 76 => ⟨S_, .f32⟩
  | 77 => ⟨S45056x2, .i1⟩
  | 78 => ⟨S45056x2, .f32⟩
  | 79 => ⟨S45056x2, .f32⟩
  | 80 => ⟨S45056x2x1, .i32⟩
  | 81 => ⟨S1x1x16, .i32⟩
  | 82 => ⟨S45056x2x16, .i32⟩
  | 83 => ⟨S45056x2x16, .i32⟩
  | 84 => ⟨S45056x2x16, .i1⟩
  | 85 => ⟨S45056x2x16, .f32⟩
  | 86 => ⟨S45056x2x1, .f32⟩
  | 87 => ⟨S45056x2x16, .f32⟩
  | 88 => ⟨S45056x2x16, .f32⟩
  | 89 => ⟨S_, .f32⟩
  | 90 => ⟨S45056x16, .f32⟩
  | 91 => ⟨S_, .f32⟩
  | 92 => ⟨S45056x1024, .f32⟩
  | 93 => ⟨S1x1024x1024, .f32⟩
  | 94 => ⟨S1024x1024, .f32⟩
  | 95 => ⟨S45056x1024, .f32⟩
  | 96 => ⟨S45056x512, .f32⟩
  | 97 => ⟨S45056x512, .f32⟩
  | 98 => ⟨S45056x512, .f32⟩
  | 99 => ⟨S_, .f32⟩
  | 100 => ⟨S45056x512, .f32⟩
  | 101 => ⟨S45056x512, .f32⟩
  | 102 => ⟨S_, .f32⟩
  | 103 => ⟨S45056x512, .f32⟩
  | 104 => ⟨S45056x512, .f32⟩
  | 105 => ⟨S45056x512, .f32⟩
  | 106 => ⟨S45056x512, .f32⟩
  | 107 => ⟨S45056x512, .f32⟩
  | 108 => ⟨S45056x1, .f32⟩
  | 109 => ⟨S1x512x1024, .f32⟩
  | 110 => ⟨S512x1024, .f32⟩
  | 111 => ⟨S45056x1024, .f32⟩
  | 112 => ⟨S45056x1024, .f32⟩
  | 113 => ⟨S45056x1024, .f32⟩
  | 114 => ⟨S45056x1024, .f32⟩
  | 115 => ⟨S1x1024x1024, .f32⟩
  | 116 => ⟨S1024x1024, .f32⟩
  | 117 => ⟨S45056x1024, .f32⟩
  | 118 => ⟨S45056x512, .f32⟩
  | 119 => ⟨S45056x512, .f32⟩
  | 120 => ⟨S45056x512, .f32⟩
  | 121 => ⟨S_, .f32⟩
  | 122 => ⟨S45056x512, .f32⟩
  | 123 => ⟨S45056x512, .f32⟩
  | 124 => ⟨S_, .f32⟩
  | 125 => ⟨S45056x512, .f32⟩
  | 126 => ⟨S45056x512, .f32⟩
  | 127 => ⟨S45056x512, .f32⟩
  | _ => ⟨S360448x128, .i32⟩

abbrev hbmTy0_1 (i : Nat) : BufTy := match i % 128 with
  | 0 => ⟨S45056x512, .f32⟩
  | 1 => ⟨S45056x512, .f32⟩
  | 2 => ⟨S45056x1, .f32⟩
  | 3 => ⟨S1x512x1024, .f32⟩
  | 4 => ⟨S512x1024, .f32⟩
  | 5 => ⟨S45056x1024, .f32⟩
  | 6 => ⟨S45056x1024, .f32⟩
  | 7 => ⟨S45056x1024, .f32⟩
  | 8 => ⟨S45056x1024, .f32⟩
  | 9 => ⟨S1x1024x1024, .f32⟩
  | 10 => ⟨S1024x1024, .f32⟩
  | 11 => ⟨S45056x1024, .f32⟩
  | 12 => ⟨S45056x512, .f32⟩
  | 13 => ⟨S45056x512, .f32⟩
  | 14 => ⟨S45056x512, .f32⟩
  | 15 => ⟨S_, .f32⟩
  | 16 => ⟨S45056x512, .f32⟩
  | 17 => ⟨S45056x512, .f32⟩
  | 18 => ⟨S_, .f32⟩
  | 19 => ⟨S45056x512, .f32⟩
  | 20 => ⟨S45056x512, .f32⟩
  | 21 => ⟨S45056x512, .f32⟩
  | 22 => ⟨S45056x512, .f32⟩
  | 23 => ⟨S45056x512, .f32⟩
  | 24 => ⟨S45056x1, .f32⟩
  | 25 => ⟨S1x512x1024, .f32⟩
  | 26 => ⟨S512x1024, .f32⟩
  | 27 => ⟨S45056x1024, .f32⟩
  | 28 => ⟨S45056x1024, .f32⟩
  | 29 => ⟨S45056x1024, .f32⟩
  | 30 => ⟨S45056x1024, .f32⟩
  | 31 => ⟨S1x1024x1024, .f32⟩
  | 32 => ⟨S1024x1024, .f32⟩
  | 33 => ⟨S45056x1024, .f32⟩
  | 34 => ⟨S45056x512, .f32⟩
  | 35 => ⟨S45056x512, .f32⟩
  | 36 => ⟨S45056x512, .f32⟩
  | 37 => ⟨S_, .f32⟩
  | 38 => ⟨S45056x512, .f32⟩
  | 39 => ⟨S45056x512, .f32⟩
  | 40 => ⟨S_, .f32⟩
  | 41 => ⟨S45056x512, .f32⟩
  | 42 => ⟨S45056x512, .f32⟩
  | 43 => ⟨S45056x512, .f32⟩
  | 44 => ⟨S45056x512, .f32⟩
  | 45 => ⟨S45056x512, .f32⟩
  | 46 => ⟨S45056x1, .f32⟩
  | 47 => ⟨S1x512x1024, .f32⟩
  | 48 => ⟨S512x1024, .f32⟩
  | 49 => ⟨S45056x1024, .f32⟩
  | 50 => ⟨S45056x1024, .f32⟩
  | 51 => ⟨S45056x1024, .f32⟩
  | 52 => ⟨S45056x1024, .f32⟩
  | 53 => ⟨S1x1024x1024, .f32⟩
  | 54 => ⟨S1024x1024, .f32⟩
  | 55 => ⟨S45056x1024, .f32⟩
  | 56 => ⟨S45056x512, .f32⟩
  | 57 => ⟨S45056x512, .f32⟩
  | 58 => ⟨S45056x512, .f32⟩
  | 59 => ⟨S_, .f32⟩
  | 60 => ⟨S45056x512, .f32⟩
  | 61 => ⟨S45056x512, .f32⟩
  | 62 => ⟨S_, .f32⟩
  | 63 => ⟨S45056x512, .f32⟩
  | 64 => ⟨S45056x512, .f32⟩
  | 65 => ⟨S45056x512, .f32⟩
  | 66 => ⟨S45056x512, .f32⟩
  | 67 => ⟨S45056x512, .f32⟩
  | 68 => ⟨S45056x1, .f32⟩
  | 69 => ⟨S1x512x1024, .f32⟩
  | 70 => ⟨S512x1024, .f32⟩
  | 71 => ⟨S45056x1024, .f32⟩
  | 72 => ⟨S45056x1024, .f32⟩
  | 73 => ⟨S45056x1024, .f32⟩
  | 74 => ⟨S45056x1024, .f32⟩
  | 75 => ⟨S1x1024x1024, .f32⟩
  | 76 => ⟨S1024x1024, .f32⟩
  | 77 => ⟨S45056x1024, .f32⟩
  | 78 => ⟨S45056x512, .f32⟩
  | 79 => ⟨S45056x512, .f32⟩
  | 80 => ⟨S45056x512, .f32⟩
  | 81 => ⟨S_, .f32⟩
  | 82 => ⟨S45056x512, .f32⟩
  | 83 => ⟨S45056x512, .f32⟩
  | 84 => ⟨S_, .f32⟩
  | 85 => ⟨S45056x512, .f32⟩
  | 86 => ⟨S45056x512, .f32⟩
  | 87 => ⟨S45056x512, .f32⟩
  | 88 => ⟨S45056x512, .f32⟩
  | 89 => ⟨S45056x512, .f32⟩
  | 90 => ⟨S45056x1, .f32⟩
  | 91 => ⟨S1x512x1024, .f32⟩
  | 92 => ⟨S512x1024, .f32⟩
  | 93 => ⟨S45056x1024, .f32⟩
  | 94 => ⟨S45056x1024, .f32⟩
  | 95 => ⟨S45056x1024, .f32⟩
  | 96 => ⟨S45056x1024, .f32⟩
  | 97 => ⟨S1x1024x1024, .f32⟩
  | 98 => ⟨S1024x1024, .f32⟩
  | 99 => ⟨S45056x1024, .f32⟩
  | 100 => ⟨S45056x512, .f32⟩
  | 101 => ⟨S45056x512, .f32⟩
  | 102 => ⟨S45056x512, .f32⟩
  | 103 => ⟨S_, .f32⟩
  | 104 => ⟨S45056x512, .f32⟩
  | 105 => ⟨S45056x512, .f32⟩
  | 106 => ⟨S_, .f32⟩
  | 107 => ⟨S45056x512, .f32⟩
  | 108 => ⟨S45056x512, .f32⟩
  | 109 => ⟨S45056x512, .f32⟩
  | 110 => ⟨S45056x512, .f32⟩
  | 111 => ⟨S45056x512, .f32⟩
  | 112 => ⟨S45056x1, .f32⟩
  | 113 => ⟨S1x512x1024, .f32⟩
  | 114 => ⟨S512x1024, .f32⟩
  | 115 => ⟨S45056x1024, .f32⟩
  | 116 => ⟨S45056x1024, .f32⟩
  | 117 => ⟨S45056x1024, .f32⟩
  | 118 => ⟨S45056x1024, .f32⟩
  | 119 => ⟨S1x1024x1024, .f32⟩
  | 120 => ⟨S1024x1024, .f32⟩
  | 121 => ⟨S45056x1024, .f32⟩
  | 122 => ⟨S45056x512, .f32⟩
  | 123 => ⟨S45056x512, .f32⟩
  | 124 => ⟨S45056x512, .f32⟩
  | 125 => ⟨S_, .f32⟩
  | 126 => ⟨S45056x512, .f32⟩
  | 127 => ⟨S45056x512, .f32⟩
  | _ => ⟨S360448x128, .i32⟩

abbrev hbmTy0_2 (i : Nat) : BufTy := match i % 128 with
  | 0 => ⟨S_, .f32⟩
  | 1 => ⟨S45056x512, .f32⟩
  | 2 => ⟨S45056x512, .f32⟩
  | 3 => ⟨S45056x512, .f32⟩
  | 4 => ⟨S45056x512, .f32⟩
  | 5 => ⟨S45056x512, .f32⟩
  | 6 => ⟨S45056x1, .f32⟩
  | 7 => ⟨S1x512x1024, .f32⟩
  | 8 => ⟨S512x1024, .f32⟩
  | 9 => ⟨S45056x1024, .f32⟩
  | 10 => ⟨S45056x1024, .f32⟩
  | 11 => ⟨S45056x1024, .f32⟩
  | 12 => ⟨S45056x1024, .f32⟩
  | 13 => ⟨S1x1024x1024, .f32⟩
  | 14 => ⟨S1024x1024, .f32⟩
  | 15 => ⟨S45056x1024, .f32⟩
  | 16 => ⟨S45056x512, .f32⟩
  | 17 => ⟨S45056x512, .f32⟩
  | 18 => ⟨S45056x512, .f32⟩
  | 19 => ⟨S_, .f32⟩
  | 20 => ⟨S45056x512, .f32⟩
  | 21 => ⟨S45056x512, .f32⟩
  | 22 => ⟨S_, .f32⟩
  | 23 => ⟨S45056x512, .f32⟩
  | 24 => ⟨S45056x512, .f32⟩
  | 25 => ⟨S45056x512, .f32⟩
  | 26 => ⟨S45056x512, .f32⟩
  | 27 => ⟨S45056x512, .f32⟩
  | 28 => ⟨S45056x1, .f32⟩
  | 29 => ⟨S1x512x1024, .f32⟩
  | 30 => ⟨S512x1024, .f32⟩
  | 31 => ⟨S45056x1024, .f32⟩
  | 32 => ⟨S45056x1024, .f32⟩
  | 33 => ⟨S45056x1024, .f32⟩
  | 34 => ⟨S45056x1024, .f32⟩
  | 35 => ⟨S1x1024x1024, .f32⟩
  | 36 => ⟨S1024x1024, .f32⟩
  | 37 => ⟨S45056x1024, .f32⟩
  | 38 => ⟨S45056x512, .f32⟩
  | 39 => ⟨S45056x512, .f32⟩
  | 40 => ⟨S45056x512, .f32⟩
  | 41 => ⟨S_, .f32⟩
  | 42 => ⟨S45056x512, .f32⟩
  | 43 => ⟨S45056x512, .f32⟩
  | 44 => ⟨S_, .f32⟩
  | 45 => ⟨S45056x512, .f32⟩
  | 46 => ⟨S45056x512, .f32⟩
  | 47 => ⟨S45056x512, .f32⟩
  | 48 => ⟨S45056x512, .f32⟩
  | 49 => ⟨S45056x512, .f32⟩
  | 50 => ⟨S45056x1, .f32⟩
  | 51 => ⟨S1x512x1024, .f32⟩
  | 52 => ⟨S512x1024, .f32⟩
  | 53 => ⟨S45056x1024, .f32⟩
  | 54 => ⟨S45056x1024, .f32⟩
  | 55 => ⟨S45056x1024, .f32⟩
  | 56 => ⟨S45056x1024, .f32⟩
  | 57 => ⟨S1x1024x1024, .f32⟩
  | 58 => ⟨S1024x1024, .f32⟩
  | 59 => ⟨S45056x1024, .f32⟩
  | 60 => ⟨S45056x512, .f32⟩
  | 61 => ⟨S45056x512, .f32⟩
  | 62 => ⟨S45056x512, .f32⟩
  | 63 => ⟨S_, .f32⟩
  | 64 => ⟨S45056x512, .f32⟩
  | 65 => ⟨S45056x512, .f32⟩
  | 66 => ⟨S_, .f32⟩
  | 67 => ⟨S45056x512, .f32⟩
  | 68 => ⟨S45056x512, .f32⟩
  | 69 => ⟨S45056x512, .f32⟩
  | 70 => ⟨S45056x512, .f32⟩
  | 71 => ⟨S45056x512, .f32⟩
  | 72 => ⟨S45056x1, .f32⟩
  | 73 => ⟨S1x512x1024, .f32⟩
  | 74 => ⟨S512x1024, .f32⟩
  | 75 => ⟨S45056x1024, .f32⟩
  | 76 => ⟨S45056x1024, .f32⟩
  | 77 => ⟨S45056x1024, .f32⟩
  | 78 => ⟨S45056x1024, .f32⟩
  | 79 => ⟨S1x1024x1024, .f32⟩
  | 80 => ⟨S1024x1024, .f32⟩
  | 81 => ⟨S45056x1024, .f32⟩
  | 82 => ⟨S45056x512, .f32⟩
  | 83 => ⟨S45056x512, .f32⟩
  | 84 => ⟨S45056x512, .f32⟩
  | 85 => ⟨S_, .f32⟩
  | 86 => ⟨S45056x512, .f32⟩
  | 87 => ⟨S45056x512, .f32⟩
  | 88 => ⟨S_, .f32⟩
  | 89 => ⟨S45056x512, .f32⟩
  | 90 => ⟨S45056x512, .f32⟩
  | 91 => ⟨S45056x512, .f32⟩
  | 92 => ⟨S45056x512, .f32⟩
  | 93 => ⟨S45056x512, .f32⟩
  | 94 => ⟨S45056x1, .f32⟩
  | 95 => ⟨S1x512x1024, .f32⟩
  | 96 => ⟨S512x1024, .f32⟩
  | 97 => ⟨S45056x1024, .f32⟩
  | 98 => ⟨S45056x1024, .f32⟩
  | 99 => ⟨S45056x1024, .f32⟩
  | 100 => ⟨S45056x1024, .f32⟩
  | 101 => ⟨S1x1024x1024, .f32⟩
  | 102 => ⟨S1024x1024, .f32⟩
  | 103 => ⟨S45056x1024, .f32⟩
  | 104 => ⟨S45056x512, .f32⟩
  | 105 => ⟨S45056x512, .f32⟩
  | 106 => ⟨S45056x512, .f32⟩
  | 107 => ⟨S_, .f32⟩
  | 108 => ⟨S45056x512, .f32⟩
  | 109 => ⟨S45056x512, .f32⟩
  | 110 => ⟨S_, .f32⟩
  | 111 => ⟨S45056x512, .f32⟩
  | 112 => ⟨S45056x512, .f32⟩
  | 113 => ⟨S45056x512, .f32⟩
  | 114 => ⟨S45056x512, .f32⟩
  | 115 => ⟨S45056x512, .f32⟩
  | 116 => ⟨S45056x1, .f32⟩
  | 117 => ⟨S1x512x1024, .f32⟩
  | 118 => ⟨S512x1024, .f32⟩
  | 119 => ⟨S45056x1024, .f32⟩
  | 120 => ⟨S45056x1024, .f32⟩
  | 121 => ⟨S45056x1024, .f32⟩
  | 122 => ⟨S45056x1024, .f32⟩
  | 123 => ⟨S1x1024x1024, .f32⟩
  | 124 => ⟨S1024x1024, .f32⟩
  | 125 => ⟨S45056x1024, .f32⟩
  | 126 => ⟨S45056x512, .f32⟩
  | 127 => ⟨S45056x512, .f32⟩
  | _ => ⟨S360448x128, .i32⟩

abbrev hbmTy0_3 (i : Nat) : BufTy := match i % 128 with
  | 0 => ⟨S45056x512, .f32⟩
  | 1 => ⟨S_, .f32⟩
  | 2 => ⟨S45056x512, .f32⟩
  | 3 => ⟨S45056x512, .f32⟩
  | 4 => ⟨S_, .f32⟩
  | 5 => ⟨S45056x512, .f32⟩
  | 6 => ⟨S45056x512, .f32⟩
  | 7 => ⟨S45056x512, .f32⟩
  | 8 => ⟨S45056x512, .f32⟩
  | 9 => ⟨S45056x512, .f32⟩
  | 10 => ⟨S45056x1, .f32⟩
  | 11 => ⟨S1x512x1024, .f32⟩
  | 12 => ⟨S512x1024, .f32⟩
  | 13 => ⟨S45056x1024, .f32⟩
  | 14 => ⟨S45056x1024, .f32⟩
  | 15 => ⟨S45056x1024, .f32⟩
  | 16 => ⟨S45056x1024, .f32⟩
  | 17 => ⟨S1x1024x1024, .f32⟩
  | 18 => ⟨S1024x1024, .f32⟩
  | 19 => ⟨S45056x1024, .f32⟩
  | 20 => ⟨S45056x512, .f32⟩
  | 21 => ⟨S45056x512, .f32⟩
  | 22 => ⟨S45056x512, .f32⟩
  | 23 => ⟨S_, .f32⟩
  | 24 => ⟨S45056x512, .f32⟩
  | 25 => ⟨S45056x512, .f32⟩
  | 26 => ⟨S_, .f32⟩
  | 27 => ⟨S45056x512, .f32⟩
  | 28 => ⟨S45056x512, .f32⟩
  | 29 => ⟨S45056x512, .f32⟩
  | 30 => ⟨S45056x512, .f32⟩
  | 31 => ⟨S45056x512, .f32⟩
  | 32 => ⟨S45056x1, .f32⟩
  | 33 => ⟨S1x512x1024, .f32⟩
  | 34 => ⟨S512x1024, .f32⟩
  | 35 => ⟨S45056x1024, .f32⟩
  | 36 => ⟨S45056x1024, .f32⟩
  | 37 => ⟨S45056x1024, .f32⟩
  | 38 => ⟨S45056x1024, .f32⟩
  | 39 => ⟨S1x1024x1024, .f32⟩
  | 40 => ⟨S1024x1024, .f32⟩
  | 41 => ⟨S45056x1024, .f32⟩
  | 42 => ⟨S45056x512, .f32⟩
  | 43 => ⟨S45056x512, .f32⟩
  | 44 => ⟨S45056x512, .f32⟩
  | 45 => ⟨S_, .f32⟩
  | 46 => ⟨S45056x512, .f32⟩
  | 47 => ⟨S45056x512, .f32⟩
  | 48 => ⟨S_, .f32⟩
  | 49 => ⟨S45056x512, .f32⟩
  | 50 => ⟨S45056x512, .f32⟩
  | 51 => ⟨S45056x512, .f32⟩
  | 52 => ⟨S45056x512, .f32⟩
  | 53 => ⟨S45056x512, .f32⟩
  | 54 => ⟨S45056x1, .f32⟩
  | 55 => ⟨S1x512x1024, .f32⟩
  | 56 => ⟨S512x1024, .f32⟩
  | 57 => ⟨S45056x1024, .f32⟩
  | 58 => ⟨S45056x1024, .f32⟩
  | 59 => ⟨S45056x1024, .f32⟩
  | 60 => ⟨S45056x1024, .f32⟩
  | 61 => ⟨S360448x128, .f32⟩
  | _ => ⟨S360448x128, .i32⟩

abbrev hbmTy (i : Nat) : BufTy := match i / 128 with
  | 0 => hbmTy0_0 i
  | 1 => hbmTy0_1 i
  | 2 => hbmTy0_2 i
  | 3 => hbmTy0_3 i
  | _ => ⟨S360448x128, .i32⟩

abbrev bufTy : (tb : Table) → Fin (tcTables nBuf tb) → BufTy
  | .hbm, ⟨i, _⟩ => hbmTy i
  | _, _ => ⟨S360448x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v20 : Ref sig .tc := ⟨.hbm, 43, rfl⟩
abbrev main_call1_call0_c : Ref sig .tc := ⟨.hbm, 44, rfl⟩
abbrev main_call1_call0_v0 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_3 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v45 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_7 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_call4_v5 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_call5_v0 : Ref sig .tc := ⟨.hbm, 119, rfl⟩
abbrev main_call5_v1 : Ref sig .tc := ⟨.hbm, 120, rfl⟩
abbrev main_call5_cst : Ref sig .tc := ⟨.hbm, 121, rfl⟩
abbrev main_call5_v2 : Ref sig .tc := ⟨.hbm, 122, rfl⟩
abbrev main_call5_v3 : Ref sig .tc := ⟨.hbm, 123, rfl⟩
abbrev main_call5_cst_0 : Ref sig .tc := ⟨.hbm, 124, rfl⟩
abbrev main_call5_v4 : Ref sig .tc := ⟨.hbm, 125, rfl⟩
abbrev main_call5_v5 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_call6_v0 : Ref sig .tc := ⟨.hbm, 141, rfl⟩
abbrev main_call6_v1 : Ref sig .tc := ⟨.hbm, 142, rfl⟩
abbrev main_call6_cst : Ref sig .tc := ⟨.hbm, 143, rfl⟩
abbrev main_call6_v2 : Ref sig .tc := ⟨.hbm, 144, rfl⟩
abbrev main_call6_v3 : Ref sig .tc := ⟨.hbm, 145, rfl⟩
abbrev main_call6_cst_0 : Ref sig .tc := ⟨.hbm, 146, rfl⟩
abbrev main_call6_v4 : Ref sig .tc := ⟨.hbm, 147, rfl⟩
abbrev main_call6_v5 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_call7_v0 : Ref sig .tc := ⟨.hbm, 163, rfl⟩
abbrev main_call7_v1 : Ref sig .tc := ⟨.hbm, 164, rfl⟩
abbrev main_call7_cst : Ref sig .tc := ⟨.hbm, 165, rfl⟩
abbrev main_call7_v2 : Ref sig .tc := ⟨.hbm, 166, rfl⟩
abbrev main_call7_v3 : Ref sig .tc := ⟨.hbm, 167, rfl⟩
abbrev main_call7_cst_0 : Ref sig .tc := ⟨.hbm, 168, rfl⟩
abbrev main_call7_v4 : Ref sig .tc := ⟨.hbm, 169, rfl⟩
abbrev main_call7_v5 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_call8_v0 : Ref sig .tc := ⟨.hbm, 185, rfl⟩
abbrev main_call8_v1 : Ref sig .tc := ⟨.hbm, 186, rfl⟩
abbrev main_call8_cst : Ref sig .tc := ⟨.hbm, 187, rfl⟩
abbrev main_call8_v2 : Ref sig .tc := ⟨.hbm, 188, rfl⟩
abbrev main_call8_v3 : Ref sig .tc := ⟨.hbm, 189, rfl⟩
abbrev main_call8_cst_0 : Ref sig .tc := ⟨.hbm, 190, rfl⟩
abbrev main_call8_v4 : Ref sig .tc := ⟨.hbm, 191, rfl⟩
abbrev main_call8_v5 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_call9_v0 : Ref sig .tc := ⟨.hbm, 207, rfl⟩
abbrev main_call9_v1 : Ref sig .tc := ⟨.hbm, 208, rfl⟩
abbrev main_call9_cst : Ref sig .tc := ⟨.hbm, 209, rfl⟩
abbrev main_call9_v2 : Ref sig .tc := ⟨.hbm, 210, rfl⟩
abbrev main_call9_v3 : Ref sig .tc := ⟨.hbm, 211, rfl⟩
abbrev main_call9_cst_0 : Ref sig .tc := ⟨.hbm, 212, rfl⟩
abbrev main_call9_v4 : Ref sig .tc := ⟨.hbm, 213, rfl⟩
abbrev main_call9_v5 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_call10_v0 : Ref sig .tc := ⟨.hbm, 229, rfl⟩
abbrev main_call10_v1 : Ref sig .tc := ⟨.hbm, 230, rfl⟩
abbrev main_call10_cst : Ref sig .tc := ⟨.hbm, 231, rfl⟩
abbrev main_call10_v2 : Ref sig .tc := ⟨.hbm, 232, rfl⟩
abbrev main_call10_v3 : Ref sig .tc := ⟨.hbm, 233, rfl⟩
abbrev main_call10_cst_0 : Ref sig .tc := ⟨.hbm, 234, rfl⟩
abbrev main_call10_v4 : Ref sig .tc := ⟨.hbm, 235, rfl⟩
abbrev main_call10_v5 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_call11_v0 : Ref sig .tc := ⟨.hbm, 251, rfl⟩
abbrev main_call11_v1 : Ref sig .tc := ⟨.hbm, 252, rfl⟩
abbrev main_call11_cst : Ref sig .tc := ⟨.hbm, 253, rfl⟩
abbrev main_call11_v2 : Ref sig .tc := ⟨.hbm, 254, rfl⟩
abbrev main_call11_v3 : Ref sig .tc := ⟨.hbm, 255, rfl⟩
abbrev main_call11_cst_0 : Ref sig .tc := ⟨.hbm, 256, rfl⟩
abbrev main_call11_v4 : Ref sig .tc := ⟨.hbm, 257, rfl⟩
abbrev main_call11_v5 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_call12_v0 : Ref sig .tc := ⟨.hbm, 273, rfl⟩
abbrev main_call12_v1 : Ref sig .tc := ⟨.hbm, 274, rfl⟩
abbrev main_call12_cst : Ref sig .tc := ⟨.hbm, 275, rfl⟩
abbrev main_call12_v2 : Ref sig .tc := ⟨.hbm, 276, rfl⟩
abbrev main_call12_v3 : Ref sig .tc := ⟨.hbm, 277, rfl⟩
abbrev main_call12_cst_0 : Ref sig .tc := ⟨.hbm, 278, rfl⟩
abbrev main_call12_v4 : Ref sig .tc := ⟨.hbm, 279, rfl⟩
abbrev main_call12_v5 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_call13_v0 : Ref sig .tc := ⟨.hbm, 295, rfl⟩
abbrev main_call13_v1 : Ref sig .tc := ⟨.hbm, 296, rfl⟩
abbrev main_call13_cst : Ref sig .tc := ⟨.hbm, 297, rfl⟩
abbrev main_call13_v2 : Ref sig .tc := ⟨.hbm, 298, rfl⟩
abbrev main_call13_v3 : Ref sig .tc := ⟨.hbm, 299, rfl⟩
abbrev main_call13_cst_0 : Ref sig .tc := ⟨.hbm, 300, rfl⟩
abbrev main_call13_v4 : Ref sig .tc := ⟨.hbm, 301, rfl⟩
abbrev main_call13_v5 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_call14_v0 : Ref sig .tc := ⟨.hbm, 317, rfl⟩
abbrev main_call14_v1 : Ref sig .tc := ⟨.hbm, 318, rfl⟩
abbrev main_call14_cst : Ref sig .tc := ⟨.hbm, 319, rfl⟩
abbrev main_call14_v2 : Ref sig .tc := ⟨.hbm, 320, rfl⟩
abbrev main_call14_v3 : Ref sig .tc := ⟨.hbm, 321, rfl⟩
abbrev main_call14_cst_0 : Ref sig .tc := ⟨.hbm, 322, rfl⟩
abbrev main_call14_v4 : Ref sig .tc := ⟨.hbm, 323, rfl⟩
abbrev main_call14_v5 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev main_v206 : Ref sig .tc := ⟨.hbm, 335, rfl⟩
abbrev main_v207 : Ref sig .tc := ⟨.hbm, 336, rfl⟩
abbrev main_v208 : Ref sig .tc := ⟨.hbm, 337, rfl⟩
abbrev main_v209 : Ref sig .tc := ⟨.hbm, 338, rfl⟩
abbrev main_call15_v0 : Ref sig .tc := ⟨.hbm, 339, rfl⟩
abbrev main_call15_v1 : Ref sig .tc := ⟨.hbm, 340, rfl⟩
abbrev main_call15_cst : Ref sig .tc := ⟨.hbm, 341, rfl⟩
abbrev main_call15_v2 : Ref sig .tc := ⟨.hbm, 342, rfl⟩
abbrev main_call15_v3 : Ref sig .tc := ⟨.hbm, 343, rfl⟩
abbrev main_call15_cst_0 : Ref sig .tc := ⟨.hbm, 344, rfl⟩
abbrev main_call15_v4 : Ref sig .tc := ⟨.hbm, 345, rfl⟩
abbrev main_call15_v5 : Ref sig .tc := ⟨.hbm, 346, rfl⟩
abbrev main_v210 : Ref sig .tc := ⟨.hbm, 347, rfl⟩
abbrev main_v211 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_call16_v0 : Ref sig .tc := ⟨.hbm, 361, rfl⟩
abbrev main_call16_v1 : Ref sig .tc := ⟨.hbm, 362, rfl⟩
abbrev main_call16_cst : Ref sig .tc := ⟨.hbm, 363, rfl⟩
abbrev main_call16_v2 : Ref sig .tc := ⟨.hbm, 364, rfl⟩
abbrev main_call16_v3 : Ref sig .tc := ⟨.hbm, 365, rfl⟩
abbrev main_call16_cst_0 : Ref sig .tc := ⟨.hbm, 366, rfl⟩
abbrev main_call16_v4 : Ref sig .tc := ⟨.hbm, 367, rfl⟩
abbrev main_call16_v5 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_v227 : Ref sig .tc := ⟨.hbm, 372, rfl⟩
abbrev main_v228 : Ref sig .tc := ⟨.hbm, 373, rfl⟩
abbrev main_v229 : Ref sig .tc := ⟨.hbm, 374, rfl⟩
abbrev main_v230 : Ref sig .tc := ⟨.hbm, 375, rfl⟩
abbrev main_v231 : Ref sig .tc := ⟨.hbm, 376, rfl⟩
abbrev main_v232 : Ref sig .tc := ⟨.hbm, 377, rfl⟩
abbrev main_v233 : Ref sig .tc := ⟨.hbm, 378, rfl⟩
abbrev main_v234 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_call17_v0 : Ref sig .tc := ⟨.hbm, 383, rfl⟩
abbrev main_call17_v1 : Ref sig .tc := ⟨.hbm, 384, rfl⟩
abbrev main_call17_cst : Ref sig .tc := ⟨.hbm, 385, rfl⟩
abbrev main_call17_v2 : Ref sig .tc := ⟨.hbm, 386, rfl⟩
abbrev main_call17_v3 : Ref sig .tc := ⟨.hbm, 387, rfl⟩
abbrev main_call17_cst_0 : Ref sig .tc := ⟨.hbm, 388, rfl⟩
abbrev main_call17_v4 : Ref sig .tc := ⟨.hbm, 389, rfl⟩
abbrev main_call17_v5 : Ref sig .tc := ⟨.hbm, 390, rfl⟩
abbrev main_v238 : Ref sig .tc := ⟨.hbm, 391, rfl⟩
abbrev main_v239 : Ref sig .tc := ⟨.hbm, 392, rfl⟩
abbrev main_v240 : Ref sig .tc := ⟨.hbm, 393, rfl⟩
abbrev main_v241 : Ref sig .tc := ⟨.hbm, 394, rfl⟩
abbrev main_v242 : Ref sig .tc := ⟨.hbm, 395, rfl⟩
abbrev main_v243 : Ref sig .tc := ⟨.hbm, 396, rfl⟩
abbrev main_v244 : Ref sig .tc := ⟨.hbm, 397, rfl⟩
abbrev main_v245 : Ref sig .tc := ⟨.hbm, 398, rfl⟩
abbrev main_v246 : Ref sig .tc := ⟨.hbm, 399, rfl⟩
abbrev main_v247 : Ref sig .tc := ⟨.hbm, 400, rfl⟩
abbrev main_v248 : Ref sig .tc := ⟨.hbm, 401, rfl⟩
abbrev main_v249 : Ref sig .tc := ⟨.hbm, 402, rfl⟩
abbrev main_v250 : Ref sig .tc := ⟨.hbm, 403, rfl⟩
abbrev main_v251 : Ref sig .tc := ⟨.hbm, 404, rfl⟩
abbrev main_call18_v0 : Ref sig .tc := ⟨.hbm, 405, rfl⟩
abbrev main_call18_v1 : Ref sig .tc := ⟨.hbm, 406, rfl⟩
abbrev main_call18_cst : Ref sig .tc := ⟨.hbm, 407, rfl⟩
abbrev main_call18_v2 : Ref sig .tc := ⟨.hbm, 408, rfl⟩
abbrev main_call18_v3 : Ref sig .tc := ⟨.hbm, 409, rfl⟩
abbrev main_call18_cst_0 : Ref sig .tc := ⟨.hbm, 410, rfl⟩
abbrev main_call18_v4 : Ref sig .tc := ⟨.hbm, 411, rfl⟩
abbrev main_call18_v5 : Ref sig .tc := ⟨.hbm, 412, rfl⟩
abbrev main_v252 : Ref sig .tc := ⟨.hbm, 413, rfl⟩
abbrev main_v253 : Ref sig .tc := ⟨.hbm, 414, rfl⟩
abbrev main_v254 : Ref sig .tc := ⟨.hbm, 415, rfl⟩
abbrev main_v255 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_v259 : Ref sig .tc := ⟨.hbm, 420, rfl⟩
abbrev main_v260 : Ref sig .tc := ⟨.hbm, 421, rfl⟩
abbrev main_v261 : Ref sig .tc := ⟨.hbm, 422, rfl⟩
abbrev main_v262 : Ref sig .tc := ⟨.hbm, 423, rfl⟩
abbrev main_v263 : Ref sig .tc := ⟨.hbm, 424, rfl⟩
abbrev main_v264 : Ref sig .tc := ⟨.hbm, 425, rfl⟩
abbrev main_v265 : Ref sig .tc := ⟨.hbm, 426, rfl⟩
abbrev main_call19_v0 : Ref sig .tc := ⟨.hbm, 427, rfl⟩
abbrev main_call19_v1 : Ref sig .tc := ⟨.hbm, 428, rfl⟩
abbrev main_call19_cst : Ref sig .tc := ⟨.hbm, 429, rfl⟩
abbrev main_call19_v2 : Ref sig .tc := ⟨.hbm, 430, rfl⟩
abbrev main_call19_v3 : Ref sig .tc := ⟨.hbm, 431, rfl⟩
abbrev main_call19_cst_0 : Ref sig .tc := ⟨.hbm, 432, rfl⟩
abbrev main_call19_v4 : Ref sig .tc := ⟨.hbm, 433, rfl⟩
abbrev main_call19_v5 : Ref sig .tc := ⟨.hbm, 434, rfl⟩
abbrev main_v266 : Ref sig .tc := ⟨.hbm, 435, rfl⟩
abbrev main_v267 : Ref sig .tc := ⟨.hbm, 436, rfl⟩
abbrev main_v268 : Ref sig .tc := ⟨.hbm, 437, rfl⟩
abbrev main_v269 : Ref sig .tc := ⟨.hbm, 438, rfl⟩
abbrev main_v270 : Ref sig .tc := ⟨.hbm, 439, rfl⟩
abbrev main_v271 : Ref sig .tc := ⟨.hbm, 440, rfl⟩
abbrev main_v272 : Ref sig .tc := ⟨.hbm, 441, rfl⟩
abbrev main_v273 : Ref sig .tc := ⟨.hbm, 442, rfl⟩
abbrev main_v274 : Ref sig .tc := ⟨.hbm, 443, rfl⟩
abbrev main_v275 : Ref sig .tc := ⟨.hbm, 444, rfl⟩
abbrev main_v276 : Ref sig .tc := ⟨.hbm, 445, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x256x1024 : Shape := ⟨3, ![16, 256, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S1024x4x4 : Shape := ⟨3, ![1024, 4, 4]⟩
abbrev S1024x16 : Shape := ⟨2, ![1024, 16]⟩
abbrev S1024x20 : Shape := ⟨2, ![1024, 20]⟩
abbrev S16 : Shape := ⟨1, ![16]⟩
abbrev S20 : Shape := ⟨1, ![20]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S128x128 : Shape := ⟨2, ![128, 128]⟩
abbrev S1x1024 : Shape := ⟨2, ![1, 1024]⟩
abbrev S32768x128 : Shape := ⟨2, ![32768, 128]⟩
abbrev S24x128 : Shape := ⟨2, ![24, 128]⟩
abbrev S1x1024x1024 : Shape := ⟨3, ![1, 1024, 1024]⟩
abbrev S1x256x1024 : Shape := ⟨3, ![1, 256, 1024]⟩
abbrev S128x1024 : Shape := ⟨2, ![128, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩
abbrev S24x1024 : Shape := ⟨2, ![24, 1024]⟩
abbrev S24x1 : Shape := ⟨2, ![24, 1]⟩
abbrev S24 : Shape := ⟨1, ![24]⟩
abbrev S4x1024 : Shape := ⟨2, ![4, 1024]⟩
abbrev S8x1024 : Shape := ⟨2, ![8, 1024]⟩

abbrev nBuf : Space → Nat
  | .hbm => 45
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .bf16⟩
  | .hbm, ⟨2, _⟩ => ⟨S16x256x1024, .bf16⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S4x1024x4, .f32⟩
  | .hbm, ⟨10, _⟩ => ⟨S4x4, .f32⟩
  | .hbm, ⟨11, _⟩ => ⟨S1024x4x4, .f32⟩
  | .hbm, ⟨12, _⟩ => ⟨S1024x16, .f32⟩
  | .hbm, ⟨13, _⟩ => ⟨S1024x20, .f32⟩
  | .hbm, ⟨14, _⟩ => ⟨S16, .f32⟩
  | .hbm, ⟨15, _⟩ => ⟨S20, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .bf16⟩
  | .hbm, ⟨25, _⟩ => ⟨S128x128, .bf16⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S_, .bf16⟩
  | .hbm, ⟨33, _⟩ => ⟨S128x128, .bf16⟩
  | .hbm, ⟨34, _⟩ => ⟨S128x128, .bf16⟩
  | .hbm, ⟨35, _⟩ => ⟨S1x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .bf16⟩
  | .hbm, ⟨40, _⟩ => ⟨S1024x1024, .bf16⟩
  | .hbm, ⟨41, _⟩ => ⟨S1x1024, .f32⟩
  | .hbm, ⟨42, _⟩ => ⟨S16x2048x1024, .f32⟩
  | .hbm, ⟨43, _⟩ => ⟨S32768x128, .f32⟩
  | .hbm, ⟨44, _⟩ => ⟨S24x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x128, .bf16⟩
  | .local _ .vmem, ⟨11, _⟩ => ⟨S1x128, .f32⟩
  | .local _ .vmem, ⟨12, _⟩ => ⟨S128x128, .bf16⟩
  | .local _ .vmem, ⟨13, _⟩ => ⟨S1x1024x1024, .f32⟩
  | .local _ .vmem, ⟨14, _⟩ => ⟨S1x1024x1024, .f32⟩
  | .local _ .vmem, ⟨15, _⟩ => ⟨S1024x128, .f32⟩
  | .local _ .vmem, ⟨16, _⟩ => ⟨S1024x128, .f32⟩
  | .local _ .vmem, ⟨17, _⟩ => ⟨S24x128, .f32⟩
  | .local _ .vmem, ⟨18, _⟩ => ⟨S24x128, .f32⟩
  | .local _ .vmem, ⟨19, _⟩ => ⟨S128x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_call2_v0 : Ref sig .tc := ⟨.hbm, 26, rfl⟩
abbrev main_call2_c : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_cst : Ref sig .tc := ⟨.hbm, 32, rfl⟩
abbrev main_call2_v5 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17_0 : Ref sig .tc := ⟨.hbm, 42, rfl⟩
abbrev main_v17_1 : Ref sig .tc := ⟨.hbm, 43, rfl⟩
abbrev main_v17_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S24x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference2Ideal.lean ====
abbrev S16x2048x1024 : Shape := ⟨3, ![16, 2048, 1024]⟩
abbrev S16x256x1024 : Shape := ⟨3, ![16, 256, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S16x2048x4 : Shape := ⟨3, ![16, 2048, 4]⟩
abbrev S1x1x4 : Shape := ⟨3, ![1, 1, 4]⟩
abbrev S16x2048x4x4 : Shape := ⟨4, ![16, 2048, 4, 4]⟩
abbrev S1x1x4x4 : Shape := ⟨4, ![1, 1, 4, 4]⟩
abbrev S4x1 : Shape := ⟨2, ![4, 1]⟩
abbrev S16x2048x1x1 : Shape := ⟨4, ![16, 2048, 1, 1]⟩
abbrev S1x1x4x1 : Shape := ⟨4, ![1, 1, 4, 1]⟩
abbrev S16x2048x4x1 : Shape := ⟨4, ![16, 2048, 4, 1]⟩
abbrev S24 : Shape := ⟨1, ![24]⟩
abbrev S24x1x1 : Shape := ⟨3, ![24, 1, 1]⟩
abbrev S1x16x2048 : Shape := ⟨3, ![1, 16, 2048]⟩
abbrev S24x16x2048 : Shape := ⟨3, ![24, 16, 2048]⟩
abbrev S24x1 : Shape := ⟨2, ![24, 1]⟩
abbrev S24x128 : Shape := ⟨2, ![24, 128]⟩

abbrev nBuf : Space → Nat
  | .hbm => 176
  | .vmem => 0
  | .smem => 0
  | _ => 0

abbrev hbmTy0_0 (i : Nat) : BufTy := match i % 128 with
  | 0 => ⟨S16x2048x1024, .f32⟩
  | 1 => ⟨S16x256x1024, .bf16⟩
  | 2 => ⟨S16x256x1024, .bf16⟩
  | 3 => ⟨S1024, .f32⟩
  | 4 => ⟨S1024x1024, .f32⟩
  | 5 => ⟨S1024x1024, .f32⟩
  | 6 => ⟨S1024, .f32⟩
  | 7 => ⟨S1024x4, .f32⟩
  | 8 => ⟨S4, .f32⟩
  | 9 => ⟨S4x1024x4, .f32⟩
  | 10 => ⟨S4x4, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S16x2048x1024, .f32⟩
  | 28 => ⟨S16x2048x4x256, .f32⟩
  | 29 => ⟨S16x256x1024, .f32⟩
  | 30 => ⟨S16x256x4x256, .f32⟩
  | 31 => ⟨S16x256x1024, .f32⟩
  | 32 => ⟨S16x256x4x256, .f32⟩
  | 33 => ⟨S16x4x2048x256, .f32⟩
  | 34 => ⟨S_, .f32⟩
  | 35 => ⟨S16x4x2048x256, .f32⟩
  | 36 => ⟨S16x4x2048x256, .f32⟩
  | 37 => ⟨S_, .f32⟩
  | 38 => ⟨S16x4x2048, .f32⟩
  | 39 => ⟨S_, .f32⟩
  | 40 => ⟨S16x4x2048, .f32⟩
  | 41 => ⟨S16x4x2048, .f32⟩
  | 42 => ⟨S16x4x2048x1, .f32⟩
  | 43 => ⟨S16x4x2048x256, .f32⟩
  | 44 => ⟨S16x4x2048x256, .f32⟩
  | 45 => ⟨S16x4x2048x256, .f32⟩
  | 46 => ⟨S_, .f32⟩
  | 47 => ⟨S16x4x2048, .f32⟩
  | 48 => ⟨S16x4x2048x1, .f32⟩
  | 49 => ⟨S16x4x2048x256, .f32⟩
  | 50 => ⟨S16x4x2048x256, .f32⟩
  | 51 => ⟨S16x4x256x2048, .f32⟩
  | 52 => ⟨S16x2048x4x256, .f32⟩
  | 53 => ⟨S16x2048x1024, .f32⟩
  | 54 => ⟨S16x2048x1024, .f32⟩
  | 55 => ⟨S16x2048x1024, .f32⟩
  | 56 => ⟨S16x2048x1024, .f32⟩
  | 57 => ⟨S_, .f32⟩
  | 58 => ⟨S16x2048, .f32⟩
  | 59 => ⟨S16x2048x1, .f32⟩
  | 60 => ⟨S_, .f32⟩
  | 61 => ⟨S16x2048x1, .f32⟩
  | 62 => ⟨S16x2048x1, .f32⟩
  | 63 => ⟨S_, .f32⟩
  | 64 => ⟨S16x2048x1, .f32⟩
  | 65 => ⟨S16x2048x1, .f32⟩
  | 66 => ⟨S16x2048x1, .f32⟩
  | 67 => ⟨S16x2048x1024, .f32⟩
  | 68 => ⟨S16x2048x1024, .f32⟩
  | 69 => ⟨S1x1x1024, .f32⟩
  | 70 => ⟨S16x2048x1024, .f32⟩
  | 71 => ⟨S16x2048x1024, .f32⟩
  | 72 => ⟨S16x2048x4, .f32⟩
  | 73 => ⟨S1x1x4, .f32⟩
  | 74 => ⟨S16x2048x4, .f32⟩
  | 75 => ⟨S16x2048x4, .f32⟩
  | 76 => ⟨S4, .f32⟩
  | 77 => ⟨S_, .f32⟩
  | 78 => ⟨S16x2048, .f32⟩
  | 79 => ⟨S16x2048x1, .f32⟩
  | 80 => ⟨S16x2048x4, .f32⟩
  | 81 => ⟨S16x2048x4, .i1⟩
  | 82 => ⟨S_, .f32⟩
  | 83 => ⟨S_, .f32⟩
  | 84 => ⟨S16x2048x4, .f32⟩
  | 85 => ⟨S16x2048x4, .f32⟩
  | 86 => ⟨S16x2048x4, .f32⟩
  | 87 => ⟨S_, .f32⟩
  | 88 => ⟨S16x2048, .f32⟩
  | 89 => ⟨S16x2048x4x4, .f32⟩
  | 90 => ⟨S1x1x4x4, .f32⟩
  | 91 => ⟨S16x2048x4x4, .f32⟩
  | 92 => ⟨S16x2048x4x4, .f32⟩
  | 93 => ⟨S4, .f32⟩
  | 94 => ⟨S4x1, .f32⟩
  | 95 => ⟨S16x2048x1x1, .f32⟩
  | 96 => ⟨S1x1x4x1, .f32⟩
  | 97 => ⟨S16x2048x4x1, .f32⟩
  | 98 => ⟨S16x2048x4x1, .f32⟩
  | 99 => ⟨S16x2048x4x1, .i1⟩
  | 100 => ⟨S_, .f32⟩
  | 101 => ⟨S_, .f32⟩
  | 102 => ⟨S16x2048x4x4, .i1⟩
  | 103 => ⟨S16x2048x4x4, .f32⟩
  | 104 => ⟨S16x2048x4x4, .f32⟩
  | 105 => ⟨S_, .f32⟩
  | 106 => ⟨S16x2048x4, .f32⟩
  | 107 => ⟨S4, .f32⟩
  | 108 => ⟨S_, .f32⟩
  | 109 => ⟨S16x2048, .f32⟩
  | 110 => ⟨S16x2048x1, .f32⟩
  | 111 => ⟨S16x2048x4, .f32⟩
  | 112 => ⟨S16x2048x4, .i1⟩
  | 113 => ⟨S_, .f32⟩
  | 114 => ⟨S_, .f32⟩
  | 115 => ⟨S16x2048x4, .f32⟩
  | 116 => ⟨S16x2048x4, .f32⟩
  | 117 => ⟨S16x2048x4, .f32⟩
  | 118 => ⟨S_, .f32⟩
  | 119 => ⟨S16x2048, .f32⟩
  | 120 => ⟨S16x2048x1, .f32⟩
  | 121 => ⟨S1x1x4, .f32⟩
  | 122 => ⟨S16x2048x4, .f32⟩
  | 123 => ⟨S16x2048x4, .f32⟩
  | 124 => ⟨S16x2048x4, .i1⟩
  | 125 => ⟨S_, .f32⟩
  | 126 => ⟨S_, .f32⟩
  | 127 => ⟨S16x2048x4, .f32⟩
  | _ => ⟨S16x2048x1024, .f32⟩

abbrev hbmTy0_1 (i : Nat) : BufTy := match i % 128 with
  | 0 => ⟨S16x2048x4, .f32⟩
  | 1 => ⟨S4, .f32⟩
  | 2 => ⟨S_, .f32⟩
  | 3 => ⟨S16x2048, .f32⟩
  | 4 => ⟨S16x2048x1, .f32⟩
  | 5 => ⟨S16x2048x4, .f32⟩
  | 6 => ⟨S16x2048x4, .i1⟩
  | 7 => ⟨S_, .f32⟩
  | 8 => ⟨S_, .f32⟩
  | 9 => ⟨S16x2048x4, .f32⟩
  | 10 => ⟨S16x2048x4, .f32⟩
  | 11 => ⟨S16x2048x4, .f32⟩
  | 12 => ⟨S_, .f32⟩
  | 13 => ⟨S16x2048, .f32⟩
  | 14 => ⟨S16x2048, .f32⟩
  | 15 => ⟨S16x2048, .f32⟩
  | 16 => ⟨S_, .f32⟩
  | 17 => ⟨S16x2048, .f32⟩
  | 18 => ⟨S16x2048, .f32⟩
  | 19 => ⟨S_, .f32⟩
  | 20 => ⟨S16x2048, .f32⟩
  | 21 => ⟨S16x2048, .f32⟩
  | 22 => ⟨S16x2048, .f32⟩
  | 23 => ⟨S_, .f32⟩
  | 24 => ⟨S16x2048, .f32⟩
  | 25 => ⟨S16x2048, .f32⟩
  | 26 => ⟨S16x2048, .f32⟩
  | 27 => ⟨S16x2048, .f32⟩
  | 28 => ⟨S_, .f32⟩
  | 29 => ⟨S16x2048, .f32⟩
  | 30 => ⟨S16x2048, .f32⟩
  | 31 => ⟨S16x2048, .f32⟩
  | 32 => ⟨S24, .f32⟩
  | 33 => ⟨S24x1x1, .f32⟩
  | 34 => ⟨S1x16x2048, .f32⟩
  | 35 => ⟨S24x16x2048, .f32⟩
  | 36 => ⟨S24x16x2048, .f32⟩
  | 37 => ⟨S24x16x2048, .i1⟩
  | 38 => ⟨S_, .f32⟩
  | 39 => ⟨S_, .f32⟩
  | 40 => ⟨S24x16x2048, .f32⟩
  | 41 => ⟨S24x16x2048, .f32⟩
  | 42 => ⟨S24x16x2048, .f32⟩
  | 43 => ⟨S24x16x2048, .f32⟩
  | 44 => ⟨S_, .f32⟩
  | 45 => ⟨S24, .f32⟩
  | 46 => ⟨S24x1, .f32⟩
  | 47 => ⟨S24x128, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_call3_v0 : Ref sig .tc := ⟨.hbm, 126, rfl⟩
abbrev main_call3_v1 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_v93 : Ref sig .tc := ⟨.hbm, 139, rfl⟩
abbrev main_cst_20 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_21 : Ref sig .tc := ⟨.hbm, 144, rfl⟩
abbrev main_v97 : Ref sig .tc := ⟨.hbm, 145, rfl⟩
abbrev main_v98 : Ref sig .tc := ⟨.hbm, 146, rfl⟩
abbrev main_cst_22 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_23 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_25 : Ref sig .tc := ⟨.hbm, 166, rfl⟩
abbrev main_cst_26 : Ref sig .tc := ⟨.hbm, 167, rfl⟩
abbrev main_call5_v0 : Ref sig .tc := ⟨.hbm, 168, rfl⟩
abbrev main_call5_v1 : Ref sig .tc := ⟨.hbm, 169, rfl⟩
abbrev main_v115 : Ref sig .tc := ⟨.hbm, 170, rfl⟩
abbrev main_v116 : Ref sig .tc := ⟨.hbm, 171, rfl⟩
abbrev main_cst_27 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩

abbrev nD : Nat := 1
abbrev τ : Topo := Topo.v7x

variable {F : FTy → Type} [FloatOps F]
-- ==== Kernel3.lean ====
abbrev S16x256x1024 : Shape := ⟨3, ![16, 256, 1024]⟩
abbrev S1024 : Shape := ⟨1, ![1024]⟩
abbrev S1024x2048 : Shape := ⟨2, ![1024, 2048]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S16x256x1024, .bf16⟩
  | .hbm, ⟨6, _⟩ => ⟨S16x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x256x1024 : Shape := ⟨3, ![16, 256, 1024]⟩
abbrev S1024 : Shape := ⟨1, ![1024]⟩
abbrev S1024x2048 : Shape := ⟨2, ![1024, 2048]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x2048 : Shape := ⟨3, ![16, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x2048, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x2048, .f32⟩
  | .hbm, ⟨20, _⟩ => ⟨S16x256x1024, .f32⟩
  | .hbm, ⟨21, _⟩ => ⟨S16x256x1024, .bf16⟩
  | .hbm, ⟨22, _⟩ => ⟨S16x256x1024, .f32⟩
  | .hbm, ⟨23, _⟩ => ⟨S16x256x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S4x256x256 : Shape := ⟨3, ![4, 256, 256]⟩
abbrev S1x1024 : Shape := ⟨2, ![1, 1024]⟩
abbrev S1x1024x1024 : Shape := ⟨3, ![1, 1024, 1024]⟩
abbrev S1x16x1024 : Shape := ⟨3, ![1, 16, 1024]⟩
abbrev S1024x1024 : Shape := ⟨2, ![1024, 1024]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1040x1024 : Shape := ⟨2, ![1040, 1024]⟩
abbrev S1024x256 : Shape := ⟨2, ![1024, 256]⟩
abbrev S1040x768 : Shape := ⟨2, ![1040, 768]⟩
abbrev S1040x512 : Shape := ⟨2, ![1040, 512]⟩
abbrev S1040x256 : Shape := ⟨2, ![1040, 256]⟩
abbrev S1x256x256 : Shape := ⟨3, ![1, 256, 256]⟩
abbrev S256x256 : Shape := ⟨2, ![256, 256]⟩

abbrev nBuf : Space → Nat
  | .hbm => 8
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1x1024, .f32⟩
  | .hbm, ⟨5, _⟩ => ⟨S4x256x256, .bf16⟩
  | .hbm, ⟨6, _⟩ => ⟨S1x1024, .f32⟩
  | .hbm, ⟨7, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S4x256x256, .bf16⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x2048x1024 : Shape := ⟨3, ![16, 2048, 1024]⟩
abbrev S1024 : Shape := ⟨1, ![1024]⟩
abbrev S4x256x256 : Shape := ⟨3, ![4, 256, 256]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S2048 : Shape := ⟨1, ![2048]⟩
abbrev S16x2063x1024 : Shape := ⟨3, ![16, 2063, 1024]⟩
abbrev S16x2048x256 : Shape := ⟨3, ![16, 2048, 256]⟩
abbrev S1x2048x1 : Shape := ⟨3, ![1, 2048, 1]⟩
abbrev S1x256x256 : Shape := ⟨3, ![1, 256, 256]⟩
abbrev S256x256 : Shape := ⟨2, ![256, 256]⟩

abbrev nBuf : Space → Nat
  | .hbm => 136
  | .vmem => 0
  | .smem => 0
  | _ => 0

abbrev hbmTy0_0 (i : Nat) : BufTy := match i % 128 with
  | 0 => ⟨S16x2048x1024, .f32⟩
  | 1 => ⟨S1024, .f32⟩
  | 2 => ⟨S4x256x256, .f32⟩
  | 3 => ⟨S1024, .f32⟩
  | 4 => ⟨S16x2048x1024, .f32⟩
  | 5 => ⟨S_, .f32⟩
  | 6 => ⟨S16x2048, .f32⟩
  | 7 => ⟨S16x2048x1, .f32⟩
  | 8 => ⟨S_, .f32⟩
  | 9 => ⟨S16x2048x1, .f32⟩
  | 10 => ⟨S16x2048x1, .f32⟩
  | 11 => ⟨S_, .f32⟩
  | 12 => ⟨S16x2048x1, .f32⟩
  | 13 => ⟨S16x2048x1, .f32⟩
  | 14 => ⟨S16x2048x1, .f32⟩
  | 15 => ⟨S16x2048x1024, .f32⟩
  | 16 => ⟨S16x2048x1024, .f32⟩
  | 17 => ⟨S1x1x1024, .f32⟩
  | 18 => ⟨S16x2048x1024, .f32⟩
  | 19 => ⟨S16x2048x1024, .f32⟩
  | 20 => ⟨S2048, .i32⟩
  | 21 => ⟨S_, .i32⟩
  | 22 => ⟨S2048, .i32⟩
  | 23 => ⟨S2048, .i32⟩
  | 24 => ⟨S_, .i32⟩
  | 25 => ⟨S_, .f32⟩
  | 26 => ⟨S16x2063x1024, .f32⟩
  | 27 => ⟨S16x2048x256, .f32⟩
  | 28 => ⟨S16x2048x256, .f32⟩
  | 29 => ⟨S16x2048x256, .f32⟩
  | 30 => ⟨S_, .i32⟩
  | 31 => ⟨S2048, .i32⟩
  | 32 => ⟨S2048, .i32⟩
  | 33 => ⟨S2048, .f32⟩
  | 34 => ⟨S1x2048x1, .f32⟩
  | 35 => ⟨S16x2048x256, .f32⟩
  | 36 => ⟨S16x2048x256, .f32⟩
  | 37 => ⟨S16x2048x256, .f32⟩
  | 38 => ⟨S16x2048x256, .f32⟩
  | 39 => ⟨S1x256x256, .f32⟩
  | 40 => ⟨S256x256, .f32⟩
  | 41 => ⟨S16x2048x256, .f32⟩
  | 42 => ⟨S16x2048x256, .f32⟩
  | 43 => ⟨S16x2048x256, .f32⟩
  | 44 => ⟨S16x2048x256, .f32⟩
  | 45 => ⟨S16x2048x256, .f32⟩
  | 46 => ⟨S16x2048x256, .f32⟩
  | 47 => ⟨S16x2048x256, .f32⟩
  | 48 => ⟨S16x2048x256, .f32⟩
  | 49 => ⟨S_, .i32⟩
  | 50 => ⟨S2048, .i32⟩
  | 51 => ⟨S2048, .i32⟩
  | 52 => ⟨S2048, .f32⟩
  | 53 => ⟨S1x2048x1, .f32⟩
  | 54 => ⟨S16x2048x256, .f32⟩
  | 55 => ⟨S16x2048x256, .f32⟩
  | 56 => ⟨S16x2048x256, .f32⟩
  | 57 => ⟨S16x2048x256, .f32⟩
  | 58 => ⟨S1x256x256, .f32⟩
  | 59 => ⟨S256x256, .f32⟩
  | 60 => ⟨S16x2048x256, .f32⟩
  | 61 => ⟨S16x2048x256, .f32⟩
  | 62 => ⟨S16x2048x256, .f32⟩
  | 63 => ⟨S16x2048x256, .f32⟩
  | 64 => ⟨S16x2048x256, .f32⟩
  | 65 => ⟨S16x2048x256, .f32⟩
  | 66 => ⟨S16x2048x256, .f32⟩
  | 67 => ⟨S16x2048x256, .f32⟩
  | 68 => ⟨S16x2048x256, .f32⟩
  | 69 => ⟨S16x2048x256, .f32⟩
  | 70 => ⟨S16x2048x256, .f32⟩
  | 71 => ⟨S16x2048x256, .f32⟩
  | 72 => ⟨S16x2048x256, .f32⟩
  | 73 => ⟨S16x2048x256, .f32⟩
  | 74 => ⟨S16x2048x256, .f32⟩
  | 75 => ⟨S16x2048x256, .f32⟩
  | 76 => ⟨S_, .i32⟩
  | 77 => ⟨S2048, .i32⟩
  | 78 => ⟨S2048, .i32⟩
  | 79 => ⟨S2048, .f32⟩
  | 80 => ⟨S1x2048x1, .f32⟩
  | 81 => ⟨S16x2048x256, .f32⟩
  | 82 => ⟨S16x2048x256, .f32⟩
  | 83 => ⟨S16x2048x256, .f32⟩
  | 84 => ⟨S16x2048x256, .f32⟩
  | 85 => ⟨S1x256x256, .f32⟩
  | 86 => ⟨S256x256, .f32⟩
  | 87 => ⟨S16x2048x256, .f32⟩
  | 88 => ⟨S16x2048x256, .f32⟩
  | 89 => ⟨S16x2048x256, .f32⟩
  | 90 => ⟨S16x2048x256, .f32⟩
  | 91 => ⟨S16x2048x256, .f32⟩
  | 92 => ⟨S16x2048x256, .f32⟩
  | 93 => ⟨S16x2048x256, .f32⟩
  | 94 => ⟨S16x2048x256, .f32⟩
  | 95 => ⟨S16x2048x256, .f32⟩
  | 96 => ⟨S16x2048x256, .f32⟩
  | 97 => ⟨S16x2048x256, .f32⟩
  | 98 => ⟨S16x2048x256, .f32⟩
  | 99 => ⟨S16x2048x256, .f32⟩
  | 100 => ⟨S16x2048x256, .f32⟩
  | 101 => ⟨S16x2048x256, .f32⟩
  | 102 => ⟨S16x2048x256, .f32⟩
  | 103 => ⟨S16x2048x256, .f32⟩
  | 104 => ⟨S16x2048x256, .f32⟩
  | 105 => ⟨S16x2048x256, .f32⟩
  | 106 => ⟨S16x2048x256, .f32⟩
  | 107 => ⟨S16x2048x256, .f32⟩
  | 108 => ⟨S16x2048x256, .f32⟩
  | 109 => ⟨S16x2048x256, .f32⟩
  | 110 => ⟨S16x2048x256, .f32⟩
  | 111 => ⟨S16x2048x256, .f32⟩
  | 112 => ⟨S16x2048x256, .f32⟩
  | 113 => ⟨S16x2048x256, .f32⟩
  | 114 => ⟨S16x2048x256, .f32⟩
  | 115 => ⟨S16x2048x256, .f32⟩
  | 116 => ⟨S16x2048x256, .f32⟩
  | 117 => ⟨S16x2048x256, .f32⟩
  | 118 => ⟨S16x2048x256, .f32⟩
  | 119 => ⟨S_, .i32⟩
  | 120 => ⟨S2048, .i32⟩
  | 121 => ⟨S2048, .i32⟩
  | 122 => ⟨S2048, .f32⟩
  | 123 => ⟨S1x2048x1, .f32⟩
  | 124 => ⟨S16x2048x256, .f32⟩
  | 125 => ⟨S16x2048x256, .f32⟩
  | 126 => ⟨S16x2048x256, .f32⟩
  | 127 => ⟨S16x2048x256, .f32⟩
  | _ => ⟨S16x2048x1024, .f32⟩

abbrev hbmTy0_1 (i : Nat) : BufTy := match i % 128 with
  | 0 => ⟨S1x256x256, .f32⟩
  | 1 => ⟨S256x256, .f32⟩
  | 2 => ⟨S16x2048x256, .f32⟩
  | 3 => ⟨S16x2048x1024, .f32⟩
  | 4 => ⟨S1x1x1024, .f32⟩
  | 5 => ⟨S16x2048x1024, .f32⟩
  | 6 => ⟨S16x2048x1024, .f32⟩
  | 7 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c_5 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_c_6 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩

abbrev nD : Nat := 1
abbrev τ : Topo := Topo.v7x

variable {F : FTy → Type} [FloatOps F]
-- ==== Kernel5.lean ====
abbrev S32768x128 : Shape := ⟨2, ![32768, 128]⟩
abbrev S24 : Shape := ⟨1, ![24]⟩
abbrev S_ : Shape := ⟨0, ![]⟩
abbrev S128 : Shape := ⟨1, ![128]⟩
abbrev S1x128 : Shape := ⟨2, ![1, 128]⟩
abbrev S8x8x4096 : Shape := ⟨3, ![8, 8, 4096]⟩
abbrev S4096x128 : Shape := ⟨2, ![4096, 128]⟩
abbrev S1x8x4096 : Shape := ⟨3, ![1, 8, 4096]⟩
abbrev S4096x1 : Shape := ⟨2, ![4096, 1]⟩
abbrev S4096x256 : Shape := ⟨2, ![4096, 256]⟩
abbrev S8x128 : Shape := ⟨2, ![8, 128]⟩
abbrev S8x256 : Shape := ⟨2, ![8, 256]⟩
abbrev S8x4096 : Shape := ⟨2, ![8, 4096]⟩

abbrev nBuf : Space → Nat
  | .hbm => 36
  | .vmem => 5
  | .smem => 0
  | _ => 0

abbrev bufTy : (tb : Table) → Fin (tcTables nBuf tb) → BufTy
  | .hbm, ⟨0, _⟩ => ⟨S32768x128, .f32⟩
  | .hbm, ⟨1, _⟩ => ⟨S24, .i32⟩
  | .hbm, ⟨2, _⟩ => ⟨S_, .i32⟩
  | .hbm, ⟨3, _⟩ => ⟨S24, .i32⟩
  | .hbm, ⟨4, _⟩ => ⟨S24, .i32⟩
  | .hbm, ⟨5, _⟩ => ⟨S_, .i32⟩
  | .hbm, ⟨6, _⟩ => ⟨S_, .i32⟩
  | .hbm, ⟨7, _⟩ => ⟨S24, .i32⟩
  | .hbm, ⟨8, _⟩ => ⟨S24, .i32⟩
  | .hbm, ⟨9, _⟩ => ⟨S24, .i32⟩
  | .hbm, ⟨10, _⟩ => ⟨S_, .i32⟩
  | .hbm, ⟨11, _⟩ => ⟨S24, .i32⟩
  | .hbm, ⟨12, _⟩ => ⟨S24, .i1⟩
  | .hbm, ⟨13, _⟩ => ⟨S24, .i32⟩
  | .hbm, ⟨14, _⟩ => ⟨S24, .i32⟩
  | .hbm, ⟨15, _⟩ => ⟨S_, .i32⟩
  | .hbm, ⟨16, _⟩ => ⟨S24, .i32⟩
  | .hbm, ⟨17, _⟩ => ⟨S24, .i1⟩
  | .hbm, ⟨18, _⟩ => ⟨S24, .i1⟩
  | .hbm, ⟨19, _⟩ => ⟨S_, .i32⟩
  | .hbm, ⟨20, _⟩ => ⟨S24, .i32⟩
  | .hbm, ⟨21, _⟩ => ⟨S24, .i32⟩
  | .hbm, ⟨22, _⟩ => ⟨S24, .i32⟩
  | .hbm, ⟨23, _⟩ => ⟨S_, .i32⟩
  | .hbm, ⟨24, _⟩ => ⟨S_, .i32⟩
  | .hbm, ⟨25, _⟩ => ⟨S24, .i32⟩
  | .hbm, ⟨26, _⟩ => ⟨S24, .i32⟩
  | .hbm, ⟨27, _⟩ => ⟨S_, .i32⟩
  | .hbm, ⟨28, _⟩ => ⟨S24, .i32⟩
  | .hbm, ⟨29, _⟩ => ⟨S24, .i32⟩
  | .hbm, ⟨30, _⟩ => ⟨S24, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S8x8x4096, .i32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S1x8x4096, .i32⟩
  | .local _ .vmem, ⟨4, _⟩ => ⟨S1x8x4096, .i32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_call1_call0_c : Ref sig .tc := ⟨.hbm, 23, rfl⟩
abbrev main_call1_call0_v0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_2 : Ref sig .tc := ⟨.hbm, 31, rfl⟩
abbrev main_call2_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32768x128 : Shape := ⟨2, ![32768, 128]⟩
abbrev S24 : Shape := ⟨1, ![24]⟩
abbrev S_ : Shape := ⟨0, ![]⟩
abbrev S32768x1 : Shape := ⟨2, ![32768, 1]⟩
abbrev S32768 : Shape := ⟨1, ![32768]⟩
abbrev S1x24 : Shape := ⟨2, ![1, 24]⟩
abbrev S32768x24 : Shape := ⟨2, ![32768, 24]⟩
abbrev S8x1x4096 : Shape := ⟨3, ![8, 1, 4096]⟩
abbrev S8x8x4096 : Shape := ⟨3, ![8, 8, 4096]⟩

abbrev nBuf : Space → Nat
  | .hbm => 56
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S24, .i32⟩
  | .hbm, ⟨2, _⟩ => ⟨S_, .i32⟩
  | .hbm, ⟨3, _⟩ => ⟨S24, .i32⟩
  | .hbm, ⟨4, _⟩ => ⟨S24, .i32⟩
  | .hbm, ⟨5, _⟩ => ⟨S_, .i32⟩
  | .hbm, ⟨6, _⟩ => ⟨S_, .i32⟩
  | .hbm, ⟨7, _⟩ => ⟨S24, .i32⟩
  | .hbm, ⟨8, _⟩ => ⟨S24, .i32⟩
  | .hbm, ⟨9, _⟩ => ⟨S24, .i32⟩
  | .hbm, ⟨10, _⟩ => ⟨S_, .i32⟩
  | .hbm, ⟨11, _⟩ => ⟨S24, .i32⟩
  | .hbm, ⟨12, _⟩ => ⟨S24, .i1⟩
  | .hbm, ⟨13, _⟩ => ⟨S24, .i32⟩
  | .hbm, ⟨14, _⟩ => ⟨S24, .i32⟩
  | .hbm, ⟨15, _⟩ => ⟨S_, .i32⟩
  | .hbm, ⟨16, _⟩ => ⟨S24, .i32⟩
  | .hbm, ⟨17, _⟩ => ⟨S24, .i1⟩
  | .hbm, ⟨18, _⟩ => ⟨S24, .i1⟩
  | .hbm, ⟨19, _⟩ => ⟨S_, .i32⟩
  | .hbm, ⟨20, _⟩ => ⟨S24, .i32⟩
  | .hbm, ⟨21, _⟩ => ⟨S24, .i32⟩
  | .hbm, ⟨22, _⟩ => ⟨S24, .i32⟩
  | .hbm, ⟨23, _⟩ => ⟨S_, .i32⟩
  | .hbm, ⟨24, _⟩ => ⟨S_, .i32⟩
  | .hbm, ⟨25, _⟩ => ⟨S24, .i32⟩
  | .hbm, ⟨26, _⟩ => ⟨S24, .i32⟩
  | .hbm, ⟨27, _⟩ => ⟨S_, .i32⟩
  | .hbm, ⟨28, _⟩ => ⟨S24, .i32⟩
  | .hbm, ⟨29, _⟩ => ⟨S24, .i32⟩
  | .hbm, ⟨30, _⟩ => ⟨S24, .f32⟩
  | .hbm, ⟨31, _⟩ => ⟨S32768x1, .f32⟩
  | .hbm, ⟨32, _⟩ => ⟨S32768, .f32⟩
  | .hbm, ⟨33, _⟩ => ⟨S32768x1, .f32⟩
  | .hbm, ⟨34, _⟩ => ⟨S32768, .f32⟩
  | .hbm, ⟨35, _⟩ => ⟨S32768x1, .f32⟩
  | .hbm, ⟨36, _⟩ => ⟨S24, .i32⟩
  | .hbm, ⟨37, _⟩ => ⟨S24, .f32⟩
  | .hbm, ⟨38, _⟩ => ⟨S1x24, .f32⟩
  | .hbm, ⟨39, _⟩ => ⟨S32768x24, .f32⟩
  | .hbm, ⟨40, _⟩ => ⟨S32768x24, .f32⟩
  | .hbm, ⟨41, _⟩ => ⟨S32768x24, .i1⟩
  | .hbm, ⟨42, _⟩ => ⟨S32768x1, .f32⟩
  | .hbm, ⟨43, _⟩ => ⟨S1x24, .f32⟩
  | .hbm, ⟨44, _⟩ => ⟨S32768x24, .f32⟩
  | .hbm, ⟨45, _⟩ => ⟨S32768x24, .f32⟩
  | .hbm, ⟨46, _⟩ => ⟨S32768x24, .f32⟩
  | .hbm, ⟨47, _⟩ => ⟨S_, .f32⟩
  | .hbm, ⟨48, _⟩ => ⟨S_, .f32⟩
  | .hbm, ⟨49, _⟩ => ⟨S32768x24, .f32⟩
  | .hbm, ⟨50, _⟩ => ⟨S32768x24, .f32⟩
  | .hbm, ⟨51, _⟩ => ⟨S_, .f32⟩
  | .hbm, ⟨52, _⟩ => ⟨S32768, .f32⟩
  | .hbm, ⟨53, _⟩ => ⟨S32768, .i32⟩
  | .hbm, ⟨54, _⟩ => ⟨S8x1x4096, .i32⟩
  | .hbm, ⟨55, _⟩ => ⟨S8x8x4096, .i32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_call1_call0_c : Ref sig .tc := ⟨.hbm, 23, rfl⟩
abbrev main_call1_call0_v0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]
-- ==== Proof.Region.lean ====
/- The call's region as it is entered: what the host lines before it leave in every buffer, the three prefetched
   tables, the windows' blocks at a grid point, and the buffers that the body is handed.

   The host lines come in four stretches (the floor division and the running sum are functions of their own), so
   the contents are those after all four. The gate/up weights and the down weights are each read through two
   windows, one per expert of a tile. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four stretches of host lines before the region, in order. -/
abbrev stretches : List (List (HloOp τ sig (Elt F))) := [hostOps0, hostOps0_1, hostOps0_2, hostOps0_3]

/-- What a core's buffers hold when the region is entered. -/
def V (c : Dev nD) (b : Ref sig .tc) : Buf (Elt F) ((c : Thread nD τ).loc b) :=
  StableHlo.after (List.flatten stretches) (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub⟩

set_option maxRecDepth 65536 in
theorem stretches_fresh : (stretches (F := F)).Forall fun ops => ops.Forall fun op => op.fresh = ∅ := by
  refine ⟨?_, ?_, ?_, ?_⟩ <;> (simp only [List.Forall]; repeat' constructor)

/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh fun c => main_chain c

/-- The host lines one after the other. -/
theorem V_eq (c : Dev nD) (b : Ref sig .tc) : V m c b = StableHlo.after hostOps0_3 (StableHlo.after hostOps0_2
    (StableHlo.after hostOps0_1 (StableHlo.after hostOps0 (fun b => m (c, b))))) b := by
  unfold V stretches
  rw [List.flatten_cons, List.flatten_cons, List.flatten_cons, List.flatten_cons, List.flatten_nil, List.append_nil,
    StableHlo.after_append, StableHlo.after_append, StableHlo.after_append]

/-- A buffer that no host line writes is as it was launched. -/
theorem V_main_arg0 (c : Dev nD) : V m c main_arg0 = m ((c : Thread nD τ).loc main_arg0) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp
theorem V_main_arg1 (c : Dev nD) : V m c main_arg1 = m ((c : Thread nD τ).loc main_arg1) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp
theorem V_main_arg2 (c : Dev nD) : V m c main_arg2 = m ((c : Thread nD τ).loc main_arg2) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp
theorem V_main_arg3 (c : Dev nD) : V m c main_arg3 = m ((c : Thread nD τ).loc main_arg3) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp

/-! ## The prefetched tables -/

/-- The tables as the region finds them (the program runs on one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every block that the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S88 .i32 := Memref.whole main_v25
abbrev htbM0_0 : tbM0_0.IsWhole := Memref.isWhole_whole _
abbrev tbM0_1 : Memref sig .tc .smem S88 .i32 := Memref.whole main_v32
abbrev htbM0_1 : tbM0_1.IsWhole := Memref.isWhole_whole _
abbrev tbM0_2 : Memref sig .tc .smem S1 .i32 := Memref.whole main_v4
abbrev htbM0_2 : tbM0_2.IsWhole := Memref.isWhole_whole _

/-- A table's buffer, and that buffer held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The buffers that the body is handed -/

/-- One staging buffer of the output window, through which its contents are stated. -/
abbrev VO0_5 : View sig .tc .vmem S4096x128 .f32 := (Memref.whole cc0_stg5_0 : Memref sig .tc .vmem S4096x128 .f32).view

abbrev ms0_0 (hO : Ok m) (t : Fin (cfgM m hO).N) : Memref sig .tc .vmem S4096x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.KernelIdeal.Experts

end
-- ==== Proof.Body.lean ====
/- The call's body, run in its two cases: at a tile that holds tokens it computes the two experts of the tile's pair
   and writes the eight column chunks of the result, at any other tile it writes zeros. -/
module

public import proofs.«01_k».proof.Proof.Region

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the third table that the body reads: how many tiles hold tokens. -/
abbrev nusedWord (c : Dev nD) (xt2 : TbBuf0 (F := F) c tbM0_2) : BitVec 32 :=
  View.readAt (Elt F) tbM0_2.view (Rect.unit (s := S1) ![0] S1.size inb_S1_S1_0).toLoadRect xt2 (Shape.Idx.first (numel1_S1.symm ▸ Nat.one_pos))

set_option maxHeartbeats 1000000 in
/-- What the body stores at a tile with tokens. -/
noncomputable def runUsed (c : Dev nD) (i : grid0.Coords) (arg4 : Memref sig .tc .vmem S4096x128 .i32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S4096x128 .f32) (harg9 : arg9.IsWhole)
    (x0 : Vec F S4096x128 .i32) (x1 : Vec F S1x1024x1024 .bf16) (x2 : Vec F S1x1024x1024 .bf16) (x3 : Vec F S1x512x1024 .bf16) (x4 : Vec F S1x512x1024 .bf16) (xt0 : TbBuf0 (F := F) c tbM0_0) (xt1 : TbBuf0 (F := F) c tbM0_1) (xt2 : TbBuf0 (F := F) c tbM0_2)
    (hc0 : ¬k0_cond1 i (nusedWord c xt2) = 1#1) (hc1 : k0_cond2 i (nusedWord c xt2) = 1#1) :
    { L5 : List (View.Piece (Elt F) S4096x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    isplitl [HT1]; · iexact HT1
    iexact HT2

set_option maxHeartbeats 1000000 in
/-- What the body stores at a tile without tokens. -/
noncomputable def runUnused (c : Dev nD) (i : grid0.Coords) (arg4 : Memref sig .tc .vmem S4096x128 .i32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S4096x128 .f32) (harg9 : arg9.IsWhole)
    (x0 : Vec F S4096x128 .i32) (x1 : Vec F S1x1024x1024 .bf16) (x2 : Vec F S1x1024x1024 .bf16) (x3 : Vec F S1x512x1024 .bf16) (x4 : Vec F S1x512x1024 .bf16) (xt0 : TbBuf0 (F := F) c tbM0_0) (xt1 : TbBuf0 (F := F) c tbM0_1) (xt2 : TbBuf0 (F := F) c tbM0_2)
    (hc0 : k0_cond1 i (nusedWord c xt2) = 1#1) (hc1 : ¬k0_cond2 i (nusedWord c xt2) = 1#1) :
    { L5 : List (View.Piece (Elt F) S4096x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    isplitl [HT1]; · iexact HT1
    iexact HT2

end Cert.KernelIdeal.Experts

end
-- ==== Proof.Tile.lean ====
/- One tile of the call as a function of its blocks: the 512 tokens of the tile through the tile's two experts, and
   where the eight strided stores put the 512 × 1024 result in the block of 4096 × 128 rows. -/
module

public import proofs.«01_k».proof.Proof.Body
public import Idealize.ShloMosaic.Lib.WholeRead
public import Idealize.ShloMosaic.Lib.Writes

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- Every eighth row of a tile's block from row `k`: chunk `k` of each of the 512 packed token rows. -/
abbrev wordRect (k : ℕ) (inb : ∀ a, S512x128.size a = 0 ∨ (![k, 0] : Fin 2 → ℕ) a + (![8, 1] : Fin 2 → ℕ) a * (S512x128.size a - 1) < S4096x128.size a) : LoadRect S4096x128 :=
  ⟨![k, 0], S512x128.size, ![8, 1], inb⟩

/-- Those words. -/
def words (k : ℕ) (inb : ∀ a, S512x128.size a = 0 ∨ (![k, 0] : Fin 2 → ℕ) a + (![8, 1] : Fin 2 → ℕ) a * (S512x128.size a - 1) < S4096x128.size a)
    (x0 : Vec F S4096x128 .i32) : Vec F S512x128 .i32 :=
  fun j => x0 ((wordRect k inb).idx j)

/-- The tile's result: both experts' outputs under the gates, a row per token. -/
def yTile (x0 : Vec F S4096x128 .i32) (x1 : Vec F S1x1024x1024 .bf16) (x2 : Vec F S1x1024x1024 .bf16) (x3 : Vec F S1x512x1024 .bf16) (x4 : Vec F S1x512x1024 .bf16) : FVec F S512x1024 .f32 :=
  k0_pay8 (k0_pay3 (words 4 inb_S4096x128_S512x128_4_0_s_8_1 x0) (words 5 inb_S4096x128_S512x128_5_0_s_8_1 x0))
    (k0_pay4 (words 0 inb_S4096x128_S512x128_0_0_s_8_1 x0) (words 1 inb_S4096x128_S512x128_1_0_s_8_1 x0) (words 2 inb_S4096x128_S512x128_2_0_s_8_1 x0) (words 3 inb_S4096x128_S512x128_3_0_s_8_1 x0))
    (k0_pay5 (words 0 inb_S4096x128_S512x128_0_0_s_8_1 x0) (words 1 inb_S4096x128_S512x128_1_0_s_8_1 x0) (words 2 inb_S4096x128_S512x128_2_0_s_8_1 x0) (words 3 inb_S4096x128_S512x128_3_0_s_8_1 x0) x1)
    (k0_pay6 (words 4 inb_S4096x128_S512x128_4_0_s_8_1 x0) (words 5 inb_S4096x128_S512x128_5_0_s_8_1 x0))
    (k0_pay7 x3) (constant S512x1024 .f32 0x00000000#32) x2 x4

/-- The eight strided stores, newest first: chunk `k` of the result goes to the rows `k`, `k + 8`, …. -/
def usedPieces (x0 : Vec F S4096x128 .i32) (x1 : Vec F S1x1024x1024 .bf16) (x2 : Vec F S1x1024x1024 .bf16) (x3 : Vec F S1x512x1024 .bf16) (x4 : Vec F S1x512x1024 .bf16) : List (View.Piece (Elt F) S4096x128 .f32) :=
  [⟨⟨(⟨![7, 0], S512x128.size, ![8, 1], inb_S4096x128_S512x128_7_0_s_8_1⟩ : LoadRect S4096x128), spos_8_1⟩, extractStridedSlice S512x128 ![0, 896] (yTile x0 x1 x2 x3 x4) slices_S512x1024_o0_896_S512x128⟩,
    ⟨⟨(⟨![6, 0], S512x128.size, ![8, 1], inb_S4096x128_S512x128_6_0_s_8_1⟩ : LoadRect S4096x128), spos_8_1⟩, extractStridedSlice S512x128 ![0, 768] (yTile x0 x1 x2 x3 x4) slices_S512x1024_o0_768_S512x128⟩,
    ⟨⟨(⟨![5, 0], S512x128.size, ![8, 1], inb_S4096x128_S512x128_5_0_s_8_1⟩ : LoadRect S4096x128), spos_8_1⟩, extractStridedSlice S512x128 ![0, 640] (yTile x0 x1 x2 x3 x4) slices_S512x1024_o0_640_S512x128⟩,
    ⟨⟨(⟨![4, 0], S512x128.size, ![8, 1], inb_S4096x128_S512x128_4_0_s_8_1⟩ : LoadRect S4096x128), spos_8_1⟩, extractStridedSlice S512x128 ![0, 512] (yTile x0 x1 x2 x3 x4) slices_S512x1024_o0_512_S512x128⟩,
    ⟨⟨(⟨![3, 0], S512x128.size, ![8, 1], inb_S4096x128_S512x128_3_0_s_8_1⟩ : LoadRect S4096x128), spos_8_1⟩, extractStridedSlice S512x128 ![0, 384] (yTile x0 x1 x2 x3 x4) slices_S512x1024_o0_384_S512x128⟩,
    ⟨⟨(⟨![2, 0], S512x128.size, ![8, 1], inb_S4096x128_S512x128_2_0_s_8_1⟩ : LoadRect S4096x128), spos_8_1⟩, extractStridedSlice S512x128 ![0, 256] (yTile x0 x1 x2 x3 x4) slices_S512x1024_o0_256_S512x128⟩,
    ⟨⟨(⟨![1, 0], S512x128.size, ![8, 1], inb_S4096x128_S512x128_1_0_s_8_1⟩ : LoadRect S4096x128), spos_8_1⟩, extractStridedSlice S512x128 ![0, 128] (yTile x0 x1 x2 x3 x4) slices_S512x1024_o0_128_S512x128⟩,
    ⟨⟨(⟨![0, 0], S512x128.size, ![8, 1], inb_S4096x128_S512x128_0_0_s_8_1⟩ : LoadRect S4096x128), spos_8_1⟩, extractStridedSlice S512x128 ![0, 0] (yTile x0 x1 x2 x3 x4) slices_S512x1024_o0_0_S512x128⟩]

theorem readAt_words {a : Memref sig .tc .vmem S4096x128 .i32} (h : a.IsWhole) (x0 : Vec F S4096x128 .i32) (k : ℕ) (inb) :
    View.readAt (Elt F) a.view (wordRect k inb) (h.unread x0) = words k inb x0 :=
  funext fun j => h.readAt_unread x0 _ j

theorem readAt_all3 {a : Memref sig .tc .vmem S1x1024x1024 .bf16} (h : a.IsWhole) (x : Vec F S1x1024x1024 .bf16) :
    View.readAt (Elt F) a.view (Rect.unit (s := S1x1024x1024) ![0, 0, 0] S1x1024x1024.size inb_S1x1024x1024_S1x1024x1024_0_0_0).toLoadRect (h.unread x) = x :=
  funext fun j => (h.readAt_unread x _ j).trans (congrArg x (funext fun a => Fin.ext (by fin_cases a <;> exact (Nat.zero_add _).trans (Nat.one_mul _))))

theorem readAt_all3' {a : Memref sig .tc .vmem S1x512x1024 .bf16} (h : a.IsWhole) (x : Vec F S1x512x1024 .bf16) :
    View.readAt (Elt F) a.view (Rect.unit (s := S1x512x1024) ![0, 0, 0] S1x512x1024.size inb_S1x512x1024_S1x512x1024_0_0_0).toLoadRect (h.unread x) = x :=
  funext fun j => (h.readAt_unread x _ j).trans (congrArg x (funext fun a => Fin.ext (by fin_cases a <;> exact (Nat.zero_add _).trans (Nat.one_mul _))))

/-- What the body stores, as a function of the five blocks alone. -/
theorem runUsed_pieces (c : Dev nD) (i : grid0.Coords) (arg4 : Memref sig .tc .vmem S4096x128 .i32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S4096x128 .f32) (harg9 : arg9.IsWhole)
    (x0 : Vec F S4096x128 .i32) (x1 : Vec F S1x1024x1024 .bf16) (x2 : Vec F S1x1024x1024 .bf16) (x3 : Vec F S1x512x1024 .bf16) (x4 : Vec F S1x512x1024 .bf16) (xt0 : TbBuf0 (F := F) c tbM0_0) (xt1 : TbBuf0 (F := F) c tbM0_1) (xt2 : TbBuf0 (F := F) c tbM0_2)
    (hc0 : ¬k0_cond1 i (nusedWord c xt2) = 1#1) (hc1 : k0_cond2 i (nusedWord c xt2) = 1#1) :
    (runUsed c i arg4 harg4 arg5 harg5 arg6 harg6 arg7 harg7 arg8 harg8 arg9 harg9 x0 x1 x2 x3 x4 xt0 xt1 xt2 hc0 hc1).1 = usedPieces x0 x1 x2 x3 x4 := by
  unfold runUsed; dsimp only
  unfold runUsed.sl.r_6 runUsed.sl.r_7 runUsed.sl.r_1 runUsed.sl.r_2 runUsed.sl.r_3 runUsed.sl.r_4 runUsed.sl.r_5 runUsed.sl.cst_14
  rw [readAt_all3 harg5 x1, readAt_all3 harg6 x2, readAt_all3' harg7 x3, readAt_all3' harg8 x4, readAt_words harg4 x0 0, readAt_words harg4 x0 1, readAt_words harg4 x0 2, readAt_words harg4 x0 3, readAt_words harg4 x0 4, readAt_words harg4 x0 5]
  rfl

/-- Where a row of the tile's block comes from: row `8 t + k` is chunk `k` of token `t`. -/
def tok (y : S4096x128.Idx) : S512x1024.Idx := fun a => match a with
  | ⟨0, _⟩ => ⟨(y 0).val / 8, by have := (y 0).isLt; show _ < 512; change (y 0).val < 4096 at this; omega⟩
  | ⟨1, _⟩ => ⟨128 * ((y 0).val % 8) + (y 1).val, by have := (y 1).isLt; show _ < 1024; change (y 1).val < 128 at this; omega⟩

/-- The tile's block after the body. -/
def blockUsed (x0 : Vec F S4096x128 .i32) (x1 : Vec F S1x1024x1024 .bf16) (x2 : Vec F S1x1024x1024 .bf16) (x3 : Vec F S1x512x1024 .bf16) (x4 : Vec F S1x512x1024 .bf16) : Vec F S4096x128 .f32 :=
  fun y => yTile x0 x1 x2 x3 x4 (tok y)

theorem chunk_good (Y : FVec F S512x1024 .f32) (k : ℕ) (hk : k < 8) (inb) (sl : S512x1024.Slices ![0, 128 * k] S512x128) (x : S512x128.Idx) :
    extractStridedSlice S512x128 ![0, 128 * k] Y sl x = Y (tok ((⟨wordRect k inb, spos_8_1⟩ : Rect S4096x128).emb x)) := by
  refine congrArg Y (funext fun a => Fin.ext ?_)
  have h0 : (x 0).val < 512 := (x 0).isLt
  have h1 : (x 1).val < 128 := (x 1).isLt
  fin_cases a
  · show 0 + (x 0).val = (k + 8 * (x 0).val) / 8
    omega
  · show 128 * k + (x 1).val = 128 * ((k + 8 * (x 0).val) % 8) + (0 + 1 * (x 1).val)
    omega

theorem usedPieces_good (x0 : Vec F S4096x128 .i32) (x1 : Vec F S1x1024x1024 .bf16) (x2 : Vec F S1x1024x1024 .bf16) (x3 : Vec F S1x512x1024 .bf16) (x4 : Vec F S1x512x1024 .bf16) :
    ∀ p ∈ usedPieces x0 x1 x2 x3 x4, ∀ x : p.1.shape.Idx, p.2 x = blockUsed x0 x1 x2 x3 x4 (p.1.emb x) := by
  unfold usedPieces
  simp only [List.forall_mem_cons, List.not_mem_nil, false_imp_iff, implies_true, and_true]
  exact ⟨chunk_good _ 7 (by omega) _ _, chunk_good _ 6 (by omega) _ _, chunk_good _ 5 (by omega) _ _, chunk_good _ 4 (by omega) _ _, chunk_good _ 3 (by omega) _ _, chunk_good _ 2 (by omega) _ _, chunk_good _ 1 (by omega) _ _, chunk_good _ 0 (by omega) _ _⟩

theorem usedPieces_cover (x0 : Vec F S4096x128 .i32) (x1 : Vec F S1x1024x1024 .bf16) (x2 : Vec F S1x1024x1024 .bf16) (x3 : Vec F S1x512x1024 .bf16) (x4 : Vec F S1x512x1024 .bf16) (y : S4096x128.Idx) :
    ∃ p ∈ usedPieces x0 x1 x2 x3 x4, y ∈ p.1.set := by
  have h0 : (y 0).val < 4096 := (y 0).isLt
  have key : ∀ (k : ℕ) (inb), (y 0).val % 8 = k → y ∈ (⟨wordRect k inb, spos_8_1⟩ : Rect S4096x128).set := by
    intro k inb hk
    refine (⟨wordRect k inb, spos_8_1⟩ : Rect S4096x128).mem_set.mpr fun a => ?_
    fin_cases a
    · refine ⟨(y 0).val / 8, ?_, ?_⟩
      · show _ < 512; omega
      · show (y 0).val = k + 8 * _; omega
    · refine ⟨(y 1).val, ?_, ?_⟩
      · exact (y 1).isLt
      · show (y 1).val = 0 + 1 * _; omega
  unfold usedPieces
  have h8 : (y 0).val % 8 < 8 := Nat.mod_lt _ (by omega)
  simp only [List.exists_mem_cons_iff]
  rcases (show (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 by omega) with h|h|h|h|h|h|h|h
  · exact Or.inl (key 7 _ h)
  · exact Or.inr (Or.inl (key 6 _ h))
  · exact Or.inr (Or.inr (Or.inl (key 5 _ h)))
  · exact Or.inr (Or.inr (Or.inr (Or.inl (key 4 _ h))))
  · exact Or.inr (Or.inr (Or.inr (Or.inr (Or.inl (key 3 _ h)))))
  · exact Or.inr (Or.inr (Or.inr (Or.inr (Or.inr (Or.inl (key 2 _ h))))))
  · exact Or.inr (Or.inr (Or.inr (Or.inr (Or.inr (Or.inr (Or.inl (key 1 _ h)))))))
  · exact Or.inr (Or.inr (Or.inr (Or.inr (Or.inr (Or.inr (Or.inr (Or.inl (key 0 _ h))))))))

/-- The output's buffer after the body at a tile with tokens, through whichever view and whatever it held. -/
theorem read_used (v : View sig .tc .vmem S4096x128 .f32) (f : v.ty.Contents (Elt F)) (c : Dev nD) (i : grid0.Coords) (arg4 : Memref sig .tc .vmem S4096x128 .i32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S4096x128 .f32) (harg9 : arg9.IsWhole)
    (x0 : Vec F S4096x128 .i32) (x1 : Vec F S1x1024x1024 .bf16) (x2 : Vec F S1x1024x1024 .bf16) (x3 : Vec F S1x512x1024 .bf16) (x4 : Vec F S1x512x1024 .bf16) (xt0 : TbBuf0 (F := F) c tbM0_0) (xt1 : TbBuf0 (F := F) c tbM0_1) (xt2 : TbBuf0 (F := F) c tbM0_2)
    (hc0 : ¬k0_cond1 i (nusedWord c xt2) = 1#1) (hc1 : k0_cond2 i (nusedWord c xt2) = 1#1) :
    v.read (Elt F) (v.writes (Elt F) f (runUsed c i arg4 harg4 arg5 harg5 arg6 harg6 arg7 harg7 arg8 harg8 arg9 harg9 x0 x1 x2 x3 x4 xt0 xt1 xt2 hc0 hc1).1) = blockUsed x0 x1 x2 x3 x4 := by
  rw [runUsed_pieces]
  exact funext fun y => View.read_writes_apply_of_pieces v f _ _ (usedPieces_good x0 x1 x2 x3 x4) y (usedPieces_cover x0 x1 x2 x3 x4 y)

/-- The block of a tile without tokens. -/
def blockUnused : Vec F S4096x128 .f32 := k0_pay1

theorem read_unused (v : View sig .tc .vmem S4096x128 .f32) (f : v.ty.Contents (Elt F)) (c : Dev nD) (i : grid0.Coords) (arg4 : Memref sig .tc .vmem S4096x128 .i32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S4096x128 .f32) (harg9 : arg9.IsWhole)
    (x0 : Vec F S4096x128 .i32) (x1 : Vec F S1x1024x1024 .bf16) (x2 : Vec F S1x1024x1024 .bf16) (x3 : Vec F S1x512x1024 .bf16) (x4 : Vec F S1x512x1024 .bf16) (xt0 : TbBuf0 (F := F) c tbM0_0) (xt1 : TbBuf0 (F := F) c tbM0_1) (xt2 : TbBuf0 (F := F) c tbM0_2)
    (hc0 : k0_cond1 i (nusedWord c xt2) = 1#1) (hc1 : ¬k0_cond2 i (nusedWord c xt2) = 1#1) :
    v.read (Elt F) (v.writes (Elt F) f (runUnused c i arg4 harg4 arg5 harg5 arg6 harg6 arg7 harg7 arg8 harg8 arg9 harg9 x0 x1 x2 x3 x4 xt0 xt1 xt2 hc0 hc1).1) = blockUnused := by
  unfold runUnused; dsimp only
  refine funext fun y => View.read_writes_cons_hit_of_coords v f _ _ _ y y fun a => ?_
  fin_cases a <;> simp [Rect.unit]

end Cert.KernelIdeal.Experts

end
-- ==== Proof.Frame.lean ====
/- The run of the call over its 88 grid points, and the frame: every execution ends, every counter of the machine is
   back at zero and the argument arrays are as they were.

   A tile with tokens leaves `blockUsed` of its blocks, one without tokens leaves zeros; the branch of the body is
   decided by the tile count that the kernel reads from its third table. -/
module

public import proofs.«01_k».proof.Proof.Tile

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch -/

/-- The body takes one of its two branches. -/
theorem cond1_iff (i : grid0.Coords) (w : BitVec 32) : k0_cond1 i w = 1#1 ↔ ¬k0_cond2 i w = 1#1 := by
  unfold k0_cond1 k0_cond2
  dsimp only
  generalize Scalar.cmpi (w := 32) .slt (BitVec.ofNat 32 (i 0).val) w = b
  revert b
  decide

/-- The tile count as the region finds it. -/
def nused : BitVec 32 := (tbl m).atD 2 ![0]

theorem nusedWord_eq : nusedWord (F := F) (0 : Dev nD) (tbl m 2) = nused m := by
  unfold nused Pipeline.Prefetch.Contents.atD
  rfl

/-- What the output's buffer holds after point `t`. -/
def outAt (hO : Ok m) (c : Dev nD) (t : Fin (cfgM m hO).N) : Vec F S4096x128 .f32 :=
  if k0_cond2 (grid0.coords t) (nused m) = 1#1 then
    blockUsed (iblk m hO c 0 t) (iblk m hO c 1 t) (iblk m hO c 2 t) (iblk m hO c 3 t) (iblk m hO c 4 t)
  else blockUnused

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

theorem liveAt0_0 (hO : Ok m) (t : Fin (cfgM m hO).N) : (cfgM m hO).idle 0 ((cfgM m hO).grid.coords t) = false := rfl
theorem liveAt0_1 (hO : Ok m) (t : Fin (cfgM m hO).N) : (cfgM m hO).idle 1 ((cfgM m hO).grid.coords t) = false := rfl
theorem liveAt0_2 (hO : Ok m) (t : Fin (cfgM m hO).N) : (cfgM m hO).idle 2 ((cfgM m hO).grid.coords t) = false := rfl
theorem liveAt0_3 (hO : Ok m) (t : Fin (cfgM m hO).N) : (cfgM m hO).idle 3 ((cfgM m hO).grid.coords t) = false := rfl
theorem liveAt0_4 (hO : Ok m) (t : Fin (cfgM m hO).N) : (cfgM m hO).idle 4 ((cfgM m hO).grid.coords t) = false := rfl

/-- One of the two branches stores the output's block, so no point leaves it untouched. -/
theorem liveAt0_5 (hO : Ok m) (t : Fin (cfgM m hO).N) : (cfgM m hO).idle 5 ((cfgM m hO).grid.coords t) = false := by
  show (!(k0_cond1 (grid0.coords t) (nused m) == 1#1) && !(k0_cond2 (grid0.coords t) (nused m) == 1#1)) = false
  by_cases h : k0_cond2 (grid0.coords t) (nused m) = 1#1
  · simp [h]
  · simp [(cond1_iff _ _).mpr h]

/-! ## The body at a point -/

/-- The body at point `t`, on the buffers it is called with. -/
abbrev bodyAt (hO : Ok m) (t : Fin (cfgM m hO).N) : Prog (TpuEff nD τ sig (Elt F) Λ₀ .tc) PUnit :=
  cc0_moe_experts (grid0.coords t) tbM0_0 htbM0_0 tbM0_1 htbM0_1 tbM0_2 htbM0_2 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)
theorem leaves0_0 (hO : Ok m) (c : Dev nD) (t : Fin (cfgM m hO).N) : (dats m hO 0 c).leavesExact 0 t
    = (owns (c : Thread nD τ) (ms0_0 m hO t) fullShare ((dats m hO 0 c).after 0 t) : sProp 𝕄) := by
  unfold Dat.leavesExact; rw [liveAt0_0 m hO t]; try rfl
theorem leaves0_1 (hO : Ok m) (c : Dev nD) (t : Fin (cfgM m hO).N) : (dats m hO 0 c).leavesExact 1 t
    = (owns (c : Thread nD τ) (ms0_1 m hO t) fullShare ((dats m hO 0 c).after 1 t) : sProp 𝕄) := by
  unfold Dat.leavesExact; rw [liveAt0_1 m hO t]; try rfl
theorem leaves0_2 (hO : Ok m) (c : Dev nD) (t : Fin (cfgM m hO).N) : (dats m hO 0 c).leavesExact 2 t
    = (owns (c : Thread nD τ) (ms0_2 m hO t) fullShare ((dats m hO 0 c).after 2 t) : sProp 𝕄) := by
  unfold Dat.leavesExact; rw [liveAt0_2 m hO t]; try rfl
theorem leaves0_3 (hO : Ok m) (c : Dev nD) (t : Fin (cfgM m hO).N) : (dats m hO 0 c).leavesExact 3 t
    = (owns (c : Thread nD τ) (ms0_3 m hO t) fullShare ((dats m hO 0 c).after 3 t) : sProp 𝕄) := by
  unfold Dat.leavesExact; rw [liveAt0_3 m hO t]; try rfl
theorem leaves0_4 (hO : Ok m) (c : Dev nD) (t : Fin (cfgM m hO).N) : (dats m hO 0 c).leavesExact 4 t
    = (owns (c : Thread nD τ) (ms0_4 m hO t) fullShare ((dats m hO 0 c).after 4 t) : sProp 𝕄) := by
  unfold Dat.leavesExact; rw [liveAt0_4 m hO t]; try rfl
theorem leaves0_5 (hO : Ok m) (c : Dev nD) (t : Fin (cfgM m hO).N) : (dats m hO 0 c).leavesExact 5 t
    = (owns (c : Thread nD τ) (ms0_5 m hO t) fullShare ((dats m hO 0 c).after 5 t) : sProp 𝕄) := by
  unfold Dat.leavesExact; rw [liveAt0_5 m hO t]; try rfl

set_option maxHeartbeats 1600000 in
/-- The body at any point: the inputs' buffers hold their blocks, the tile count says which branch it takes. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  obtain rfl : c = 0 := Subsingleton.elim _ _
  unfold bodyPre bodyPost bodyAt
  simp only [before0_0, before0_1, before0_2, before0_3, before0_4]
  rw [show (dats m hO 0 0).Φ t.succ = (dats m hO 0 0).Φ t.castSucc from rfl,
    show (dats m hO 0 0).owesAt () t.succ = (dats m hO 0 0).owesAt () t.castSucc from rfl]
  rw [show (dats m hO 0 0).Φ t.castSucc = iprop(Pipeline.ΦA spec0 0 ∗ Pipeline.ΦT pre0 (tbl m) 0) from rfl, PhiT0_eq]
  rw [leaves0_0, leaves0_1, leaves0_2, leaves0_3, leaves0_4, leaves0_5, after0_0, after0_1, after0_2, after0_3, after0_4, after0_5]
  by_cases h2 : k0_cond2 (grid0.coords t) (nused m) = 1#1
  · have h1 : ¬k0_cond1 (grid0.coords t) (nused m) = 1#1 := fun h => (cond1_iff _ _).mp h h2
    rw [← nusedWord_eq] at h1
    have h2' := h2
    rw [← nusedWord_eq] at h2'
    rw [show outAt m hO 0 t = blockUsed (iblk m hO 0 0 t) (iblk m hO 0 1 t) (iblk m hO 0 2 t) (iblk m hO 0 3 t) (iblk m hO 0 4 t) from if_pos h2]
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((runUsed (0 : Dev nD) (grid0.coords t) _ _ _ _ _ _ _ _ _ _ _ _ (iblk m hO 0 0 t) (iblk m hO 0 1 t) (iblk m hO 0 2 t) (iblk m hO 0 3 t) (iblk m hO 0 4 t) (tbl m 0) (tbl m 1) (tbl m 2) h1 h2').2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, ⟨%e5, H5⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read_used _ _ (0 : Dev nD) _ _ _ _ _ _ _ _ _ _ _ _ _ _ _ _ _ _ _ _ _ _ _
  · have h1 : k0_cond1 (grid0.coords t) (nused m) = 1#1 := (cond1_iff _ _).mpr h2
    rw [← nusedWord_eq] at h1
    have h2' := h2
    rw [← nusedWord_eq] at h2'
    rw [show outAt m hO 0 t = blockUnused from if_neg h2]
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((runUnused (0 : Dev nD) (grid0.coords t) _ _ _ _ _ _ _ _ _ _ _ _ (iblk m hO 0 0 t) (iblk m hO 0 1 t) (iblk m hO 0 2 t) (iblk m hO 0 3 t) (iblk m hO 0 4 t) (tbl m 0) (tbl m 1) (tbl m 2) h1 h2').2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, ⟨%e5, H5⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read_unused _ _ (0 : Dev nD) _ _ _ _ _ _ _ _ _ _ _ _ _ _ _ _ _ _ _ _ _ _ _

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- Every execution ends, with the output array at what the blocks' contents make it, every other buffer as the region
    found it and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The frame, for tables whose blocks lie inside the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c)⟩, h.2⟩) (run_main_quiescent m ρ hO)

end Cert.KernelIdeal.Experts

end
-- ==== Proof.SameText.lean ====
/- The printed kernel and its idealization have one text: their bodies, call tables and host code are equal, so the run proved
   of the one is a run of the other. -/
module

public import proofs.«01_k».proof.Proof.Gen.Kernel
public import proofs.«01_k».proof.Proof.Frame

@[expose] public section

set_option maxRecDepth 16384

noncomputable section

namespace Cert.Kernel.Experts

open Idealize.ShloMosaic Idealize.ShloMosaic.TcCoe Idealize.SL.Sem

variable {F : FTy → Type} [FloatOps F]

/-- The kernel's body. -/
theorem body_eq : @Cert.Kernel.cc0_moe_experts F _ _ = @Cert.KernelIdeal.cc0_moe_experts F _ _ := by
  funext i a1 h1 a2 h2 a3 h3 a4 h4 a5 h5 a6 h6 a7 h7 a8 h8 a9 h9
  unfold Cert.Kernel.cc0_moe_experts Cert.KernelIdeal.cc0_moe_experts
  rfl

/-- The table of bodies. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_moe_experts _ _ _ _ _ _ _ _ _ _ _ _ _ _ _ _ _ _ _ = _
    rw [body_eq]
    rfl

/-- The pipelines. -/
theorem pcfgs_eq : Cert.Kernel.pcfgs (F := F) = Cert.KernelIdeal.pcfgs (F := F) := rfl

theorem defs_heq {Λ : Labels} (p p' : Fin 1 → Pipeline.PCfg Cert.KernelIdeal.sig Λ (Elt F)) (h : p = p') (d d' : Defs Cert.KernelIdeal.nD Cert.KernelIdeal.τ Cert.KernelIdeal.sig (Elt F) Λ) (hd : d = d') :
    HEq (Pipeline.defs p d) (Pipeline.defs p' d') := by subst h hd; rfl

theorem defs_heq' : HEq (Cert.Kernel.defs (F := F)) (Cert.KernelIdeal.defs (F := F)) := defs_heq _ _ pcfgs_eq _ _ bodies_eq

theorem defs_eq : Cert.Kernel.defs (F := F) = Cert.KernelIdeal.defs (F := F) := eq_of_heq defs_heq'

set_option backward.isDefEq.respectTransparency false in
set_option maxHeartbeats 0 in
/-- The host code and the call. -/
theorem main_eq : Cert.Kernel.main (F := F) = Cert.KernelIdeal.main (F := F) := by
  unfold Cert.Kernel.main Cert.KernelIdeal.main
  rfl

/-- A run of equal programs. -/
theorem run_eq {Λ : Labels} {d d' : Defs Cert.KernelIdeal.nD Cert.KernelIdeal.τ Cert.KernelIdeal.sig (Elt F) Λ} (hd : d = d')
    {p p' : Dev Cert.KernelIdeal.nD → Prog (TpuEff Cert.KernelIdeal.nD Cert.KernelIdeal.τ Cert.KernelIdeal.sig (Elt F) Λ .tc) PUnit} (hp : p = p') (s Q) (h : θ_run d' (onTc (τ := Cert.KernelIdeal.τ) p') s Q) :
    θ_run d (onTc (τ := Cert.KernelIdeal.τ) p) s Q := by subst hd hp; exact h

variable (m : (ℓ : Loc Cert.Kernel.nD Cert.Kernel.τ Cert.Kernel.sig) → Buf (Elt F) ℓ) (ρ : Dev Cert.Kernel.nD → PrngReg)

set_option backward.isDefEq.respectTransparency false in
set_option maxHeartbeats 0 in
/-- The frame of the printed kernel, for tables whose blocks lie inside the arrays. -/
theorem frame (hO : Cert.KernelIdeal.Experts.Ok (F := F) m) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  run_eq defs_eq main_eq _ _ (Cert.KernelIdeal.Experts.frame (F := F) m ρ hO)

end Cert.Kernel.Experts

end
-- ==== Proof.Counts.lean ====
/- Rows per bucket, tiles per bucket, and the bucket of a tile, as naturals; and the integer host lines that compute
   them, read as words that hold those naturals.

   `f b` is the number of tokens in bucket `b`. A bucket takes `(f b + 511) / 512` tiles of 512 rows, the buckets lie one
   after the other, and a tile's bucket is the number of buckets that end at or before it. Nothing here depends
   on the arrays' floats. -/
module

public import Idealize.ShloMosaic.Lib.Routing.OpsSearch
public import Idealize.ShloMosaic.Lib.Routing.OpsPair
public import Idealize.ShloMosaic.Lib.Routing.Words
public import Idealize.ShloMosaic.Lib.Routing.Model
public import Idealize.ShloMosaic.Lib.PlanTiles.Rows

@[expose] public section

set_option maxRecDepth 16384

noncomputable section

namespace Cert.Counts

open Idealize.ShloMosaic Idealize.ShloMosaic.Routing Idealize.ShloMosaic.ValueIdx Idealize.ShloMosaic.WordCmp
open Idealize.ShloMosaic.Routing (shape0 shape1 shape2)

/-! ## Naturals -/

/-- The tiles that bucket `b` takes. -/
def tiles (f : Nat → Nat) (b : Nat) : Nat := (f b + 511) / 512

/-- The tile at which bucket `b` ends: the tiles of the buckets up to it. -/
def ends (f : Nat → Nat) (b : Nat) : Nat := ((List.range (b + 1)).map (tiles f)).sum

/-- The tiles in use. -/
abbrev used (f : Nat → Nat) : Nat := ends f 23

/-- The number of buckets that end at or before tile `t`: the bucket of a tile in use. -/
def bucketOf (f : Nat → Nat) (t : Nat) : Nat := Nat.count (fun b => ends f b ≤ t) 24

/-- The counts of one batch: each at most all the tokens, together exactly all of them. -/
structure Good (f : Nat → Nat) : Prop where
  le : ∀ b, f b ≤ 32768
  sum : ((List.range 24).map f).sum = 32768

theorem sum_map_le {g h : Nat → Nat} (l : List Nat) (e : ∀ b, g b ≤ h b) : (l.map g).sum ≤ (l.map h).sum := by
  induction l with
  | nil => exact Nat.le_refl _
  | cons a l ih => simp only [List.map_cons, List.sum_cons]; exact Nat.add_le_add (e a) ih

theorem ends_succ (f : Nat → Nat) (b : Nat) : ends f (b + 1) = ends f b + tiles f (b + 1) := by
  unfold ends
  rw [List.range_succ, List.map_append, List.sum_append]
  simp only [List.map_cons, List.map_nil, List.sum_cons, List.sum_nil, Nat.add_zero]

theorem ends_mono (f : Nat → Nat) {a b : Nat} (h : a ≤ b) : ends f a ≤ ends f b := by
  induction b with
  | zero => obtain rfl : a = 0 := by omega
            exact Nat.le_refl _
  | succ b ih =>
    rcases Nat.lt_or_ge b a with h1 | h1
    · obtain rfl : a = b + 1 := by omega
      exact Nat.le_refl _
    · rw [ends_succ]; exact Nat.le_trans (ih h1) (Nat.le_add_right _ _)

/-- All the rows of a batch's tiles: at most 511 more than its tokens for each bucket, and no fewer than its tokens. -/
theorem used_bounds {f : Nat → Nat} (g : Good f) : 1 ≤ used f ∧ used f ≤ 88 := by
  have h1 : ∀ l : List Nat, (l.map f).sum ≤ 512 * (l.map (tiles f)).sum
      ∧ 512 * (l.map (tiles f)).sum ≤ (l.map f).sum + 511 * l.length := by
    intro l
    induction l with
    | nil => simp
    | cons a l ih =>
      simp only [List.map_cons, List.sum_cons, List.length_cons]
      unfold tiles at *
      omega
  have h2 := h1 (List.range 24)
  rw [g.sum, List.length_range] at h2
  show 1 ≤ ((List.range 24).map (tiles f)).sum ∧ ((List.range 24).map (tiles f)).sum ≤ 88
  omega

theorem ends_le {f : Nat → Nat} (g : Good f) {b : Nat} (h : b < 24) : ends f b ≤ 88 :=
  Nat.le_trans (ends_mono f (by omega)) (used_bounds g).2

/-- A tile in use lies in one of the 24 buckets. -/
theorem bucketOf_lt {f : Nat → Nat} {t : Nat} (h : t < used f) : bucketOf f t < 24 := by
  unfold bucketOf
  rw [Nat.count_succ, if_neg (by unfold used at h; omega), Nat.add_zero]
  exact Nat.lt_succ_of_le (Nat.count_le _)

/-- Rows of 512 to a tile: a bucket ends at or before row `r` exactly if it ends at or before `r`'s tile. -/
theorem count_rows (f : Nat → Nat) (r : Nat) : Nat.count (fun b => ends f b * 512 ≤ r) 24 = bucketOf f (r / 512) := by
  unfold bucketOf
  congr 1
  funext b
  exact propext (Nat.le_div_iff_mul_le (by decide)).symm

/-! ## Words -/

section Words

variable {f : Nat → Nat}

/-- The tiles' running sum, as the host computes it from the counts: the ceiling of the quotient by 512, then the sum. -/
theorem ends_word (g : Good f) (x : IVec (shape1 24) 32) (hx : ∀ b : Fin 24, x (ix1 b) = BitVec.ofNat 32 (f b.val))
    (hb : shape0.BroadcastsInDim (shape1 24) (![] : Fin 0 → Fin (shape1 24).rank)) (init : IVec shape0 32) (hinit : init ix0 = 0#32)
    (h : (shape1 24).ReduceWindows (![24] : Fin 1 → Nat) ![1] ![23] ![0] (shape1 24)) (hu : 0 < shape0.numel) (b : Fin 24) :
    Host.reduceWindow IntOp.addi ![24] ![1] ![23] ![0]
      (pyDiv hb (addi x (broadcastInDim (shape1 24) ![] hb (constantI shape0 32 511#32))) (constantI shape0 32 512#32)) init h hu (ix1 b)
      = BitVec.ofNat 32 (ends f b.val) := by
  refine cumsum1 (N := 24) (Nm1 := 23) rfl _ (tiles f) (fun i => ?_) init hinit h hu b
  refine pyDiv_ap hb _ _ _ ?_ rfl (by have := g.le i.val; omega) (by decide) (by decide)
  rw [addi_ap, bc0, constantI_at, hx, show (511#32 : BitVec 32) = BitVec.ofNat 32 511 from rfl, BitVec.ofNat_add_ofNat]

/-- A 0-or-more index below the table's length is not wrapped. -/
theorem wrap_word {k : Nat} (hk : k < 2 ^ 31) (a : BitVec 32) :
    Scalar.select (IntOp.cmpi .slt (BitVec.ofNat 32 k) 0#32) a (BitVec.ofNat 32 k) = BitVec.ofNat 32 k :=
  wrap_of_lt _ _ (by rw [BitVec.toNat_ofNat, Nat.mod_eq_of_lt (by omega)]; exact hk)

theorem min_word {a b : Nat} (ha : a < 2 ^ 31) (hb : b < 2 ^ 31) :
    IntOp.minsi (BitVec.ofNat 32 a) (BitVec.ofNat 32 b) = BitVec.ofNat 32 (min a b) := by
  rw [Idealize.ShloMosaic.PlanTiles.minsi_word ha hb, Nat.min_comm]

/-- The buckets that end at or before a place, counted as the host counts them. -/
theorem count_word {n : Nat} (q : Nat → Nat) (e p : IVec (shape2 n 24) 32) (i : Fin n) {t : Nat} (ht : t < 2 ^ 31) (hq : ∀ b, b < 24 → q b < 2 ^ 31)
    (he : ∀ b : Fin 24, e (ix2 i b) = BitVec.ofNat 32 (q b.val)) (hp : ∀ b : Fin 24, p (ix2 i b) = BitVec.ofNat 32 t)
    (hw : 1 < 32) (h : (shape2 n 24).ReducesTo [1] (shape1 n)) (hu : 0 < shape0.numel) :
    Host.reduce IntOp.addi (extui 32 (cmpi .sle e p) hw) (constantI shape0 32 0#32) h hu (ix1 i)
      = BitVec.ofNat 32 (Nat.count (fun b => q b ≤ t) 24) := by
  refine reduce_count (by decide) _ hw h hu i (fun b => q b ≤ t) fun b => ?_
  rw [cmpi_at, he, hp, cmpi_sle_ofNat_eq_one_iff (w := 32) (hq b.val b.isLt) ht]

end Words

end Cert.Counts

end
-- ==== Proof.Tables.lean ====
/- The three tables that the call prefetches, as the host lines before it compute them from the counts: the tiles in
   use, and for each tile the smaller and the larger expert of its bucket. With them, every block that a window
   names lies inside its array. -/
module

public import proofs.«01_k».proof.Proof.Region
public import proofs.«01_k».proof.Proof.Counts
public import Idealize.ShloMosaic.Lib.Routing.OpsSet
public import proofs.«01_k».proof.Proof.Gen.Pre_counts_of_all_tokens

@[expose] public section

set_option maxRecDepth 16384

noncomputable section

namespace Cert.KernelIdeal.Experts

open Cert.KernelIdeal Cert.KernelIdeal.Gen Cert.Counts
open Idealize.ShloMosaic Idealize.ShloMosaic.TcCoe Idealize.ShloMosaic.Tactic
open Idealize.ShloMosaic.Routing Idealize.ShloMosaic.ValueIdx Idealize.ShloMosaic.WordCmp

variable {F : FTy → Type} [FloatOps F]

/-! ## The precondition -/

theorem ofBool_one {b : Bool} : BitVec.ofBool b = 1#1 ↔ b = true := by cases b <;> decide

/-- The tokens of bucket `b`, by the counts' words. -/
def cnt (x : IVec S24 32) (b : Nat) : Nat := if h : b < 24 then (x (ix1 ⟨b, h⟩)).toNat else 0

theorem cnt_word (x : IVec S24 32) (b : Fin 24) : x (ix1 b) = BitVec.ofNat 32 (cnt x b.val) := by
  unfold cnt
  rw [dif_pos b.isLt]
  apply BitVec.eq_of_toNat_eq
  rw [BitVec.toNat_ofNat, Nat.mod_eq_of_lt (x (ix1 b)).isLt]

/-- What the precondition says of the counts. -/
theorem good_of_pre (a0 : IVec S360448x128 32) (x : IVec S24 32) (a2 : FVec F S16x1024x1024 .f32) (a3 : FVec F S16x512x1024 .f32)
    (h : ∀ y, Cert.Pre_counts_of_all_tokens.fn a0 x a2 a3 y = 1#1) : Good (cnt x) := by
  have e (b : Fin 24) : (x (ix1 b)).toNat ≤ 32768 ∧ Host.reduce IntOp.addi x (constantI S_ 32 0#32)
      Cert.Pre_counts_of_all_tokens.Gen.reducesTo_S24_S_d0 Cert.Pre_counts_of_all_tokens.Gen.h_S_ ValueIdx.ix0 = 32768#32 := by
    have e := h (ix1 b)
    simp only [Cert.Pre_counts_of_all_tokens.fn] at e
    change IntOp.andi (IntOp.andi (IntOp.cmpi .sge (x (ix1 b)) 0#32) (IntOp.cmpi .sle (x (ix1 b)) 32768#32)) (broadcastInDim (shape1 24) ![]
      (Cert.Pre_counts_of_all_tokens.Gen.bcast_S_S24 : shape0.BroadcastsInDim (shape1 24) ![]) (cmpi .eq (Host.reduce IntOp.addi x (constantI shape0 32 0#32)
        Cert.Pre_counts_of_all_tokens.Gen.reducesTo_S24_S_d0 Cert.Pre_counts_of_all_tokens.Gen.h_S_) (constantI shape0 32 32768#32)) (ix1 b)) = 1#1 at e
    rw [bc0, cmpi_at, constantI_at] at e
    simp only [IntOp.cmpi, andi_ofBool, ofBool_one, Bool.and_eq_true, BitVec.sle, decide_eq_true_eq, BitVec.toInt, BitVec.toNat_ofNat, beq_iff_eq] at e
    exact ⟨by have := e.1; omega, e.2⟩
  refine ⟨fun b => ?_, ?_⟩
  · unfold cnt
    split
    · exact (e _).1
    · exact Nat.zero_le _
  · have e1 := reduce_sum x (cnt x) (cnt_word x) Cert.Pre_counts_of_all_tokens.Gen.reducesTo_S24_S_d0 Cert.Pre_counts_of_all_tokens.Gen.h_S_
    rw [show Host.reduce IntOp.addi x (constantI shape0 32 0#32) Cert.Pre_counts_of_all_tokens.Gen.reducesTo_S24_S_d0
      Cert.Pre_counts_of_all_tokens.Gen.h_S_ ValueIdx.ix0 = 32768#32 from (e 0).2] at e1
    have hle : ∀ l : List Nat, (l.map (cnt x)).sum ≤ 32768 * l.length := by
      intro l
      induction l with
      | nil => simp
      | cons a l ih =>
        simp only [List.map_cons, List.sum_cons, List.length_cons]
        have : cnt x a ≤ 32768 := by
          unfold cnt
          split
          · exact (e _).1
          · exact Nat.zero_le _
        omega
    have h2 := hle (List.range 24)
    rw [List.length_range] at h2
    have h3 := congrArg BitVec.toNat e1
    rw [BitVec.toNat_ofNat, BitVec.toNat_ofNat, Nat.mod_eq_of_lt (by omega), Nat.mod_eq_of_lt (by omega)] at h3
    exact h3.symm

/-! ## The host lines -/

/-- The tiles' running sum over the buckets. -/
def endsW (x : IVec S24 32) : IVec S24 32 :=
  Host.reduceWindow IntOp.addi ![24] ![1] ![23] ![0]
    (pyDiv bcast_S_S24 (addi x (broadcastInDim S24 ![] bcast_S_S24 (constantI S_ 32 511#32))) (constantI S_ 32 512#32))
    (broadcastInDim S_ ![] bcast_S_S_ (constantI S_ 32 0#32)) reduceWindows_S24_S24_w24s1p23_0 h_S_

/-- The tiles in use. -/
def usedW (x : IVec S24 32) : IVec S1 32 := extractStridedSlice S1 ![23] (endsW x) slices_S24_S1_23

/-- The tile whose weights a grid point asks for: itself, or the last one in use. -/
def tileW (x : IVec S24 32) : IVec S88 32 :=
  minsi (iotaInDim S88 32 0) (broadcastInDim S88 ![] bcast_S_S88 (subi (shapeCast S_ (usedW x) shapeCasts_S1_S_) (constantI S_ 32 1#32)))

/-- That tile's bucket. -/
def bucketW (x : IVec S24 32) : IVec S88 32 :=
  Host.reduce IntOp.addi (extui 32 (cmpi .sle
    (broadcastInDim S88x24 ![0, 1] bcast_S1x24_S88x24_0_1 (broadcastInDim S1x24 ![1] bcast_S24_S1x24_1 (endsW x)))
    (broadcastInDim S88x24 ![0, 1] bcast_S88x1_S88x24_0_1 (broadcastInDim S88x1 ![0] bcast_S88_S88x1_0 (tileW x)))) natLt_1_32)
    (constantI S_ 32 0#32) reducesTo_S88x24_S88_d1 h_S_

/-- A table of 24 entries looked up at each tile's bucket. -/
def takeW (l : IVec S24 32) (x : IVec S24 32) : IVec S88 32 :=
  Host.gather gather_S24_S88x1_S88_n_0_n_n_0_1_1 l (broadcastInDim S88x1 ![0] bcast_S88_S88x1_0
    (select (cmpi .slt (bucketW x) (broadcastInDim S88 ![] bcast_S_S88 (constantI S_ 32 0#32)))
      (addi (bucketW x) (broadcastInDim S88 ![] bcast_S_S88 (constantI S_ 32 24#32))) (bucketW x)))

section Read

variable (m : (ℓ : Loc nD τ sig) → Buf (Elt F) ℓ)

/-- The counts as launched. -/
abbrev countsOf (c : Dev nD) : IVec S24 32 := m ((c : Thread nD τ).loc main_arg1)

theorem V_main_v4 (c : Dev nD) : V m c main_v4 = usedW (countsOf m c) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp
  rfl

theorem V_main_v25 (c : Dev nD) : V m c main_v25 = takeW (fun i => lit0 (S24.rowMajor i)) (countsOf m c) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp
  rfl

theorem V_main_v32 (c : Dev nD) : V m c main_v32 = takeW (fun i => lit1 (S24.rowMajor i)) (countsOf m c) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp
  rfl

/-- The weights that the windows read: the arguments, rounded. -/
theorem V_main_v17 (c : Dev nD) : V m c main_v17 = (truncf .bf16 (m ((c : Thread nD τ).loc main_arg2) : FVec F S16x1024x1024 .f32) bitsLt_bf16_f32 : FVec F S16x1024x1024 .bf16) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp

theorem V_main_v18 (c : Dev nD) : V m c main_v18 = (truncf .bf16 (m ((c : Thread nD τ).loc main_arg3) : FVec F S16x512x1024 .f32) bitsLt_bf16_f32 : FVec F S16x512x1024 .bf16) := by
  rw [V_eq]
  simp only [hostOps0, hostOps0_1, hostOps0_2, hostOps0_3, StableHlo.TRef.binary, StableHlo.TRef.nullary, StableHlo.TRef.unary, StableHlo.TRef.ternary, StableHlo.TRef.toBuf, StableHlo.TRef.ofBuf, cast_eq]
  after_results_simp

end Read

/-! ## Their words -/

section Words

variable {x : IVec S24 32}

theorem endsW_word (g : Good (cnt x)) (b : Fin 24) : endsW x (ix1 b) = BitVec.ofNat 32 (ends (cnt x) b.val) :=
  ends_word g x (cnt_word x) bcast_S_S24 _ (bc0 _ _ _) _ _ b

theorem usedW_word (g : Good (cnt x)) : usedW x (ix1 (0 : Fin 1)) = BitVec.ofNat 32 (used (cnt x)) :=
  (slice1 23 (endsW x) slices_S24_S1_23 (0 : Fin 1) (by decide)).trans (endsW_word g _)

theorem tileW_word (g : Good (cnt x)) (t : Fin 88) : tileW x (ix1 t) = BitVec.ofNat 32 (min t.val (used (cnt x) - 1)) := by
  have hu := used_bounds g
  have ht := t.isLt
  unfold tileW
  rw [show ∀ a b : IVec S88 32, minsi a b (ix1 t) = IntOp.minsi (a (ix1 t)) (b (ix1 t)) from fun _ _ => rfl, bc0, iota1_ap, subi_ap, constantI_at,
    show shapeCast S_ (usedW x) shapeCasts_S1_S_ ValueIdx.ix0 = usedW x (ix1 (0 : Fin 1)) from shapeCast_apply _ _ _ _ rfl, usedW_word g,
    show (1#32 : BitVec 32) = BitVec.ofNat 32 1 from rfl, ofNat32_sub hu.1, min_word (by omega) (by omega)]

theorem bucketW_word (g : Good (cnt x)) (t : Fin 88) :
    bucketW x (ix1 t) = BitVec.ofNat 32 (bucketOf (cnt x) (min t.val (used (cnt x) - 1))) := by
  have hu := used_bounds g
  refine count_word (ends (cnt x)) _ _ t (by omega) (fun b hb => ?_) (fun b => ?_) (fun b => ?_) _ _ _
  · exact Nat.lt_of_le_of_lt (ends_le g hb) (by decide)
  · rw [bcCols]; exact endsW_word g b
  · rw [bcRows]; exact tileW_word g t

/-- A table's entry for tile `t`. -/
theorem takeW_word (g : Good (cnt x)) (l : IVec S24 32) (t : Fin 88) (hb : bucketOf (cnt x) (min t.val (used (cnt x) - 1)) < 24) :
    takeW l x (ix1 t) = l (ix1 ⟨bucketOf (cnt x) (min t.val (used (cnt x) - 1)), hb⟩) := by
  unfold takeW
  refine gather_take1 _ rfl rfl rfl rfl l _ t ⟨_, hb⟩ ?_ (by decide)
  rw [bcCol, select_at, cmpi_at, bc0, constantI_at, bucketW_word g t]
  exact wrap_word (by omega) _

theorem bucket_lt (g : Good (cnt x)) (t : Nat) : bucketOf (cnt x) (min t (used (cnt x) - 1)) < 24 :=
  bucketOf_lt (by have := (used_bounds g).1; omega)

end Words

/-! ## The blocks -/

/-- The smaller expert of bucket `k`. -/
def loOf (k : Nat) : Nat := if h : k < 24 then (lit0 ⟨k, h⟩).toNat else 0
/-- The larger expert of bucket `k`. -/
def hiOf (k : Nat) : Nat := if h : k < 24 then (lit1 ⟨k, h⟩).toNat else 0

theorem lo_lt_hi {k : Nat} (h : k < 24) : loOf k < hiOf k := by
  unfold loOf hiOf
  rw [dif_pos h, dif_pos h]
  exact (by decide : ∀ k : Fin 24, (lit0 k).toNat < (lit1 k).toNat) ⟨k, h⟩

theorem hiOf_lt (k : Nat) : hiOf k < 16 := by
  unfold hiOf
  split
  · exact (by decide : ∀ k : Fin 24, (lit1 k).toNat < 16) ⟨k, _⟩
  · decide

theorem loOf_lt (k : Nat) : loOf k < 16 := by
  unfold loOf
  split
  · exact (by decide : ∀ k : Fin 24, (lit0 k).toNat < 16) ⟨k, _⟩
  · decide

/-- A bucket's two experts, as indices. -/
def loE (b : Nat) : Fin 16 := ⟨loOf b, loOf_lt b⟩
def hiE (b : Nat) : Fin 16 := ⟨hiOf b, hiOf_lt b⟩

section Blocks

variable (m : (ℓ : Loc nD τ sig) → Buf (Elt F) ℓ)

/-- The counts of the launch as naturals. -/
abbrev cntOf : Nat → Nat := cnt (countsOf m 0)

/-- The bucket whose weights tile `t` asks for. -/
abbrev bktOf (t : Nat) : Nat := bucketOf (cntOf m) (min t (used (cntOf m) - 1))

theorem tbl2 (g : Good (cntOf m)) (j : S1.Idx) : tbl m 2 j = BitVec.ofNat 32 (used (cntOf m)) := by
  have e : tbl m 2 = usedW (countsOf m 0) := V_main_v4 m 0
  rw [e, eq_ix1 j, show j 0 = (0 : Fin 1) from Subsingleton.elim (α := Fin 1) _ _]
  exact usedW_word g

theorem row_ix1 (t : Fin 24) : S24.rowMajor (ix1 t) = t := Fin.ext (Shape.rowMajor_val_one _)

theorem tbl0 (g : Good (cntOf m)) (t : Fin 88) : (tbl m 0 (ix1 t)).toNat = loOf (bktOf m t.val) := by
  have e : tbl m 0 = takeW (fun i => lit0 (S24.rowMajor i)) (countsOf m 0) := V_main_v25 m 0
  rw [e, takeW_word g _ t (bucket_lt g _), row_ix1]
  unfold loOf
  rw [dif_pos (bucket_lt g _)]

theorem tbl1 (g : Good (cntOf m)) (t : Fin 88) : (tbl m 1 (ix1 t)).toNat = hiOf (bktOf m t.val) := by
  have e : tbl m 1 = takeW (fun i => lit1 (S24.rowMajor i)) (countsOf m 0) := V_main_v32 m 0
  rw [e, takeW_word g _ t (bucket_lt g _), row_ix1]
  unfold hiOf
  rw [dif_pos (bucket_lt g _)]

/-- The place that a grid point's load reads in a table of 88. -/
theorem place (i : grid0.Coords) (h : 0 < (Rect.unit (s := S88) (k0_off1 i) S1.size (k0_off1_inb i)).shape.numel) :
    (Rect.unit (s := S88) (k0_off1 i) S1.size (k0_off1_inb i)).emb (Shape.Idx.first h) = ix1 (⟨(i 0).val, (i 0).isLt⟩ : Fin 88) := by
  have hi : (i 0).val < 88 := (i 0).isLt
  funext a
  obtain rfl : a = 0 := Subsingleton.elim (α := Fin 1) _ _
  refine Fin.ext ?_
  show (BitVec.ofNat 32 (i 0).val).toNat + 1 * 0 = (i 0).val
  rw [BitVec.toNat_ofNat, Nat.mod_eq_of_lt (by omega), Nat.mul_zero, Nat.add_zero]

theorem tbl_at (i : grid0.Coords) (h : 0 < (Rect.unit (s := S88) (k0_off1 i) S1.size (k0_off1_inb i)).shape.numel) (f : S88.Idx → BitVec 32) :
    f ((Rect.unit (s := S88) (k0_off1 i) S1.size (k0_off1_inb i)).emb (Shape.Idx.first h)) = f (ix1 (⟨(i 0).val, (i 0).isLt⟩ : Fin 88)) :=
  congrArg f (place i h)

theorem tr0 (g : Good (cntOf m)) (i : grid0.Coords) :
    cc0_transform_0 inb_S1_S1_0 numel1_S1 (tbl m) i = ![min (i 0).val (used (cntOf m) - 1), 0] := by
  have hu := used_bounds g
  have hi : (i 0).val < 88 := (i 0).isLt
  unfold cc0_transform_0
  have e : (tbl m).at 2 (Rect.unit (s := S1) ![0] S1.size inb_S1_S1_0) numel1_S1 = BitVec.ofNat 32 (used (cntOf m)) := tbl2 m g _
  rw [e]
  have e2 : (Scalar.minsi (BitVec.ofNat 32 (i 0).val) (Scalar.subi (BitVec.ofNat 32 (used (cntOf m))) 1#32)).toNat = min (i 0).val (used (cntOf m) - 1) := by
    show (IntOp.minsi (BitVec.ofNat 32 (i 0).val) (BitVec.ofNat 32 (used (cntOf m)) - BitVec.ofNat 32 1)).toNat = _
    rw [ofNat32_sub hu.1, min_word (by omega) (by omega), BitVec.toNat_ofNat, Nat.mod_eq_of_lt (by omega)]
  simp only [e2]
  rfl

theorem tr1 (g : Good (cntOf m)) (i : grid0.Coords) : cc0_transform_1 k0_off1_inb numel1_S1 (tbl m) i = ![loOf (bktOf m (i 0).val), 0, 0] := by
  rw [← tbl0 m g ⟨(i 0).val, (i 0).isLt⟩]
  exact congrArg (fun w : BitVec 32 => (![w.toNat, 0, 0] : Fin 3 → Nat)) (tbl_at i (by rw [show (Rect.unit (s := S88) (k0_off1 i) S1.size (k0_off1_inb i)).shape.numel = 1 from numel1_S1]; exact Nat.one_pos) (tbl m 0))
theorem tr2 (g : Good (cntOf m)) (i : grid0.Coords) : cc0_transform_2 k0_off1_inb numel1_S1 (tbl m) i = ![hiOf (bktOf m (i 0).val), 0, 0] := by
  rw [← tbl1 m g ⟨(i 0).val, (i 0).isLt⟩]
  exact congrArg (fun w : BitVec 32 => (![w.toNat, 0, 0] : Fin 3 → Nat)) (tbl_at i (by rw [show (Rect.unit (s := S88) (k0_off1 i) S1.size (k0_off1_inb i)).shape.numel = 1 from numel1_S1]; exact Nat.one_pos) (tbl m 1))
theorem tr3 (g : Good (cntOf m)) (i : grid0.Coords) : cc0_transform_3 k0_off1_inb numel1_S1 (tbl m) i = ![loOf (bktOf m (i 0).val), 0, 0] := by
  rw [← tbl0 m g ⟨(i 0).val, (i 0).isLt⟩]
  exact congrArg (fun w : BitVec 32 => (![w.toNat, 0, 0] : Fin 3 → Nat)) (tbl_at i (by rw [show (Rect.unit (s := S88) (k0_off1 i) S1.size (k0_off1_inb i)).shape.numel = 1 from numel1_S1]; exact Nat.one_pos) (tbl m 0))
theorem tr4 (g : Good (cntOf m)) (i : grid0.Coords) : cc0_transform_4 k0_off1_inb numel1_S1 (tbl m) i = ![hiOf (bktOf m (i 0).val), 0, 0] := by
  rw [← tbl1 m g ⟨(i 0).val, (i 0).isLt⟩]
  exact congrArg (fun w : BitVec 32 => (![w.toNat, 0, 0] : Fin 3 → Nat)) (tbl_at i (by rw [show (Rect.unit (s := S88) (k0_off1 i) S1.size (k0_off1_inb i)).shape.numel = 1 from numel1_S1]; exact Nat.one_pos) (tbl m 1))

theorem inner {n a b k : Nat} (h : k < n) (d : Fin 3) : ((![k, 0, 0] : Fin 3 → Nat) d + 1) * (![1, a, b] : Fin 3 → Nat) d ≤ (![n, a, b] : Fin 3 → Nat) d := by
  match d with
  | ⟨0, _⟩ => show (k + 1) * 1 ≤ n; omega
  | ⟨1, _⟩ => show (0 + 1) * a ≤ a; omega
  | ⟨2, _⟩ => show (0 + 1) * b ≤ b; omega

theorem words_inner {n a b : Nat} (off : Fin 3 → Nat) (h : ∀ d, (off d + 1) * (![1, a, b] : Fin 3 → Nat) d ≤ (⟨3, ![n, a, b]⟩ : Shape).size d) (h1 : off 1 = 0) :
    (Rect.block (s := ⟨3, ![n, a, b]⟩) ![1, a, b] off h).WholeWords (EltTy.packing .bf16) :=
  .inr ⟨by show 2 ≤ 3; decide, rfl, by show off 1 * a = 0; rw [h1, Nat.zero_mul], rfl⟩

/-- Under the precondition every block lies inside its array. -/
theorem ok (g : Good (cntOf m)) : Ok m := by
  have hu := used_bounds g
  refine ⟨fun i => ⟨fun a => ?_, .inl rfl⟩, fun i => ⟨fun a => ?_, .inr (words_inner _ _ ?_)⟩, fun i => ⟨fun a => ?_, .inr (words_inner _ _ ?_)⟩,
    fun i => ⟨fun a => ?_, .inr (words_inner _ _ ?_)⟩, fun i => ⟨fun a => ?_, .inr (words_inner _ _ ?_)⟩⟩
  · rw [tr0 m g i]
    match a with
    | ⟨0, _⟩ => show (min (i 0).val (used (cntOf m) - 1) + 1) * 4096 ≤ 360448; omega
    | ⟨1, _⟩ => show (0 + 1) * 128 ≤ 128; omega
  · rw [tr1 m g i]; exact inner (loOf_lt _) a
  · rw [tr1 m g i]; rfl
  · rw [tr2 m g i]; exact inner (hiOf_lt _) a
  · rw [tr2 m g i]; rfl
  · rw [tr3 m g i]; exact inner (loOf_lt _) a
  · rw [tr3 m g i]; rfl
  · rw [tr4 m g i]; exact inner (hiOf_lt _) a
  · rw [tr4 m g i]; rfl

end Blocks

end Cert.KernelIdeal.Experts

end
-- ==== Proof.Math.lean ====
/- What the experts' layer computes for one token, on extended reals: the halves of a packed word, a token's row and its
   two gates as the packed row holds them, and one expert's gated two-layer network. Both programs are read
   against these. -/
module

public import Idealize.ShloMosaic.Lib.Pointwise
public import proofs.«01_k».proof.Proof.Counts

@[expose] public section

noncomputable section

namespace Cert.Moe

open Idealize.ShloMosaic

/-- The bf16 number in a word's 16 bits from bit `o` on. -/
def half (o : Nat) (w : BitVec 32) : EReal := Ideal.ofBits FTy.bf16 (w.extractLsb' o 16)

/-- A token's row: the low halves of the first four chunks, then their high halves. -/
def row (w : Fin 8 → Fin 128 → BitVec 32) (c : Fin 1024) : EReal :=
  if h : c.val < 512 then half 0 (w ⟨c.val / 128, by omega⟩ ⟨c.val % 128, Nat.mod_lt _ (by decide)⟩)
  else half 16 (w ⟨(c.val - 512) / 128, by omega⟩ ⟨(c.val - 512) % 128, Nat.mod_lt _ (by decide)⟩)

/-- A gate is the sum of three bf16 numbers. -/
def gate (w : Fin 8 → Fin 128 → BitVec 32) (k : Fin 128) : EReal := half 0 (w 4 k) + half 16 (w 4 k) + half 0 (w 5 k)

/-- One expert's first layer. -/
def pre (t : Fin 1024 → EReal) (Wg : Fin 1024 → Fin 1024 → EReal) (n : Fin 1024) : EReal := ∑ c, t c * Wg c n

/-- Its activation: `silu` of the first half times the second half. -/
def act (t : Fin 1024 → EReal) (Wg : Fin 1024 → Fin 1024 → EReal) (j : Fin 512) : EReal :=
  pre t Wg ⟨j.val, by omega⟩ * Ideal.logistic (pre t Wg ⟨j.val, by omega⟩) * pre t Wg ⟨512 + j.val, by omega⟩

/-- One column of its second layer. -/
def mlp (t : Fin 1024 → EReal) (Wg : Fin 1024 → Fin 1024 → EReal) (Wd : Fin 512 → EReal) : EReal := ∑ j, act t Wg j * Wd j

/-- The packed words of token row `r`, which are eight rows of the array. -/
def tokenWords (a : IVec ⟨2, ![360448, 128]⟩ 32) (r : Fin 45056) (k : Fin 8) (l : Fin 128) : BitVec 32 := a (ix2 ⟨r.val * 8 + k.val, by omega⟩ l)

/-- The layer at row `r` and column `d`, if `f b` tokens are in bucket `b`, whose experts are `lo b` and `hi b`:
    their networks weighted with the token's two gates, and zero past the tiles in use. -/
def layer (f : Nat → Nat) (lo hi : Nat → Fin 16) (a : IVec ⟨2, ![360448, 128]⟩ 32) (wg : (⟨3, ![16, 1024, 1024]⟩ : Shape).Idx → EReal)
    (wd : (⟨3, ![16, 512, 1024]⟩ : Shape).Idx → EReal) (r : Fin 45056) (d : Fin 1024) : EReal :=
  if r.val / 512 < Cert.Counts.used f then
    gate (tokenWords a r) 0 * mlp (row (tokenWords a r)) (fun c n => wg (ix3 (lo (Cert.Counts.bucketOf f (r.val / 512))) c n)) (fun j => wd (ix3 (lo (Cert.Counts.bucketOf f (r.val / 512))) j d))
      + gate (tokenWords a r) 1 * mlp (row (tokenWords a r)) (fun c n => wg (ix3 (hi (Cert.Counts.bucketOf f (r.val / 512))) c n)) (fun j => wd (ix3 (hi (Cert.Counts.bucketOf f (r.val / 512))) j d))
  else 0

/-- The layer as the programs lay it out: eight rows of 128 to a token. -/
def packed (f : Nat → Nat) (lo hi : Nat → Fin 16) (a : IVec ⟨2, ![360448, 128]⟩ 32) (wg : (⟨3, ![16, 1024, 1024]⟩ : Shape).Idx → EReal)
    (wd : (⟨3, ![16, 512, 1024]⟩ : Shape).Idx → EReal) (y : (⟨2, ![360448, 128]⟩ : Shape).Idx) : EReal :=
  layer f lo hi a wg wd ⟨(y 0).val / 8, by have : (y 0).val < 360448 := (y 0).isLt; omega⟩
    ⟨128 * ((y 0).val % 8) + (y 1).val, by have : (y 1).val < 128 := (y 1).isLt; omega⟩

/-- A sum over the experts of which two count. -/
theorem sum_two {n : Nat} (a b : Fin n) (hab : a ≠ b) (f : Fin n → EReal) (h : ∀ e, e ≠ a → e ≠ b → f e = 0) : ∑ e, f e = f a + f b :=
  Finset.sum_eq_add a b hab (fun e _ he => h e he.1 he.2) (fun h => absurd (Finset.mem_univ _) h) (fun h => absurd (Finset.mem_univ _) h)

end Cert.Moe

end
-- ==== Proof.KernelValue.lean ====
/- The kernel's result array: a tile's 512 tokens through its bucket's two experts, and zeros past the tiles in use. -/
module

public import proofs.«01_k».proof.Proof.Frame
public import proofs.«01_k».proof.Proof.Tables
public import proofs.«01_k».proof.Proof.Math
public import Idealize.ShloMosaic.Lib.Pointwise
public import Idealize.ShloMosaic.Lib.Pipeline.ValueKit

@[expose] public section

set_option maxRecDepth 16384

noncomputable section

namespace Cert.KernelIdeal.Experts

open Cert.KernelIdeal Cert.KernelIdeal.Gen Cert.Counts Cert.Moe
open Idealize.ShloMosaic Idealize.ShloMosaic.TcCoe

/-! ## A tile at an index -/

section TileAt

variable (x0 : IVec S4096x128 32) (x1 x2 : FVec Ideal S1x1024x1024 .bf16) (x3 x4 : FVec Ideal S1x512x1024 .bf16)

/-- The packed words of the tile's token `i`. -/
def tileWords (i : Fin 512) (k : Fin 8) (l : Fin 128) : BitVec 32 := x0 (ix2 ⟨i.val * 8 + k.val, by omega⟩ l)

theorem words_at (k : Nat) (hk : k < 8) (inb) (i : Fin 512) (l : Fin 128) : words (F := Ideal) k inb x0 (ix2 i l) = tileWords x0 i ⟨k, hk⟩ l := by
  refine congrArg x0 (funext fun a => Fin.ext ?_)
  fin_cases a
  · show k + 8 * i.val = i.val * 8 + k
    omega
  · show 0 + 1 * l.val = l.val
    omega

theorem half_congr (w : Fin 8 → Fin 128 → BitVec 32) (o : Nat) {k k' : Fin 8} {l l' : Fin 128} (hk : k.val = k'.val) (hl : l.val = l'.val) :
    Ideal.ofBits FTy.bf16 (BitVec.extractLsb' o 16 (w k l)) = half o (w k' l') := by
  rw [Fin.ext hk, Fin.ext hl]
  rfl

/-- The unpacked tokens. -/
theorem pay4_raw (v0 v1 v2 v3 : IVec S512x128 32) (i : Fin 512) (c : Fin 1024) (w : Fin 8 → Fin 128 → BitVec 32) (h0 : ∀ l, v0 (ix2 i l) = w 0 l)
    (h1 : ∀ l, v1 (ix2 i l) = w 1 l) (h2 : ∀ l, v2 (ix2 i l) = w 2 l) (h3 : ∀ l, v3 (ix2 i l) = w 3 l) :
    k0_pay4 (F := Ideal) v0 v1 v2 v3 (ix2 i c) = row w c := by
  pointwise [k0_pay4]
  simp only [h0, h1, h2, h3]
  unfold row
  split_ifs
  all_goals first
    | (exfalso; omega)
    | (rw [dif_pos (by omega)]
       refine half_congr w 0 ?_ ?_
       · simp only [Fin.val_ofNat, Fin.coe_ofNat_eq_mod]; omega
       · show _ = c.val % 128; simp only []; omega)
    | (rw [dif_neg (by omega)]
       refine half_congr w 16 ?_ ?_
       · simp only [Fin.val_ofNat, Fin.coe_ofNat_eq_mod]; omega
       · show _ = (c.val - 512) % 128; simp only []; omega)

theorem pay4_at (i : Fin 512) (c : Fin 1024) :
    k0_pay4 (F := Ideal) (words 0 inb_S4096x128_S512x128_0_0_s_8_1 x0) (words 1 inb_S4096x128_S512x128_1_0_s_8_1 x0) (words 2 inb_S4096x128_S512x128_2_0_s_8_1 x0) (words 3 inb_S4096x128_S512x128_3_0_s_8_1 x0) (ix2 i c)
      = row (tileWords x0 i) c :=
  pay4_raw _ _ _ _ i c _ (words_at x0 0 (by decide) _ i) (words_at x0 1 (by decide) _ i) (words_at x0 2 (by decide) _ i) (words_at x0 3 (by decide) _ i)

theorem tile_at (i : Fin 512) (d : Fin 1024) : yTile (F := Ideal) x0 x1 x2 x3 x4 (ix2 i d)
    = gate (tileWords x0 i) 0 * mlp (row (tileWords x0 i)) (fun c n => x1 (ix3 0 c n)) (fun j => x3 (ix3 0 j d))
      + gate (tileWords x0 i) 1 * mlp (row (tileWords x0 i)) (fun c n => x2 (ix3 0 c n)) (fun j => x4 (ix3 0 j d)) := by
  unfold yTile
  pointwise [k0_pay8, k0_pay5, k0_pay6, k0_pay3, k0_pay7]
  simp only [pay4_at]
  simp only [words_at x0 4 (by decide), words_at x0 5 (by decide)]
  rfl

/-- A tile of 512 tokens is the layer at its rows. -/
theorem tile_layer (f : Nat → Nat) (lo hi : Nat → Fin 16) (a : IVec S360448x128 32) (wg : FVec Ideal S16x1024x1024 .f32) (wd : FVec Ideal S16x512x1024 .f32) (t : Nat) (ht : t < 88) (hu : t < used f)
    (h0 : ∀ (r : Fin 4096) (l : Fin 128), x0 (ix2 r l) = a (ix2 ⟨t * 4096 + r.val, by omega⟩ l))
    (h1 : ∀ r n, x1 (ix3 0 r n) = wg (ix3 (lo (bucketOf f t)) r n)) (h2 : ∀ r n, x2 (ix3 0 r n) = wg (ix3 (hi (bucketOf f t)) r n))
    (h3 : ∀ r n, x3 (ix3 0 r n) = wd (ix3 (lo (bucketOf f t)) r n)) (h4 : ∀ r n, x4 (ix3 0 r n) = wd (ix3 (hi (bucketOf f t)) r n))
    (r : Fin 4096) (l : Fin 128) : blockUsed (F := Ideal) x0 x1 x2 x3 x4 (ix2 r l) = packed f lo hi a wg wd (ix2 ⟨t * 4096 + r.val, by omega⟩ l) := by
  have hq : (t * 4096 + r.val) / 8 / 512 = t := by omega
  have e : blockUsed (F := Ideal) x0 x1 x2 x3 x4 (ix2 r l) = yTile (F := Ideal) x0 x1 x2 x3 x4 (ix2 ⟨r.val / 8, by omega⟩ ⟨128 * (r.val % 8) + l.val, by omega⟩) := by
    unfold blockUsed
    refine congrArg _ (funext fun a => Fin.ext ?_)
    fin_cases a <;> rfl
  have hp : packed f lo hi a wg wd (ix2 ⟨t * 4096 + r.val, by omega⟩ l) = layer f lo hi a wg wd ⟨(t * 4096 + r.val) / 8, by omega⟩ ⟨128 * ((t * 4096 + r.val) % 8) + l.val, by omega⟩ := rfl
  have hw : tileWords x0 ⟨r.val / 8, by omega⟩ = tokenWords a ⟨(t * 4096 + r.val) / 8, by omega⟩ := by
    funext k x
    refine (h0 _ x).trans ?_
    refine congrArg (fun z => a (ix2 z x)) (Fin.ext ?_)
    show t * 4096 + (r.val / 8 * 8 + k.val) = (t * 4096 + r.val) / 8 * 8 + k.val
    omega
  have hd : (⟨128 * (r.val % 8) + l.val, by omega⟩ : Fin 1024) = ⟨128 * ((t * 4096 + r.val) % 8) + l.val, by omega⟩ :=
    Fin.ext (by show 128 * (r.val % 8) + l.val = 128 * ((t * 4096 + r.val) % 8) + l.val; omega)
  rw [e, hp, tile_at, hw, hd]
  unfold layer
  rw [if_pos (by show (t * 4096 + r.val) / 8 / 512 < _; rw [hq]; exact hu)]
  simp only [h1, h2, h3, h4, hq]

/-- Past the tiles in use the layer is zero. -/
theorem unused_layer (f : Nat → Nat) (lo hi : Nat → Fin 16) (a : IVec S360448x128 32) (wg : FVec Ideal S16x1024x1024 .f32) (wd : FVec Ideal S16x512x1024 .f32) (t : Nat) (ht : t < 88) (hu : ¬t < used f)
    (r : Fin 4096) (l : Fin 128) : blockUnused (F := Ideal) (ix2 r l) = packed f lo hi a wg wd (ix2 ⟨t * 4096 + r.val, by omega⟩ l) := by
  have hq : (t * 4096 + r.val) / 8 / 512 = t := by omega
  have hp : packed f lo hi a wg wd (ix2 ⟨t * 4096 + r.val, by omega⟩ l) = layer f lo hi a wg wd ⟨(t * 4096 + r.val) / 8, by omega⟩ ⟨128 * ((t * 4096 + r.val) % 8) + l.val, by omega⟩ := rfl
  rw [hp]
  unfold layer blockUnused
  rw [if_neg (by show ¬(t * 4096 + r.val) / 8 / 512 < _; rw [hq]; exact hu)]
  pointwise [k0_pay1]

end TileAt

/-! ## The blocks at an index -/

section Blocks

variable (m : (ℓ : Loc nD τ sig) → Buf (Elt Ideal) ℓ) (ρ : Dev nD → PrngReg) (g : Good (cntOf m))

theorem grid_val (t : Fin grid0.N) : ((grid0.coords t) 0).val = t.val := by
  have h : t.val < 88 := t.isLt
  rw [Pipeline.Grid.coords_val t 0 (S := 1) (B := 88) (by decide) rfl]
  omega

theorem cond2_iff (i : grid0.Coords) (w : BitVec 32) : k0_cond2 i w = 1#1 ↔ IntOp.cmpi .slt (BitVec.ofNat 32 (i 0).val) w = 1#1 := by
  unfold k0_cond2
  dsimp only
  show Scalar.cmpi .ne (Scalar.extui (IntOp.cmpi .slt (BitVec.ofNat 32 (i 0).val) w)) 0#32 = 1#1 ↔ _
  generalize IntOp.cmpi (w := 32) .slt (BitVec.ofNat 32 (i 0).val) w = b
  revert b
  decide

include g in
/-- The body takes the branch of a tile in use. -/
theorem cond2_used (t : Fin grid0.N) : k0_cond2 (grid0.coords t) (nused m) = 1#1 ↔ t.val < used (cntOf m) := by
  have hu := used_bounds g
  have h : t.val < 88 := t.isLt
  have e : nused m = BitVec.ofNat 32 (used (cntOf m)) := by
    rw [← nusedWord_eq]
    exact tbl2 m g _
  rw [cond2_iff, e, grid_val, WordCmp.cmpi_slt_ofNat_eq_one_iff (w := 32) (by omega) (by omega)]

include g in
/-- Where an element of a window's block lies in the window's array, at a tile in use. -/
theorem blk0_at (hO : Ok m) (t : Fin grid0.N) (ht : t.val < used (cntOf m)) (r : Fin 4096) (l : Fin 128) :
    (iblk m hO 0 0 t : IVec S4096x128 32) (ix2 r l) = (m (((0 : Dev nD) : Thread nD τ).loc main_arg0) : IVec S360448x128 32) (ix2 ⟨t.val * 4096 + r.val, by have : t.val < 88 := t.isLt; omega⟩ l) := by
  have hu := used_bounds g
  rw [← V_main_arg0 m 0]
  refine congrArg (V m 0 main_arg0) (funext fun a => Fin.ext ?_)
  refine (Pipeline.Window.rect_emb_val ((cfgM m hO).win 0) t _ a).trans ?_
  rw [show ((cfgM m hO).win 0).index t = ![min t.val (used (cntOf m) - 1), 0] from (tr0 m g (grid0.coords t)).trans (by rw [grid_val])]
  match a with
  | ⟨0, _⟩ => show min t.val (used (cntOf m) - 1) * 4096 + r.val = t.val * 4096 + r.val; rw [Nat.min_eq_left (by omega)]
  | ⟨1, _⟩ => show 0 * 128 + l.val = l.val; omega

/-- The bucket of a tile in use. -/
theorem bkt_used (t : Fin grid0.N) (ht : t.val < used (cntOf m)) : bktOf m ((grid0.coords t) 0).val = bucketOf (cntOf m) t.val := by
  unfold bktOf
  rw [grid_val, Nat.min_eq_left (by omega)]

/-- The index maps of the weights' windows, at any tables. -/
theorem index_1 (a : (pcfg0 (F := Ideal)).Adm) (t : Fin grid0.N) : ((cfg0 a).win 1).index t = cc0_transform_1 k0_off1_inb numel1_S1 a.1 (grid0.coords t) := rfl
theorem index_2 (a : (pcfg0 (F := Ideal)).Adm) (t : Fin grid0.N) : ((cfg0 a).win 2).index t = cc0_transform_2 k0_off1_inb numel1_S1 a.1 (grid0.coords t) := rfl
theorem index_3 (a : (pcfg0 (F := Ideal)).Adm) (t : Fin grid0.N) : ((cfg0 a).win 3).index t = cc0_transform_3 k0_off1_inb numel1_S1 a.1 (grid0.coords t) := rfl
theorem index_4 (a : (pcfg0 (F := Ideal)).Adm) (t : Fin grid0.N) : ((cfg0 a).win 4).index t = cc0_transform_4 k0_off1_inb numel1_S1 a.1 (grid0.coords t) := rfl

include g in
theorem blk1_at (hO : Ok m) (t : Fin grid0.N) (ht : t.val < used (cntOf m)) (r n : Fin 1024) :
    (iblk m hO 0 1 t : FVec Ideal S1x1024x1024 .bf16) (ix3 0 r n) = (m (((0 : Dev nD) : Thread nD τ).loc main_arg2) : FVec Ideal S16x1024x1024 .f32) (ix3 (loE (bucketOf (cntOf m) t.val)) r n) := by
  refine Eq.trans (b := (V m 0 main_v17 : FVec Ideal S16x1024x1024 .bf16) (ix3 (loE (bucketOf (cntOf m) t.val)) r n)) ?_ (congrFun (V_main_v17 m 0) _)
  refine congrArg (V m 0 main_v17) (funext fun a => Fin.ext ?_)
  refine (Pipeline.Window.rect_emb_val ((cfgM m hO).win 1) t _ a).trans ?_
  have e1 : ((cfgM m hO).win 1).index t = _ := index_1 (adm m hO) t
  have e2 := tr1 m g (grid0.coords t)
  rw [bkt_used m t ht] at e2
  rw [e1.trans e2]
  match a with
  | ⟨0, _⟩ => show loOf (bucketOf (cntOf m) t.val) * 1 + 0 = loOf (bucketOf (cntOf m) t.val); omega
  | ⟨1, _⟩ => show 0 * 1024 + r.val = r.val; omega
  | ⟨2, _⟩ => show 0 * 1024 + n.val = n.val; omega

include g in
theorem blk2_at (hO : Ok m) (t : Fin grid0.N) (ht : t.val < used (cntOf m)) (r n : Fin 1024) :
    (iblk m hO 0 2 t : FVec Ideal S1x1024x1024 .bf16) (ix3 0 r n) = (m (((0 : Dev nD) : Thread nD τ).loc main_arg2) : FVec Ideal S16x1024x1024 .f32) (ix3 (hiE (bucketOf (cntOf m) t.val)) r n) := by
  refine Eq.trans (b := (V m 0 main_v17 : FVec Ideal S16x1024x1024 .bf16) (ix3 (hiE (bucketOf (cntOf m) t.val)) r n)) ?_ (congrFun (V_main_v17 m 0) _)
  refine congrArg (V m 0 main_v17) (funext fun a => Fin.ext ?_)
  refine (Pipeline.Window.rect_emb_val ((cfgM m hO).win 2) t _ a).trans ?_
  have e1 : ((cfgM m hO).win 2).index t = _ := index_2 (adm m hO) t
  have e2 := tr2 m g (grid0.coords t)
  rw [bkt_used m t ht] at e2
  rw [e1.trans e2]
  match a with
  | ⟨0, _⟩ => show hiOf (bucketOf (cntOf m) t.val) * 1 + 0 = hiOf (bucketOf (cntOf m) t.val); omega
  | ⟨1, _⟩ => show 0 * 1024 + r.val = r.val; omega
  | ⟨2, _⟩ => show 0 * 1024 + n.val = n.val; omega

include g in
theorem blk3_at (hO : Ok m) (t : Fin grid0.N) (ht : t.val < used (cntOf m)) (r : Fin 512) (n : Fin 1024) :
    (iblk m hO 0 3 t : FVec Ideal S1x512x1024 .bf16) (ix3 0 r n) = (m (((0 : Dev nD) : Thread nD τ).loc main_arg3) : FVec Ideal S16x512x1024 .f32) (ix3 (loE (bucketOf (cntOf m) t.val)) r n) := by
  refine Eq.trans (b := (V m 0 main_v18 : FVec Ideal S16x512x1024 .bf16) (ix3 (loE (bucketOf (cntOf m) t.val)) r n)) ?_ (congrFun (V_main_v18 m 0) _)
  refine congrArg (V m 0 main_v18) (funext fun a => Fin.ext ?_)
  refine (Pipeline.Window.rect_emb_val ((cfgM m hO).win 3) t _ a).trans ?_
  have e1 : ((cfgM m hO).win 3).index t = _ := index_3 (adm m hO) t
  have e2 := tr3 m g (grid0.coords t)
  rw [bkt_used m t ht] at e2
  rw [e1.trans e2]
  match a with
  | ⟨0, _⟩ => show loOf (bucketOf (cntOf m) t.val) * 1 + 0 = loOf (bucketOf (cntOf m) t.val); omega
  | ⟨1, _⟩ => show 0 * 512 + r.val = r.val; omega
  | ⟨2, _⟩ => show 0 * 1024 + n.val = n.val; omega

include g in
theorem blk4_at (hO : Ok m) (t : Fin grid0.N) (ht : t.val < used (cntOf m)) (r : Fin 512) (n : Fin 1024) :
    (iblk m hO 0 4 t : FVec Ideal S1x512x1024 .bf16) (ix3 0 r n) = (m (((0 : Dev nD) : Thread nD τ).loc main_arg3) : FVec Ideal S16x512x1024 .f32) (ix3 (hiE (bucketOf (cntOf m) t.val)) r n) := by
  refine Eq.trans (b := (V m 0 main_v18 : FVec Ideal S16x512x1024 .bf16) (ix3 (hiE (bucketOf (cntOf m) t.val)) r n)) ?_ (congrFun (V_main_v18 m 0) _)
  refine congrArg (V m 0 main_v18) (funext fun a => Fin.ext ?_)
  refine (Pipeline.Window.rect_emb_val ((cfgM m hO).win 4) t _ a).trans ?_
  have e1 : ((cfgM m hO).win 4).index t = _ := index_4 (adm m hO) t
  have e2 := tr4 m g (grid0.coords t)
  rw [bkt_used m t ht] at e2
  rw [e1.trans e2]
  match a with
  | ⟨0, _⟩ => show hiOf (bucketOf (cntOf m) t.val) * 1 + 0 = hiOf (bucketOf (cntOf m) t.val); omega
  | ⟨1, _⟩ => show 0 * 512 + r.val = r.val; omega
  | ⟨2, _⟩ => show 0 * 1024 + n.val = n.val; omega

/-! ## The result array -/

/-- The layer on the launched arguments. -/
def result : S360448x128.Idx → EReal := packed (cntOf m) loE hiE (m (((0 : Dev nD) : Thread nD τ).loc main_arg0))
  (m (((0 : Dev nD) : Thread nD τ).loc main_arg2)) (m (((0 : Dev nD) : Thread nD τ).loc main_arg3))

include g in
/-- What a point leaves is the layer at its tile. -/
theorem out_at (hO : Ok m) (t : Fin grid0.N) (r : Fin 4096) (l : Fin 128) :
    (outAt m hO 0 t : FVec Ideal S4096x128 .f32) (ix2 r l) = result m (ix2 ⟨t.val * 4096 + r.val, by have : t.val < 88 := t.isLt; omega⟩ l) := by
  unfold outAt result
  by_cases hu : t.val < used (cntOf m)
  · rw [if_pos ((cond2_used m g t).mpr hu)]
    exact tile_layer _ _ _ _ _ _ _ _ _ _ _ t.val t.isLt hu (blk0_at m g hO t hu) (blk1_at m g hO t hu) (blk2_at m g hO t hu) (blk3_at m g hO t hu) (blk4_at m g hO t hu) r l
  · rw [if_neg (fun h => hu ((cond2_used m g t).mp h))]
    exact unused_layer _ _ _ _ _ _ t.val t.isLt hu r l

theorem sep5 (i i' : grid0.Coords) (h : cc0_transform_5 i = cc0_transform_5 i') : i 0 = i' 0 := by
  have e : (BitVec.ofNat 32 (i 0).val).toNat = (BitVec.ofNat 32 (i' 0).val).toNat := congrFun h 0
  have h1 : (i 0).val < 88 := (i 0).isLt
  have h2 : (i' 0).val < 88 := (i' 0).isLt
  rw [BitVec.toNat_ofNat, BitVec.toNat_ofNat, Nat.mod_eq_of_lt (by omega), Nat.mod_eq_of_lt (by omega)] at e
  exact Fin.ext e

/-- Every point writes its block back. -/
theorem flush5 (hO : Ok m) (t : Fin grid0.N) : ((cfgM m hO).win 5).flush t = true :=
  (Pipeline.Window.flush_reads ((cfgM m hO).win 5) rfl 0 (show 1 < 88 by decide) (show grid0.fixedAfter reads0_5 0 = true by decide) (fun i i' h => sep5 i i' h) (P := 1) (m := 0) (show grid0.stride 0 = 1 by decide) rfl t).mpr (Nat.mod_one _)

theorem emb5 (hO : Ok m) (t : Fin grid0.N) (r : Fin 4096) (l : Fin 128) :
    (((cfgM m hO).win 5).blk t).view.emb (ix2 r l) = (ix2 ⟨t.val * 4096 + r.val, by have : t.val < 88 := t.isLt; omega⟩ l : S360448x128.Idx) := by
  have h88 : t.val < 88 := t.isLt
  refine funext fun a => Fin.ext ?_
  refine (Pipeline.Window.rect_emb_val ((cfgM m hO).win 5) t _ a).trans ?_
  rw [show ((cfgM m hO).win 5).index t = ![t.val, 0] from by
    show cc0_transform_5 (grid0.coords t) = _
    unfold cc0_transform_5
    rw [grid_val]
    simp only [BitVec.toNat_ofNat]
    rw [Nat.mod_eq_of_lt (by omega)]]
  match a with
  | ⟨0, _⟩ => rfl
  | ⟨1, _⟩ => show 0 * 128 + l.val = l.val; omega

include g in
theorem out_emb (hO : Ok m) (t : Fin grid0.N) (y : S4096x128.Idx) :
    (outAt m hO 0 t : FVec Ideal S4096x128 .f32) y = result m ((((cfgM m hO).win 5).blk t).view.emb y) := by
  have hy : y = (ix2 (y 0) (y 1) : S4096x128.Idx) := ValueIdx.eq_ix2 y
  exact (congrArg (outAt m hO 0 t) hy).trans ((out_at m g hO t (y 0) (y 1)).trans (congrArg (result m) ((emb5 m hO t (y 0) (y 1)).symm.trans (congrArg (((cfgM m hO).win 5).blk t).view.emb hy.symm))))

theorem cover5 (hO : Ok m) (i : S360448x128.Idx) : ∃ t : Fin grid0.N, ((cfgM m hO).win 5).flush t = true ∧ i ∈ (((cfgM m hO).win 5).blk t).view.set := by
  have h0 : (i 0).val < 360448 := (i 0).isLt
  refine ⟨⟨(i 0).val / 4096, by show _ < 88; omega⟩, flush5 m hO _, ?_⟩
  have e := emb5 m hO ⟨(i 0).val / 4096, by show _ < 88; omega⟩ ⟨(i 0).val % 4096, Nat.mod_lt _ (by decide)⟩ (i 1)
  have hi : (ix2 ⟨(i 0).val / 4096 * 4096 + (i 0).val % 4096, by omega⟩ (i 1) : S360448x128.Idx) = i := by
    refine Eq.trans ?_ (ValueIdx.eq_ix2 i).symm
    refine congrArg (fun z => (ix2 z (i 1) : S360448x128.Idx)) (Fin.ext ?_)
    show (i 0).val / 4096 * 4096 + (i 0).val % 4096 = (i 0).val
    omega
  have h := View.emb_mem_set (((cfgM m hO).win 5).blk ⟨(i 0).val / 4096, by show _ < 88; omega⟩).view (ix2 (⟨(i 0).val % 4096, Nat.mod_lt _ (by decide)⟩ : Fin 4096) (i 1))
  exact Eq.mp (congrArg (fun z => z ∈ _) (e.trans hi)) h

include g in
/-- The result array after the run. -/
theorem final (hO : Ok m) : (dats m hO 0 0).arrAt 5 (cfgM m hO).N = result m :=
  (dats m hO 0 0).arrAt_eq_of_emb 5 (result m) (fun t _ y => (congrFun (after0_5 m hO 0 t) y).trans (out_emb m g hO t y)) (fun i => cover5 m hO i)

include g in
/-- What a run of the kernel leaves: the layer and the arguments. -/
theorem run_layer : θ_run defs (onTc (τ := τ) (main (F := Ideal))) ⟨m, fun _ => 0, ρ⟩ (fun r => ∀ c : Dev nD,
      r.2.mem ((c.tc : Thread nD τ).loc main_v33) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  have hO := ok m g
  (θ_run defs _ _).mono (fun _ h c => by
    obtain rfl : c = 0 := Subsingleton.elim _ _
    exact ⟨((h.1 0).1 5).trans (final m g hO), ((h.1 0).1 0).trans (((dats m hO 0 0).arrAt_in 0 rfl _).trans ((A_eq m hO 0 0).trans (V_main_arg0 m 0))),
      ((h.1 0).2 main_arg1 (by decide : main_arg1 ∈ Pipeline.restRefs sig spec0)).trans (V_main_arg1 m 0),
      ((h.1 0).2 main_arg2 (by decide : main_arg2 ∈ Pipeline.restRefs sig spec0)).trans (V_main_arg2 m 0),
      ((h.1 0).2 main_arg3 (by decide : main_arg3 ∈ Pipeline.restRefs sig spec0)).trans (V_main_arg3 m 0)⟩) (run_main_quiescent m ρ hO)

end Blocks

end Cert.KernelIdeal.Experts

end
-- ==== Proof.RefValue.lean ====
/- The reference's result at an index: its sixteen masked experts, of which the two of the row's bucket count. -/
module

public import proofs.«01_k».proof.Proof.Gen.ReferenceIdeal.Run
public import proofs.«01_k».proof.Proof.Math
public import proofs.«01_k».proof.Proof.Tables
public import Idealize.ShloMosaic.Lib.Pointwise
public import Idealize.ShloMosaic.Lib.Quiescent
public import Idealize.ShloMosaic.Lib.BitcastConvert

@[expose] public section

set_option maxRecDepth 16384

noncomputable section

namespace Cert.ReferenceIdeal.Experts

open Cert.ReferenceIdeal Cert.ReferenceIdeal.Gen Cert.ReferenceIdeal.Value Cert.Moe Cert.Counts
open Idealize.ShloMosaic Idealize.ShloMosaic.Routing Idealize.ShloMosaic.WordCmp
open Cert.KernelIdeal.Experts (cnt cnt_word loOf hiOf lo_lt_hi loOf_lt hiOf_lt loE hiE)

variable (V0 : Valuation τ sig (Elt Ideal))

/-- The four arguments. -/
abbrev xsOf : IVec S360448x128 32 := V0 (Proc.devRef .tc main_arg0)
abbrev countsOf : IVec S24 32 := V0 (Proc.devRef .tc main_arg1)
abbrev wgOf : FVec Ideal S16x1024x1024 .f32 := V0 (Proc.devRef .tc main_arg2)
abbrev wdOf : FVec Ideal S16x512x1024 .f32 := V0 (Proc.devRef .tc main_arg3)

/-! ## One expert -/

/-- One expert's share of the result. -/
def share (e : Nat) (h1 : S45056x16.Slices ![0, e] S45056x1) (h2 : S16x1024x1024.Slices ![e, 0, 0] S1x1024x1024) (h3 : S16x512x1024.Slices ![e, 0, 0] S1x512x1024)
    (comb : FVec Ideal S45056x16 .f32) (t : FVec Ideal S45056x1024 .f32) (wg : FVec Ideal S16x1024x1024 .f32) (wd : FVec Ideal S16x512x1024 .f32) : FVec Ideal S45056x1024 .f32 :=
  have gu := Host.dotGeneral dot_S45056x1024_S1024x1024_S45056x1024_1_0_0_1_n_n none t (shapeCast S1024x1024 (extractStridedSlice S1x1024x1024 ![e, 0, 0] wg h2) shapeCasts_S1x1024x1024_S1024x1024)
  have g := extractStridedSlice S45056x512 ![0, 0] gu slices_S45056x1024_S45056x512_0_0
  mulf (broadcastInDim S45056x1024 ![0, 1] bcast_S45056x1_S45056x1024_0_1 (extractStridedSlice S45056x1 ![0, e] comb h1))
    (Host.dotGeneral dot_S45056x512_S512x1024_S45056x1024_1_0_0_1_n_n none (mulf (mulf g (Host.divf (broadcastInDim S45056x512 ![] bcast_S_S45056x512 (constant S_ .f32 0x3F800000#32)) (addf (broadcastInDim S45056x512 ![] bcast_S_S45056x512 (constant S_ .f32 0x3F800000#32)) (Host.exp (Host.negf g))))) (extractStridedSlice S45056x512 ![0, 512] gu slices_S45056x1024_S45056x512_0_512))
      (shapeCast S512x1024 (extractStridedSlice S1x512x1024 ![e, 0, 0] wd h3) shapeCasts_S1x512x1024_S512x1024))

theorem share_at (e : Fin 16) (h1 h2 h3) (comb t wg wd) (i : Fin 45056) (d : Fin 1024) :
    share e.val h1 h2 h3 comb t wg wd (ix2 i d) = comb (ix2 i e) * mlp (fun c => t (ix2 i c)) (fun c n => wg (ix3 e c n)) (fun j => wd (ix3 e j d)) := by
  pointwise [share]
  rfl

/-- All experts, added one after the other. -/
def shares (comb : FVec Ideal S45056x16 .f32) (t : FVec Ideal S45056x1024 .f32) (wg : FVec Ideal S16x1024x1024 .f32) (wd : FVec Ideal S16x512x1024 .f32) : FVec Ideal S45056x1024 .f32 :=
  addf (addf (addf (addf (addf (addf (addf (addf (addf (addf (addf (addf (addf (addf (addf (addf (broadcastInDim S45056x1024 ![] bcast_S_S45056x1024 (constant S_ .f32 0x00000000#32))
    (share 0 slices_S45056x16_S45056x1_0_0 slices_S16x1024x1024_S1x1024x1024_0_0_0 slices_S16x512x1024_S1x512x1024_0_0_0 comb t wg wd))
    (share 1 slices_S45056x16_S45056x1_0_1 slices_S16x1024x1024_S1x1024x1024_1_0_0 slices_S16x512x1024_S1x512x1024_1_0_0 comb t wg wd))
    (share 2 slices_S45056x16_S45056x1_0_2 slices_S16x1024x1024_S1x1024x1024_2_0_0 slices_S16x512x1024_S1x512x1024_2_0_0 comb t wg wd))
    (share 3 slices_S45056x16_S45056x1_0_3 slices_S16x1024x1024_S1x1024x1024_3_0_0 slices_S16x512x1024_S1x512x1024_3_0_0 comb t wg wd))
    (share 4 slices_S45056x16_S45056x1_0_4 slices_S16x1024x1024_S1x1024x1024_4_0_0 slices_S16x512x1024_S1x512x1024_4_0_0 comb t wg wd))
    (share 5 slices_S45056x16_S45056x1_0_5 slices_S16x1024x1024_S1x1024x1024_5_0_0 slices_S16x512x1024_S1x512x1024_5_0_0 comb t wg wd))
    (share 6 slices_S45056x16_S45056x1_0_6 slices_S16x1024x1024_S1x1024x1024_6_0_0 slices_S16x512x1024_S1x512x1024_6_0_0 comb t wg wd))
    (share 7 slices_S45056x16_S45056x1_0_7 slices_S16x1024x1024_S1x1024x1024_7_0_0 slices_S16x512x1024_S1x512x1024_7_0_0 comb t wg wd))
    (share 8 slices_S45056x16_S45056x1_0_8 slices_S16x1024x1024_S1x1024x1024_8_0_0 slices_S16x512x1024_S1x512x1024_8_0_0 comb t wg wd))
    (share 9 slices_S45056x16_S45056x1_0_9 slices_S16x1024x1024_S1x1024x1024_9_0_0 slices_S16x512x1024_S1x512x1024_9_0_0 comb t wg wd))
    (share 10 slices_S45056x16_S45056x1_0_10 slices_S16x1024x1024_S1x1024x1024_10_0_0 slices_S16x512x1024_S1x512x1024_10_0_0 comb t wg wd))
    (share 11 slices_S45056x16_S45056x1_0_11 slices_S16x1024x1024_S1x1024x1024_11_0_0 slices_S16x512x1024_S1x512x1024_11_0_0 comb t wg wd))
    (share 12 slices_S45056x16_S45056x1_0_12 slices_S16x1024x1024_S1x1024x1024_12_0_0 slices_S16x512x1024_S1x512x1024_12_0_0 comb t wg wd))
    (share 13 slices_S45056x16_S45056x1_0_13 slices_S16x1024x1024_S1x1024x1024_13_0_0 slices_S16x512x1024_S1x512x1024_13_0_0 comb t wg wd))
    (share 14 slices_S45056x16_S45056x1_0_14 slices_S16x1024x1024_S1x1024x1024_14_0_0 slices_S16x512x1024_S1x512x1024_14_0_0 comb t wg wd))
    (share 15 slices_S45056x16_S45056x1_0_15 slices_S16x1024x1024_S1x1024x1024_15_0_0 slices_S16x512x1024_S1x512x1024_15_0_0 comb t wg wd)

theorem shares_at (comb t wg wd) (i : Fin 45056) (d : Fin 1024) :
    shares comb t wg wd (ix2 i d) = ∑ e : Fin 16, comb (ix2 i e) * mlp (fun c => t (ix2 i c)) (fun c n => wg (ix3 e c n)) (fun j => wd (ix3 e j d)) := by
  refine Eq.trans (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (show (broadcastInDim S45056x1024 ![] bcast_S_S45056x1024 (constant (F := Ideal) S_ .f32 0x00000000#32)) (ix2 i d) = (0 : EReal) by pointwise [])
    (share_at 0 slices_S45056x16_S45056x1_0_0 slices_S16x1024x1024_S1x1024x1024_0_0_0 slices_S16x512x1024_S1x512x1024_0_0_0 comb t wg wd i d))
    (share_at 1 slices_S45056x16_S45056x1_0_1 slices_S16x1024x1024_S1x1024x1024_1_0_0 slices_S16x512x1024_S1x512x1024_1_0_0 comb t wg wd i d))
    (share_at 2 slices_S45056x16_S45056x1_0_2 slices_S16x1024x1024_S1x1024x1024_2_0_0 slices_S16x512x1024_S1x512x1024_2_0_0 comb t wg wd i d))
    (share_at 3 slices_S45056x16_S45056x1_0_3 slices_S16x1024x1024_S1x1024x1024_3_0_0 slices_S16x512x1024_S1x512x1024_3_0_0 comb t wg wd i d))
    (share_at 4 slices_S45056x16_S45056x1_0_4 slices_S16x1024x1024_S1x1024x1024_4_0_0 slices_S16x512x1024_S1x512x1024_4_0_0 comb t wg wd i d))
    (share_at 5 slices_S45056x16_S45056x1_0_5 slices_S16x1024x1024_S1x1024x1024_5_0_0 slices_S16x512x1024_S1x512x1024_5_0_0 comb t wg wd i d))
    (share_at 6 slices_S45056x16_S45056x1_0_6 slices_S16x1024x1024_S1x1024x1024_6_0_0 slices_S16x512x1024_S1x512x1024_6_0_0 comb t wg wd i d))
    (share_at 7 slices_S45056x16_S45056x1_0_7 slices_S16x1024x1024_S1x1024x1024_7_0_0 slices_S16x512x1024_S1x512x1024_7_0_0 comb t wg wd i d))
    (share_at 8 slices_S45056x16_S45056x1_0_8 slices_S16x1024x1024_S1x1024x1024_8_0_0 slices_S16x512x1024_S1x512x1024_8_0_0 comb t wg wd i d))
    (share_at 9 slices_S45056x16_S45056x1_0_9 slices_S16x1024x1024_S1x1024x1024_9_0_0 slices_S16x512x1024_S1x512x1024_9_0_0 comb t wg wd i d))
    (share_at 10 slices_S45056x16_S45056x1_0_10 slices_S16x1024x1024_S1x1024x1024_10_0_0 slices_S16x512x1024_S1x512x1024_10_0_0 comb t wg wd i d))
    (share_at 11 slices_S45056x16_S45056x1_0_11 slices_S16x1024x1024_S1x1024x1024_11_0_0 slices_S16x512x1024_S1x512x1024_11_0_0 comb t wg wd i d))
    (share_at 12 slices_S45056x16_S45056x1_0_12 slices_S16x1024x1024_S1x1024x1024_12_0_0 slices_S16x512x1024_S1x512x1024_12_0_0 comb t wg wd i d))
    (share_at 13 slices_S45056x16_S45056x1_0_13 slices_S16x1024x1024_S1x1024x1024_13_0_0 slices_S16x512x1024_S1x512x1024_13_0_0 comb t wg wd i d))
    (share_at 14 slices_S45056x16_S45056x1_0_14 slices_S16x1024x1024_S1x1024x1024_14_0_0 slices_S16x512x1024_S1x512x1024_14_0_0 comb t wg wd i d))
    (share_at 15 slices_S45056x16_S45056x1_0_15 slices_S16x1024x1024_S1x1024x1024_15_0_0 slices_S16x512x1024_S1x512x1024_15_0_0 comb t wg wd i d)) ?_
  simp only [Fin.sum_univ_castSucc, Fin.sum_univ_zero]
  rfl

/-! ## The unpacked token -/

theorem v2_at (i : Fin 45056) (k : Fin 8) (l : Fin 128) (h : Fin 2) :
    res_main_v2 V0 (ix4 i k l h) = half (h.val * 16) (tokenWords (xsOf V0) i k l) := by
  pointwise [res_main_v2]
  rw [Nat.mul_comm]
  have e : splits_S45056x8x128_w32_S45056x8x128x2_w16.drop (ix4 i k l h) 2 = l := rfl
  rfl

theorem v9_at (i : Fin 45056) (c : Fin 1024) : res_main_v9 V0 (ix2 i c) = row (tokenWords (xsOf V0) i) c := by
  pointwise [res_main_v9]
  simp only [v2_at]
  rfl

/-! ## The buckets -/

variable (g : Good (cnt (countsOf V0)))

include g in
theorem v23_word (b : Fin 24) : res_main_v23 V0 (ix1 b) = BitVec.ofNat 32 (ends (cnt (countsOf V0)) b.val * 512) := by
  have e := ends_word g (countsOf V0) (cnt_word _) bcast_S_S24 (broadcastInDim S_ ![] bcast_S_S_ (constantI S_ 32 0#32)) rfl reduceWindows_S24_S24_w24s1p23_0 h_S_ b
  refine (congrArg (fun z => z * 512#32) e).trans ?_
  rw [BitVec.ofNat_mul_ofNat]

theorem v25_word (i : Fin 45056) : res_main_v25 V0 (ix2 i 0) = BitVec.ofNat 32 i.val := by
  pointwise [res_main_v25]

include g in
theorem v33_word (i : Fin 45056) : res_main_v33 V0 (ix1 i) = BitVec.ofNat 32 (min (bucketOf (cnt (countsOf V0)) (i.val / 512)) 23) := by
  have e := count_word (fun b => ends (cnt (countsOf V0)) b * 512)
    (broadcastInDim S45056x24 ![0, 1] bcast_S1x24_S45056x24_0_1 (broadcastInDim S1x24 ![1] bcast_S24_S1x24_1 (res_main_v23 V0)))
    (broadcastInDim S45056x24 ![0, 1] bcast_S45056x1_S45056x24_0_1 (res_main_v25 V0)) i (t := i.val) (by omega)
    (fun b hb => by have := ends_le g hb; omega)
    (fun b => by pointwise []; exact v23_word V0 g b) (fun b => by pointwise []; exact v25_word V0 i) natLt_1_32 reducesTo_S45056x24_S45056_d1 h_S_
  rw [count_rows] at e
  have hb : bucketOf (cnt (countsOf V0)) (i.val / 512) ≤ 24 := Nat.count_le _
  exact (congrArg (fun z => IntOp.minsi z 23#32) e).trans (min_word (by omega) (by omega))

/-- The two experts of a bucket, as the reference's table of pairs has them. -/
theorem pair_word (b : Fin 24) : lit0 (S24x2.rowMajor (ix2 b 0)) = BitVec.ofNat 32 (loOf b.val) ∧ lit0 (S24x2.rowMajor (ix2 b 1)) = BitVec.ofNat 32 (hiOf b.val) := by
  revert b
  decide

/-- The bucket's `k`-th expert. -/
def pairOf (b : Nat) (k : Fin 2) : Nat := if k = 0 then loOf b else hiOf b

theorem pairOf_lt (b : Nat) (k : Fin 2) : pairOf b k < 16 := by
  unfold pairOf
  split
  · exact loOf_lt b
  · exact hiOf_lt b

theorem pair_word' (b : Fin 24) (k : Fin 2) : lit0 (S24x2.rowMajor (ix2 b k)) = BitVec.ofNat 32 (pairOf b.val k) := by
  fin_cases k
  · exact (pair_word b).1
  · exact (pair_word b).2

/-- The two experts at each row. -/
def pairsOf : IVec S45056x2 32 :=
  Host.gather gather_S24x2_S45056x1_S45056x2_1_0_n_n_0_1_12 (fun i => lit0 (S24x2.rowMajor i)) (broadcastInDim S45056x1 ![0] bcast_S45056_S45056x1_0
    (select (cmpi .slt (res_main_v33 V0) (broadcastInDim S45056 ![] bcast_S_S45056 (constantI S_ 32 0#32)))
      (addi (res_main_v33 V0) (broadcastInDim S45056 ![] bcast_S_S45056 (constantI S_ 32 24#32))) (res_main_v33 V0)))

/-- The two gates at each row. -/
def gatesOf : FVec Ideal S45056x2 .f32 :=
  select (broadcastInDim S45056x2 ![0, 1] bcast_S45056x1_S45056x2_0_1 (cmpi .slt (res_main_v25 V0) (broadcastInDim S45056x1 ![] bcast_S_S45056x1 (shapeCast S_ (extractStridedSlice S1 ![23] (res_main_v23 V0) slices_S24_S1_23) shapeCasts_S1_S_)))) (addf (addf (shapeCast _ (extractStridedSlice S45056x1x2x1 ![0, 4, 0, 0] (res_main_v2 V0) slices_S45056x8x128x2_S45056x1x2x1_0_4_0_0) shapeCasts_S45056x1x2x1_S45056x2) (shapeCast _ (extractStridedSlice S45056x1x2x1 ![0, 4, 0, 1] (res_main_v2 V0) slices_S45056x8x128x2_S45056x1x2x1_0_4_0_1) shapeCasts_S45056x1x2x1_S45056x2)) (shapeCast _ (extractStridedSlice S45056x1x2x1 ![0, 5, 0, 0] (res_main_v2 V0) slices_S45056x8x128x2_S45056x1x2x1_0_5_0_0) shapeCasts_S45056x1x2x1_S45056x2)) (broadcastInDim S45056x2 ![] bcast_S_S45056x2 (id (constant S_ .f32 0x00000000#32)))

/-- A weight for each expert from a row's two experts and gates. -/
def weights (P : IVec S45056x2 32) (G : FVec Ideal S45056x2 .f32) : FVec Ideal S45056x16 .f32 :=
  Host.reduceAdd (mulf (uitofp .f32 (cmpi .eq (broadcastInDim S45056x2x16 ![0, 1, 2] bcast_S45056x2x1_S45056x2x16_0_1_2 (broadcastInDim S45056x2x1 ![0, 1] bcast_S45056x2_S45056x2x1_0_1 P)) (broadcastInDim S45056x2x16 ![0, 1, 2] bcast_S1x1x16_S45056x2x16_0_1_2 (iotaInDim S1x1x16 32 2)))) (broadcastInDim S45056x2x16 ![0, 1, 2] bcast_S45056x2x1_S45056x2x16_0_1_2 (broadcastInDim S45056x2x1 ![0, 1] bcast_S45056x2_S45056x2x1_0_1 G))) (constant S_ .f32 0x00000000#32) reducesTo_S45056x2x16_S45056x16_d1 h_S_

theorem weights_at (P G) (i : Fin 45056) (e : Fin 16) :
    weights P G (ix2 i e) = ∑ k : Fin 2, FloatOps.uitofp (F := Ideal) .f32 (IntOp.cmpi .eq (P (ix2 i k)) (BitVec.ofNat 32 e.val)) * G (ix2 i k) := by
  pointwise [weights]

theorem v50_eq : (res_main_v50 V0 : FVec Ideal S45056x16 .f32) = weights (pairsOf V0) (gatesOf V0) := rfl

theorem wrapped_at (w : IVec S45056 32) (i : Fin 45056) :
    broadcastInDim S45056x1 ![0] bcast_S45056_S45056x1_0
      (select (cmpi .slt w (broadcastInDim S45056 ![] bcast_S_S45056 (constantI S_ 32 0#32))) (addi w (broadcastInDim S45056 ![] bcast_S_S45056 (constantI S_ 32 24#32))) w) (ix2 i 0)
      = Scalar.select (IntOp.cmpi .slt (w (ix1 i)) 0#32) (IntOp.addi (w (ix1 i)) 24#32) (w (ix1 i)) := by
  pointwise []

include g in
theorem pairsOf_word (i : Fin 45056) (k : Fin 2) : pairsOf V0 (ix2 i k) = BitVec.ofNat 32 (pairOf (min (bucketOf (cnt (countsOf V0)) (i.val / 512)) 23) k) := by
  refine (gather_row gather_S24x2_S45056x1_S45056x2_1_0_n_n_0_1_12 rfl rfl rfl rfl rfl _ _ i k ⟨min (bucketOf (cnt (countsOf V0)) (i.val / 512)) 23, by omega⟩ ?_ (by decide)).trans (pair_word' _ k)
  refine (wrapped_at (res_main_v33 V0) i).trans ?_
  rw [v33_word V0 g i]
  exact wrap_word (by omega) _

theorem gatesOf_raw (i : Fin 45056) (k : Fin 2) : gatesOf V0 (ix2 i k)
    = Scalar.select (IntOp.cmpi .slt (res_main_v25 V0 (ix2 i 0)) (res_main_v23 V0 (ix1 23))) (gate (tokenWords (xsOf V0) i) ⟨k.val, by omega⟩) 0 := by
  pointwise [gatesOf]
  simp only [v2_at]
  have e : id (constant (F := Ideal) S_ FTy.f32 0#32) ix0 = (0 : EReal) := by pointwise [id]
  exact congrArg (Scalar.select _ _) e

include g in
theorem gatesOf_at (i : Fin 45056) (k : Fin 2) : gatesOf V0 (ix2 i k)
    = if i.val / 512 < used (cnt (countsOf V0)) then gate (tokenWords (xsOf V0) i) ⟨k.val, by omega⟩ else 0 := by
  have h := ends_le g (b := 23) (by decide)
  have hw : res_main_v23 V0 (ix1 23) = BitVec.ofNat 32 (ends (cnt (countsOf V0)) 23 * 512) := v23_word V0 g 23
  rw [gatesOf_raw, v25_word, hw, cmpi_slt_ofNat (by omega) (by omega), select_decide]
  have e : i.val < ends (cnt (countsOf V0)) 23 * 512 ↔ i.val / 512 < ends (cnt (countsOf V0)) 23 := (Nat.div_lt_iff_lt_mul (by decide)).symm
  simp only [e]

theorem one_word : FloatOps.uitofp (F := Ideal) .f32 (BitVec.ofBool true) = (1 : EReal) := by
  change ((((1#1).toNat : ℝ)) : EReal) = 1
  norm_num

theorem zero_word : FloatOps.uitofp (F := Ideal) .f32 (BitVec.ofBool false) = (0 : EReal) := by
  change ((((0#1).toNat : ℝ)) : EReal) = 0
  norm_num

theorem one_at (a b : Nat) (ha : a < 16) (hb : b < 16) :
    FloatOps.uitofp (F := Ideal) .f32 (IntOp.cmpi .eq (BitVec.ofNat 32 a) (BitVec.ofNat 32 b)) = if a = b then (1 : EReal) else 0 := by
  rw [cmpi_eq_ofNat (by omega) (by omega)]
  by_cases h : a = b
  · simp only [h, decide_true, if_true]
    exact one_word
  · simp only [h, decide_false, if_false]
    exact zero_word

include g in
/-- The weight of expert `e` at row `i`: the gate of the place in the row's pair at which it stands, if any. -/
theorem v50_at (i : Fin 45056) (e : Fin 16) : weights (pairsOf V0) (gatesOf V0) (ix2 i e) = ∑ k : Fin 2,
    (if pairOf (min (bucketOf (cnt (countsOf V0)) (i.val / 512)) 23) k = e.val then (1 : EReal) else 0)
      * (if i.val / 512 < used (cnt (countsOf V0)) then gate (tokenWords (xsOf V0) i) ⟨k.val, by omega⟩ else 0) := by
  rw [weights_at]
  refine Finset.sum_congr rfl fun k _ => ?_
  rw [pairsOf_word V0 g, gatesOf_at V0 g, one_at _ _ (pairOf_lt _ _) e.isLt]

include g in
/-- The sixteen experts' sum is the layer. -/
theorem shares_layer (i : Fin 45056) (d : Fin 1024) : shares (res_main_v50 V0) (res_main_v9 V0) (wgOf V0) (wdOf V0) (ix2 i d)
    = layer (cnt (countsOf V0)) loE hiE (xsOf V0) (wgOf V0) (wdOf V0) i d := by
  rw [v50_eq, shares_at]
  simp only [v50_at V0 g, v9_at, Fin.sum_univ_two, layer]
  by_cases hu : i.val / 512 < used (cnt (countsOf V0))
  · have hb := bucketOf_lt hu
    have hmin : min (bucketOf (cnt (countsOf V0)) (i.val / 512)) 23 = bucketOf (cnt (countsOf V0)) (i.val / 512) := by omega
    have hne := lo_lt_hi hb
    rw [if_pos hu, hmin]
    simp only [if_pos hu]
    rw [sum_two (loE (bucketOf (cnt (countsOf V0)) (i.val / 512))) (hiE (bucketOf (cnt (countsOf V0)) (i.val / 512)))
      (fun h => by have := congrArg Fin.val h; simp only [loE, hiE] at this; omega)]
    · simp [pairOf, loE, hiE, hne.ne, hne.ne']
    · intro e h1 h2
      have n1 : ¬ loOf (bucketOf (cnt (countsOf V0)) (i.val / 512)) = e.val := fun h => h1 (Fin.ext h.symm)
      have n2 : ¬ hiOf (bucketOf (cnt (countsOf V0)) (i.val / 512)) = e.val := fun h => h2 (Fin.ext h.symm)
      simp [pairOf, n1, n2]
  · rw [if_neg hu]
    simp only [if_neg hu, mul_zero, add_zero, zero_mul, Finset.sum_const_zero]

/-! ## The run -/

theorem cast_at (u : FVec Ideal S45056x1024 .f32) (a : Fin 360448) (b : Fin 128) : shapeCast S360448x128 u shapeCasts_S45056x1024_S360448x128 (ix2 a b)
    = u (ix2 ⟨a.val / 8, by omega⟩ ⟨128 * (a.val % 8) + b.val, by omega⟩) := by
  pointwise []
  simp only [Nat.mul_comm]

include g in
theorem cast_layer : (shapeCast S360448x128 (shares (res_main_v50 V0) (res_main_v9 V0) (wgOf V0) (wdOf V0)) shapeCasts_S45056x1024_S360448x128 : S360448x128.Idx → EReal)
    = packed (cnt (countsOf V0)) loE hiE (xsOf V0) (wgOf V0) (wdOf V0) := by
  have e : ∀ (a : Fin 360448) (b : Fin 128), shapeCast S360448x128 (shares (res_main_v50 V0) (res_main_v9 V0) (wgOf V0) (wdOf V0)) shapeCasts_S45056x1024_S360448x128 (ix2 a b)
      = packed (cnt (countsOf V0)) loE hiE (xsOf V0) (wgOf V0) (wdOf V0) (ix2 a b) := fun a b => (cast_at _ a b).trans (shares_layer V0 g _ _)
  funext y
  have h : y = ix2 (y 0) (y 1) := ValueIdx.eq_ix2 y
  exact (congrArg _ h).trans ((e (y 0) (y 1)).trans (congrArg _ h.symm))

variable (m : (ℓ : Loc nD τ sig) → Buf (Elt Ideal) ℓ) (ρ : Dev nD → PrngReg)

/-- What a run of the reference leaves: the layer, the arguments and every counter at zero. -/
theorem run_layer (hg : ∀ c : Dev nD, Good (cnt (m ((c.tc : Thread nD τ).loc main_arg1)))) :
    θ_run defs (onTc (τ := τ) (main (F := Ideal))) ⟨m, fun _ => 0, ρ⟩ fun r => (∀ c : Dev nD,
      r.2.mem ((c.tc : Thread nD τ).loc main_v276) = packed (cnt (m ((c.tc : Thread nD τ).loc main_arg1))) loE hiE (m ((c.tc : Thread nD τ).loc main_arg0))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (cast_layer (StableHlo.launchContents m c) (hg c)), (h c).2⟩, sem_eq_zero_of_no_sems (by decide) r.2⟩) (run (F := Ideal) m ρ)

end Cert.ReferenceIdeal.Experts

end
-- ==== Proof.AttnMath.lean ====
/- What the attention to memory computes for one token, on extended reals: the token's row normalised, its queries, four
   heads of softmax attention over the memory's 256 rows, and the output's product added to the row. Both programs are read
   against this. One scales the queries' weights by a constant, the other the scores: on extended reals a real factor that
   is not negative passes through a sum, whatever the terms. -/
module

public import Idealize.ShloMosaic.Lib.Pointwise

@[expose] public section

noncomputable section

namespace Cert.Attn

open Idealize.ShloMosaic

/-- A row under the root mean square of its entries and a gain: 1149239296 is 1024 and 897988541 the small constant. -/
def normed (x g : Fin 1024 → EReal) (i : Fin 1024) : EReal :=
  x i * Ideal.rsqrt (Ideal.div (∑ j, x j * x j) (Ideal.ofBits FTy.f32 0x44800000#32) + Ideal.ofBits FTy.f32 0x358637BD#32) * g i

/-- A query: one column of a product. -/
def query (x : Fin 1024 → EReal) (w : Fin 1024 → EReal) : EReal := ∑ i, x i * w i

/-- The exponential of a score over the greatest of the row, from minus infinity. -/
def expo (s : Fin 256 → EReal) (m : Fin 256) : EReal :=
  Ideal.exp (s m - Finset.fold max (Ideal.ofBits FTy.f32 0xFF800000#32) s Finset.univ)

/-- One head at one column: the softmax of the scores `s` against the column `v` of the memory's values. -/
def head (s v : Fin 256 → EReal) : EReal := ∑ m, Ideal.div (expo s m) (∑ m', expo s m') * v m

/-- Column `d` of the head that column `j` of the row is in: a head has 256 columns. -/
def col (j : Fin 1024) (d : Fin 256) : Fin 1024 := ⟨j.val / 256 * 256 + d.val, by omega⟩

/-- The layer at one column of a token's row, from the scores of the head of each column. -/
def layer (x : Fin 1024 → EReal) (s : Fin 1024 → Fin 256 → EReal) (v : Fin 256 → Fin 1024 → EReal) (wo : Fin 1024 → EReal) (n : Fin 1024) : EReal :=
  x n + ∑ j, head (s j) (fun m => v m j) * wo j

/-- The scale: a head's width to the power minus a half. -/
def scale : EReal := Ideal.ofBits FTy.f32 0x3D800000#32

theorem scale_eq : scale = (((1 : ℝ) / 16 : ℝ) : EReal) := by
  unfold scale
  simp [Ideal.ofBits, Ideal.ieee, -EReal.coe_mul]
  norm_num

theorem scale_nonneg : 0 ≤ scale := by
  rw [scale_eq]; exact EReal.coe_nonneg.mpr (by norm_num)

theorem scale_ne_top : scale ≠ ⊤ := by
  rw [scale_eq]; exact EReal.coe_ne_top _

/-- A factor that is real and not negative passes through a sum. -/
theorem sum_mul_of_nonneg {n : Nat} (f : Fin n → EReal) {c : EReal} (h0 : 0 ≤ c) (h1 : c ≠ ⊤) : (∑ i, f i) * c = ∑ i, f i * c := by
  induction n with
  | zero => simp
  | succ n ih => rw [Fin.sum_univ_castSucc, Fin.sum_univ_castSucc, EReal.right_distrib_of_nonneg_of_ne_top h0 h1, ih]

/-- A score whose queries' weights are scaled is the scaled score. -/
theorem score_scaled (x : Fin 1024 → EReal) (w : Fin 1024 → Fin 256 → EReal) (k : Fin 256 → EReal) :
    ∑ d, query x (fun i => w i d * scale) * k d = (∑ d, query x (fun i => w i d) * k d) * scale := by
  rw [sum_mul_of_nonneg _ scale_nonneg scale_ne_top]
  refine Finset.sum_congr rfl fun d _ => ?_
  unfold query
  rw [mul_right_comm, sum_mul_of_nonneg _ scale_nonneg scale_ne_top]
  exact congrArg (· * k d) (Finset.sum_congr rfl fun i _ => (mul_assoc _ _ _).symm)

/-- Minus infinity taken once more changes no maximum. -/
theorem max_fold (b : EReal) (s : Fin 256 → EReal) : max b (Finset.fold max b s Finset.univ) = Finset.fold max b s Finset.univ :=
  max_eq_right (Finset.le_fold_max b |>.mpr (Or.inl le_rfl))

end Cert.Attn

end
-- ==== Proof.AttnTile.lean ====
/- One tile of the attention's call as a function of its blocks: 1024 tokens of one sequence against its memory. -/
module

public import proofs.«01_k».proof.Proof.Gen.Kernel2Ideal.Value
public import proofs.«01_k».proof.Proof.AttnMath
public import Idealize.ShloMosaic.Lib.WholeRead
public import Idealize.ShloMosaic.Lib.Writes

@[expose] public section

set_option maxRecDepth 16384

noncomputable section

namespace Cert.Kernel2Ideal.Attention

open Cert.Kernel2Ideal Cert.Kernel2Ideal.Gen Cert.Attn
open Idealize.ShloMosaic Idealize.ShloMosaic.TcCoe Idealize.ShloMosaic.Tactic

variable {F : FTy → Type} [FloatOps F]

/-- Columns `o` to `o + 256` of the memory's block: one head's. -/
def cols (o : ℕ) (inb : ∀ a, (![0, 0, o] : Fin 3 → ℕ) a + S1x256x256.size a ≤ S1x256x1024.size a)
    (x : Vec F S1x256x1024 .bf16) : Vec F S1x256x256 .bf16 :=
  fun j => x ((Rect.unit (s := S1x256x1024) ![0, 0, o] S1x256x256.size inb).toLoadRect.idx j)

/-- The tile's result: the rows, and the four heads through the output's product. -/
def tile (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16) : FVec F S1x1024x1024 .f32 :=
  k0_pay14 (k0_pay6 x0) (k0_pay7 x0 x1 x2)
    (k0_pay10 (k0_pay8 x0 x1 x2 (cols 0 inb_S1x256x1024_S1x256x256_0_0_0 x3)) (k0_pay9 x0 x1 x2 (cols 0 inb_S1x256x1024_S1x256x256_0_0_0 x3)) (cols 0 inb_S1x256x1024_S1x256x256_0_0_0 x4))
    (k0_pay11 (k0_pay7 x0 x1 x2) (cols 256 inb_S1x256x1024_S1x256x256_0_0_256 x3) (cols 256 inb_S1x256x1024_S1x256x256_0_0_256 x4))
    (k0_pay12 (k0_pay7 x0 x1 x2) (cols 512 inb_S1x256x1024_S1x256x256_0_0_512 x3)) (cols 512 inb_S1x256x1024_S1x256x256_0_0_512 x4) (cols 768 inb_S1x256x1024_S1x256x256_0_0_768 x3) (cols 768 inb_S1x256x1024_S1x256x256_0_0_768 x4) x5

theorem origin : (![0, 0, 0] : Fin 3 → ℕ) = fun _ => 0 := funext fun a => by fin_cases a <;> rfl

theorem readAt_cols {a : Memref sig .tc .vmem S1x256x1024 .bf16} (h : a.IsWhole) (x : Vec F S1x256x1024 .bf16) (o : ℕ) (inb) :
    View.readAt (Elt F) a.view (Rect.unit (s := S1x256x1024) ![0, 0, o] S1x256x256.size inb).toLoadRect (h.unread x) = cols o inb x :=
  funext fun j => h.readAt_unread x _ j

theorem readAt_row {a : Memref sig .tc .vmem S1x1024x1024 .f32} (h : a.IsWhole) (x : Vec F S1x1024x1024 .f32) :
    View.readAt (Elt F) a.view (Rect.unit (s := S1x1024x1024) ![0, 0, 0] S1x1024x1024.size inb_S1x1024x1024_S1x1024x1024_0_0_0).toLoadRect (h.unread x) = x :=
  funext fun j => (h.readAt_unread x _ j).trans (congrArg x (funext fun a => Fin.ext (by fin_cases a <;> exact (Nat.zero_add _).trans (Nat.one_mul _))))

theorem readAt_gain {a : Memref sig .tc .vmem S1x1024 .f32} (h : a.IsWhole) (x : Vec F S1x1024 .f32) :
    View.readAt (Elt F) a.view (Rect.unit (s := S1x1024) ![0, 0] S1x1024.size inb_S1x1024_S1x1024_0_0).toLoadRect (h.unread x) = x :=
  funext fun j => (h.readAt_unread x _ j).trans (congrArg x (funext fun a => Fin.ext (by fin_cases a <;> exact (Nat.zero_add _).trans (Nat.one_mul _))))

theorem readAt_square {a : Memref sig .tc .vmem S1024x1024 .bf16} (h : a.IsWhole) (x : Vec F S1024x1024 .bf16) :
    View.readAt (Elt F) a.view (Rect.unit (s := S1024x1024) ![0, 0] S1024x1024.size inb_S1024x1024_S1024x1024_0_0).toLoadRect (h.unread x) = x :=
  funext fun j => (h.readAt_unread x _ j).trans (congrArg x (funext fun a => Fin.ext (by fin_cases a <;> exact (Nat.zero_add _).trans (Nat.one_mul _))))

theorem pieces_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1
      = [⟨Rect.unit (s := S1x1024x1024) ![0, 0, 0] S1x1024x1024.size inb_S1x1024x1024_S1x1024x1024_0_0_0, tile x0 x1 x2 x3 x4 x5⟩] := by
  unfold kernelRun0_A; dsimp only
  sl_unfold_words
  rw [readAt_row harg2 x0, readAt_gain harg3 x1, readAt_square harg4 x2, readAt_square harg7 x5,
    readAt_cols harg5 x3 0, readAt_cols harg5 x3 256, readAt_cols harg5 x3 512, readAt_cols harg5 x3 768,
    readAt_cols harg6 x4 0, readAt_cols harg6 x4 256, readAt_cols harg6 x4 512, readAt_cols harg6 x4 768]
  rfl

theorem out_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = tile x0 x1 x2 x3 x4 x5 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9), pieces_A, View.canon_unit_zero (S := S1x1024x1024) origin]

theorem pieces_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : ¬cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) (xs0 : Vec F S24x128 .f32) (xs1 : Vec F S128x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1).1
      = [⟨Rect.unit (s := S1x1024x1024) ![0, 0, 0] S1x1024x1024.size inb_S1x1024x1024_S1x1024x1024_0_0_0, tile x0 x1 x2 x3 x4 x5⟩] := by
  unfold kernelRun0_B; dsimp only
  sl_unfold_words
  rw [readAt_row harg2 x0, readAt_gain harg3 x1, readAt_square harg4 x2, readAt_square harg7 x5,
    readAt_cols harg5 x3 0, readAt_cols harg5 x3 256, readAt_cols harg5 x3 512, readAt_cols harg5 x3 768,
    readAt_cols harg6 x4 0, readAt_cols harg6 x4 256, readAt_cols harg6 x4 512, readAt_cols harg6 x4 768]
  rfl

theorem out_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : ¬cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) (xs0 : Vec F S24x128 .f32) (xs1 : Vec F S128x1024 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 = tile x0 x1 x2 x3 x4 x5 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1), pieces_B, View.canon_unit_zero (S := S1x1024x1024) origin]

end Cert.Kernel2Ideal.Attention

end
-- ==== Proof.AttnRows.lean ====
/- A tile of the attention's call at an index, on extended reals: the token's row against the memory of its sequence. -/
module

public import proofs.«01_k».proof.Proof.AttnTile

@[expose] public section

set_option maxRecDepth 16384

noncomputable section

namespace Cert.Kernel2Ideal.Attention

open Cert.Kernel2Ideal Cert.Kernel2Ideal.Gen Cert.Attn
open Idealize.ShloMosaic

variable (x0 : Vec Ideal S1x1024x1024 .f32) (x1 : Vec Ideal S1x1024 .f32) (x2 : Vec Ideal S1024x1024 .bf16) (x3 : Vec Ideal S1x256x1024 .bf16) (x4 : Vec Ideal S1x256x1024 .bf16) (x5 : Vec Ideal S1024x1024 .bf16)

theorem queries_at (r d : Fin 1024) :
    k0_pay7 (F := Ideal) x0 x1 x2 (ix2 r d) = query (normed (fun j => x0 (ix3 0 r j)) (fun j => x1 (ix2 0 j))) (fun i => x2 (ix2 i d)) := by
  pointwise [k0_pay7, k0_pay6]
  rfl

theorem cols_at (o : ℕ) (inb) (ho : o + 256 ≤ 1024) (x : Vec Ideal S1x256x1024 .bf16) (m d : Fin 256) :
    cols o inb x (ix3 0 m d) = x (ix3 0 m ⟨o + d.val, by omega⟩) :=
  congrArg x (funext fun a => Fin.ext (by
    fin_cases a
    · rfl
    · exact (Nat.zero_add _).trans (Nat.one_mul _)
    · exact congrArg (o + ·) (Nat.one_mul _)))

/-- A head's scores from the tile's queries `q` and that head's keys, whose columns start at `o`. -/
def scoresAt (q : FVec Ideal S1024x1024 .bf16) (o : ℕ) (ho : o + 256 ≤ 1024) (k : Vec Ideal S1x256x256 .bf16) (r : Fin 1024) (m : Fin 256) : EReal :=
  ∑ d : Fin 256, q (ix2 r ⟨o + d.val, by omega⟩) * k (ix3 0 m d)

theorem head0_at (k v : Vec Ideal S1x256x256 .bf16) (r : Fin 1024) (d : Fin 256) :
    k0_pay10 (F := Ideal) (k0_pay8 x0 x1 x2 k) (k0_pay9 x0 x1 x2 k) v (ix2 r d)
      = head (scoresAt (k0_pay7 x0 x1 x2) 0 (by decide) k r) (fun m => v (ix3 0 m d)) := by
  unfold k0_pay9 k0_pay8
  generalize k0_pay7 x0 x1 x2 = q
  pointwise [k0_pay10]
  unfold head expo scoresAt
  simp only [Nat.zero_add]

theorem head1_at (q : FVec Ideal S1024x1024 .bf16) (k v : Vec Ideal S1x256x256 .bf16) (r : Fin 1024) (d : Fin 256) :
    k0_pay11 (F := Ideal) q k v (ix2 r d) = head (scoresAt q 256 (by decide) k r) (fun m => v (ix3 0 m d)) := by
  pointwise [k0_pay11]
  rfl

theorem head2_at (q : FVec Ideal S1024x1024 .bf16) (k : Vec Ideal S1x256x256 .bf16) (r : Fin 1024) (m : Fin 256) :
    k0_pay12 (F := Ideal) q k (ix2 r m)
      = Ideal.div (expo (scoresAt q 512 (by decide) k r) m) (∑ m', expo (scoresAt q 512 (by decide) k r) m') := by
  pointwise [k0_pay12]
  rfl

theorem joined_at (q : FVec Ideal S1024x1024 .bf16) (a b : FVec Ideal S1024x256 .f32) (p : FVec Ideal S1024x256 .bf16) (v2 k3 v3 : Vec Ideal S1x256x256 .bf16) (r n : Fin 1024) :
    k0_pay14 (F := Ideal) (k0_pay6 x0) q a b p v2 k3 v3 x5 (ix3 0 r n)
      = x0 (ix3 0 r n) + ∑ j : Fin 1024,
          (if h : j.val < 256 then a (ix2 r ⟨j.val, h⟩)
            else if h' : j.val - 256 < 256 then b (ix2 r ⟨j.val - 256, h'⟩)
            else if h'' : j.val - 256 - 256 < 256 then ∑ m : Fin 256, p (ix2 r m) * v2 (ix3 0 m ⟨j.val - 256 - 256, h''⟩)
            else head (scoresAt q 768 (by decide) k3 r) (fun m => v3 (ix3 0 m ⟨j.val - 256 - 256 - 256, by omega⟩))) * x5 (ix2 j n) := by
  pointwise [k0_pay14, k0_pay13, k0_pay6]
  rfl

/-- The tile at a token and a column: the layer on the token's row. -/
theorem tile_at (r n : Fin 1024) :
    tile x0 x1 x2 x3 x4 x5 (ix3 0 r n)
      = layer (fun j => x0 (ix3 0 r j))
          (fun j m => ∑ d, query (normed (fun j => x0 (ix3 0 r j)) (fun j => x1 (ix2 0 j))) (fun i => x2 (ix2 i (col j d))) * x3 (ix3 0 m (col j d)))
          (fun m j => x4 (ix3 0 m j)) (fun j => x5 (ix2 j n)) n := by
  unfold tile
  rw [joined_at]
  refine congrArg (x0 (ix3 0 r n) + ·) (Finset.sum_congr rfl fun j _ => congrArg (· * x5 (ix2 j n)) ?_)
  have key : ∀ (o : ℕ) (inb) (ho : o + 256 ≤ 1024) (h : o ≤ j.val) (h' : j.val - o < 256) (h4 : o % 256 = 0),
      head (scoresAt (k0_pay7 x0 x1 x2) o ho (cols o inb x3) r) (fun m => cols o inb x4 (ix3 0 m ⟨j.val - o, h'⟩))
        = head (fun m => ∑ d, query (normed (fun j => x0 (ix3 0 r j)) (fun j => x1 (ix2 0 j))) (fun i => x2 (ix2 i (col j d))) * x3 (ix3 0 m (col j d))) (fun m => x4 (ix3 0 m j)) := by
    intro o inb ho h h' h4
    have hs : scoresAt (k0_pay7 x0 x1 x2) o ho (cols o inb x3) r
        = fun m => ∑ d, query (normed (fun j => x0 (ix3 0 r j)) (fun j => x1 (ix2 0 j))) (fun i => x2 (ix2 i (col j d))) * x3 (ix3 0 m (col j d)) := by
      funext m
      refine Finset.sum_congr rfl fun d _ => ?_
      have hc : (⟨o + d.val, by omega⟩ : Fin 1024) = col j d := Fin.ext (by show o + d.val = j.val / 256 * 256 + d.val; omega)
      rw [queries_at, cols_at o inb ho, hc]
    have hv : (fun m => cols o inb x4 (ix3 0 m ⟨j.val - o, h'⟩)) = fun m => x4 (ix3 0 m j) := by
      funext m
      rw [cols_at o inb ho]
      exact congrArg (fun z => x4 (ix3 0 m z)) (Fin.ext (by show o + (j.val - o) = j.val; omega))
    rw [hs, hv]
  have hj := j.isLt
  by_cases h : j.val < 256
  · rw [dif_pos h, head0_at]
    exact key 0 _ (by decide) (Nat.zero_le _) h rfl
  rw [dif_neg h]
  by_cases h' : j.val - 256 < 256
  · rw [dif_pos h', head1_at]
    exact key 256 _ (by decide) (by omega) h' rfl
  rw [dif_neg h']
  by_cases h'' : j.val - 256 - 256 < 256
  · rw [dif_pos h'']
    simp only [head2_at]
    have e : (⟨j.val - 256 - 256, h''⟩ : Fin 256) = ⟨j.val - 512, by omega⟩ := Fin.ext (by show j.val - 256 - 256 = j.val - 512; omega)
    rw [e]
    exact key 512 _ (by decide) (by omega) (by omega) rfl
  rw [dif_neg h'']
  have e : (⟨j.val - 256 - 256 - 256, by omega⟩ : Fin 256) = ⟨j.val - 768, by omega⟩ := Fin.ext (by show j.val - 256 - 256 - 256 = j.val - 768; omega)
  rw [e]
  exact key 768 _ (by decide) (by omega) (by omega) rfl

end Cert.Kernel2Ideal.Attention

end
-- ==== Proof.AttnKernel.lean ====
/- The call's result at an index of the whole array, on extended reals. -/
module

public import proofs.«01_k».proof.Proof.AttnRows

@[expose] public section

set_option maxRecDepth 16384

noncomputable section

namespace Cert.Kernel2Ideal.Attention

open Cert.Kernel2Ideal Cert.Kernel2Ideal.Gen Cert.Kernel2Ideal.Value Cert.Attn
open Idealize.ShloMosaic Idealize.ShloMosaic.TcCoe Idealize.SL.Sem

section Run
variable {F : FTy → Type} [FloatOps F] (m : (ℓ : Loc nD τ sig) → Buf (Elt F) ℓ)

/-- After every point the output's buffer holds that point's tile. -/
theorem outs_eq (c : Dev nD) (t : Fin cfg0.N) :
    (outsAt0 m c t.val t.isLt).1 = tile (iblk m c 0 t) (iblk m c 1 t) (iblk m c 2 t) (iblk m c 3 t) (iblk m c 4 t) (iblk m c 5 t) := by
  by_cases h : t.val % 32 = 0
  · rw [outsAt0_A m c t h]
    dsimp only
    rw [out_A]
  · rw [outsAt0_B m c t h]
    dsimp only
    rw [out_B]

/-! The arguments as the host leaves them. -/

theorem gain_eq (c : Dev nD) : V m c main_v11 = shapeCast S1x1024 (m ((c : Thread nD τ).loc main_arg3)) shapeCasts_S1024_S1x1024 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  try rfl

theorem queryWeights_eq (c : Dev nD) : V m c main_v14 = truncf .bf16 (mulf (m ((c : Thread nD τ).loc main_arg4)) (broadcastInDim S1024x1024 ![] bcast_S_S1024x1024 (constant S_ .f32 0x3D800000#32))) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  try rfl

theorem outputWeights_eq (c : Dev nD) : V m c main_v15 = truncf .bf16 (m ((c : Thread nD τ).loc main_arg5)) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  try rfl

/-! Where the windows' blocks lie. -/

theorem windows : ∀ t : Fin cfg0.N, win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0
    ∧ win0_4.index t (0 : Fin 3) = t.val / 2 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

theorem rows_at (c : Dev nD) (t : Fin cfg0.N) (b : Fin 16) (p : Fin 2048) (r j : Fin 1024) (hb : t.val / 2 = b.val) (hp : 1024 * (t.val % 2) + r.val = p.val) :
    iblk m c 0 t (ix3 0 r j) = m ((c : Thread nD τ).loc main_arg0) (ix3 b p j) := by
  obtain ⟨e0, e1, e2, _⟩ := windows t
  refine (congrFun (V_main_arg0 m c) _).trans (congrArg (m ((c : Thread nD τ).loc main_arg0)) (funext fun a => Fin.ext ?_))
  match a with
  | ⟨0, _⟩ => show win0_0.index t (0 : Fin 3) * 1 + 1 * 0 = b.val; omega
  | ⟨1, _⟩ => show win0_0.index t (1 : Fin 3) * 1024 + 1 * r.val = p.val; omega
  | ⟨2, _⟩ => show win0_0.index t (2 : Fin 3) * 1024 + 1 * j.val = j.val; omega

theorem keys_at (c : Dev nD) (t : Fin cfg0.N) (b : Fin 16) (r : Fin 256) (j : Fin 1024) (hb : t.val / 2 = b.val) :
    iblk m c 3 t (ix3 0 r j) = m ((c : Thread nD τ).loc main_arg1) (ix3 b r j) := by
  obtain ⟨_, _, _, _, _, _, _, e0, e1, e2, _⟩ := windows t
  refine (congrFun (V_main_arg1 m c) _).trans (congrArg (m ((c : Thread nD τ).loc main_arg1)) (funext fun a => Fin.ext ?_))
  match a with
  | ⟨0, _⟩ => show win0_3.index t (0 : Fin 3) * 1 + 1 * 0 = b.val; omega
  | ⟨1, _⟩ => show win0_3.index t (1 : Fin 3) * 256 + 1 * r.val = r.val; omega
  | ⟨2, _⟩ => show win0_3.index t (2 : Fin 3) * 1024 + 1 * j.val = j.val; omega

theorem values_at (c : Dev nD) (t : Fin cfg0.N) (b : Fin 16) (r : Fin 256) (j : Fin 1024) (hb : t.val / 2 = b.val) :
    iblk m c 4 t (ix3 0 r j) = m ((c : Thread nD τ).loc main_arg2) (ix3 b r j) := by
  obtain ⟨_, _, _, _, _, _, _, _, _, _, e0, e1, e2, _⟩ := windows t
  refine (congrFun (V_main_arg2 m c) _).trans (congrArg (m ((c : Thread nD τ).loc main_arg2)) (funext fun a => Fin.ext ?_))
  match a with
  | ⟨0, _⟩ => show win0_4.index t (0 : Fin 3) * 1 + 1 * 0 = b.val; omega
  | ⟨1, _⟩ => show win0_4.index t (1 : Fin 3) * 256 + 1 * r.val = r.val; omega
  | ⟨2, _⟩ => show win0_4.index t (2 : Fin 3) * 1024 + 1 * j.val = j.val; omega

theorem gain_block (c : Dev nD) (t : Fin cfg0.N) (j : Fin 1024) : iblk m c 1 t (ix2 0 j) = V m c main_v11 (ix2 0 j) := by
  obtain ⟨_, _, _, e0, e1, _⟩ := windows t
  refine congrArg (V m c main_v11) (funext fun a => Fin.ext ?_)
  match a with
  | ⟨0, _⟩ => show win0_1.index t (0 : Fin 2) * 1 + 1 * 0 = 0; omega
  | ⟨1, _⟩ => show win0_1.index t (1 : Fin 2) * 1024 + 1 * j.val = j.val; omega

theorem queryWeights_block (c : Dev nD) (t : Fin cfg0.N) (i j : Fin 1024) : iblk m c 2 t (ix2 i j) = V m c main_v14 (ix2 i j) := by
  obtain ⟨_, _, _, _, _, e0, e1, _⟩ := windows t
  refine congrArg (V m c main_v14) (funext fun a => Fin.ext ?_)
  match a with
  | ⟨0, _⟩ => show win0_2.index t (0 : Fin 2) * 1024 + 1 * i.val = i.val; omega
  | ⟨1, _⟩ => show win0_2.index t (1 : Fin 2) * 1024 + 1 * j.val = j.val; omega

theorem outputWeights_block (c : Dev nD) (t : Fin cfg0.N) (i j : Fin 1024) : iblk m c 5 t (ix2 i j) = V m c main_v15 (ix2 i j) := by
  obtain ⟨_, _, _, _, _, _, _, _, _, _, _, _, _, e0, e1⟩ := windows t
  refine congrArg (V m c main_v15) (funext fun a => Fin.ext ?_)
  match a with
  | ⟨0, _⟩ => show win0_5.index t (0 : Fin 2) * 1024 + 1 * i.val = i.val; omega
  | ⟨1, _⟩ => show win0_5.index t (1 : Fin 2) * 1024 + 1 * j.val = j.val; omega

end Run

variable (m : (ℓ : Loc nD τ sig) → Buf (Elt Ideal) ℓ)

theorem gain_at (c : Dev nD) (t : Fin cfg0.N) (j : Fin 1024) : iblk m c 1 t (ix2 0 j) = m ((c : Thread nD τ).loc main_arg3) (ix1 j) := by
  rw [gain_block, gain_eq]
  pointwise []

theorem queryWeights_at (c : Dev nD) (t : Fin cfg0.N) (i j : Fin 1024) :
    iblk m c 2 t (ix2 i j) = (show EReal from m ((c : Thread nD τ).loc main_arg4) (ix2 i j)) * scale := by
  rw [queryWeights_block, queryWeights_eq]
  pointwise []
  rfl

theorem outputWeights_at (c : Dev nD) (t : Fin cfg0.N) (i j : Fin 1024) : iblk m c 5 t (ix2 i j) = m ((c : Thread nD τ).loc main_arg5) (ix2 i j) := by
  rw [outputWeights_block, outputWeights_eq]
  pointwise []

/-- The array the call returns, at an index. -/
theorem result_at (c : Dev nD) (b : Fin 16) (p : Fin 2048) (n : Fin 1024) :
    G10 m c (ix3 b p n)
      = layer (fun j => m ((c : Thread nD τ).loc main_arg0) (ix3 b p j))
          (fun j k => (∑ d, query (normed (fun j => m ((c : Thread nD τ).loc main_arg0) (ix3 b p j)) (fun j => m ((c : Thread nD τ).loc main_arg3) (ix1 j)))
              (fun i => m ((c : Thread nD τ).loc main_arg4) (ix2 i (col j d))) * m ((c : Thread nD τ).loc main_arg1) (ix3 b k (col j d))) * scale)
          (fun k j => m ((c : Thread nD τ).loc main_arg2) (ix3 b k j)) (fun j => m ((c : Thread nD τ).loc main_arg5) (ix2 j n)) n := by
  have hN : cfg0.N = 32 := N_0
  have hb := b.isLt
  have hp := p.isLt
  have hn := n.isLt
  have ht : pt10Of (ix3 b p n) = 2 * b.val + p.val / 1024 := by
    show 2 * (b.val / 1 - 0) + 1 * (p.val / 1024 - 0) + 1 * (n.val / 1024 - 0) = _
    omega
  have hl : loc10Of (ix3 b p n) = ix3 0 ⟨p.val % 1024, Nat.mod_lt _ (by decide)⟩ n := by
    funext a; apply Fin.ext
    match a with
    | ⟨0, _⟩ => exact Nat.mod_one _
    | ⟨1, _⟩ => rfl
    | ⟨2, _⟩ => exact Nat.mod_eq_of_lt hn
  have hlt : pt10Of (ix3 b p n) < cfg0.N := by rw [ht, hN]; omega
  have h2 : pt10Of (ix3 b p n) / 2 = b.val := by rw [ht]; omega
  have h3 : 1024 * (pt10Of (ix3 b p n) % 2) + p.val % 1024 = p.val := by rw [ht]; omega
  unfold G10
  rw [dif_pos hlt, ← outsAt0_sweep m c _ hlt, outs_eq m c ⟨_, hlt⟩, hl, tile_at]
  simp only [rows_at m c ⟨_, hlt⟩ b p ⟨p.val % 1024, Nat.mod_lt _ (by decide)⟩ _ h2 h3, keys_at m c ⟨_, hlt⟩ b _ _ h2, values_at m c ⟨_, hlt⟩ b _ _ h2, gain_at, queryWeights_at, outputWeights_at, score_scaled]

end Cert.Kernel2Ideal.Attention

end
-- ==== Proof.AttnRef.lean ====
/- The reference's attention to memory at an index. -/
module

public import proofs.«01_k».proof.Proof.Gen.Reference2Ideal.Run
public import proofs.«01_k».proof.Proof.AttnMath
public import Idealize.ShloMosaic.Lib.Quiescent

@[expose] public section

set_option maxRecDepth 16384

noncomputable section

namespace Cert.Reference2Ideal.Attention

open Cert.Reference2Ideal Cert.Reference2Ideal.Gen Cert.Reference2Ideal.Value Cert.Attn
open Idealize.ShloMosaic Idealize.ShloMosaic.TcCoe

variable (x : FVec Ideal S16x2048x1024 .f32) (k v : FVec Ideal S16x256x1024 .bf16) (g : FVec Ideal S1024 .f32) (wq wo : FVec Ideal S1024x1024 .f32)

/-- The normalised rows. -/
def rows : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

theorem rows_at (b : Fin 16) (t : Fin 2048) (i : Fin 1024) :
    rows x g (ix3 b t i) = normed (fun j => x (ix3 b t j)) (fun j => g (ix1 j)) i := by
  pointwise [rows]
  rfl

/-- The queries, a head to an index. -/
def queries (xn : FVec Ideal S16x2048x1024 .f32) : FVec Ideal S16x2048x4x256 .f32 :=
  shapeCast _ (Host.dotGeneral dot_S16x2048x1024_S1024x1024_S16x2048x1024_2_0_01_1_n_n none xn wq) shapeCasts_S16x2048x1024_S16x2048x4x256

theorem queries_at (xn : FVec Ideal S16x2048x1024 .f32) (b : Fin 16) (t : Fin 2048) (h : Fin 4) (d : Fin 256) :
    queries wq xn (ix4 b t h d) = query (fun i => xn (ix3 b t i)) (fun i => wq (ix2 i ⟨h.val * 256 + d.val, by omega⟩)) := by
  pointwise [queries]
  rfl

/-- The keys, a head to an index. -/
def keys : FVec Ideal S16x256x4x256 .f32 := shapeCast _ (extf .f32 k bitsLt_bf16_f32) shapeCasts_S16x256x1024_S16x256x4x256

theorem keys_at (b : Fin 16) (m : Fin 256) (h : Fin 4) (d : Fin 256) : keys k (ix4 b m h d) = k (ix3 b m ⟨h.val * 256 + d.val, by omega⟩) := by
  pointwise [keys]

/-- The scaled scores. -/
def scores (q : FVec Ideal S16x2048x4x256 .f32) (ks : FVec Ideal S16x256x4x256 .f32) : FVec Ideal S16x4x2048x256 .f32 :=
  mulf (Host.dotGeneral dot_S16x2048x4x256_S16x256x4x256_S16x4x2048x256_3_3_1_1_02_02 none q ks)
    (broadcastInDim S16x4x2048x256 ![] bcast_S_S16x4x2048x256 (constant S_ .f32 0x3D800000#32))

theorem scores_at (q : FVec Ideal S16x2048x4x256 .f32) (ks : FVec Ideal S16x256x4x256 .f32) (b : Fin 16) (h : Fin 4) (t : Fin 2048) (m : Fin 256) :
    scores q ks (ix4 b h t m) = (∑ d : Fin 256, q (ix4 b t h d) * ks (ix4 b m h d)) * scale := by
  pointwise [scores]
  rfl

/-- Each row's greatest score. -/
def greatest (s : FVec Ideal S16x4x2048x256 .f32) : FVec Ideal S16x4x2048 .f32 :=
  Host.reduce FloatOps.maximumf s (constant S_ .f32 0xFF800000#32) reducesTo_S16x4x2048x256_S16x4x2048_d3 h_S_

theorem greatest_at (s : FVec Ideal S16x4x2048x256 .f32) (b : Fin 16) (h : Fin 4) (t : Fin 2048) :
    greatest s (ix3 b h t) = Finset.fold max (Ideal.ofBits FTy.f32 0xFF800000#32) (fun m => s (ix4 b h t m)) Finset.univ := by
  pointwise [greatest]

/-- The exponentials over the rows' greatest scores `z`. -/
def lifted (s : FVec Ideal S16x4x2048x256 .f32) (z : FVec Ideal S16x4x2048 .f32) : FVec Ideal S16x4x2048x256 .f32 :=
  Host.exp (subf s (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) z))))

theorem lifted_at (s : FVec Ideal S16x4x2048x256 .f32) (z : FVec Ideal S16x4x2048 .f32) (b : Fin 16) (h : Fin 4) (t : Fin 2048) (m : Fin 256) :
    lifted s z (ix4 b h t m) = Ideal.exp (s (ix4 b h t m) - max (Ideal.ofBits FTy.f32 0xFF800000#32) (z (ix3 b h t))) := by
  pointwise [lifted]

/-- The exponentials over each row's greatest score. -/
def expos (s : FVec Ideal S16x4x2048x256 .f32) : FVec Ideal S16x4x2048x256 .f32 := lifted s (greatest s)

theorem expos_at (s : FVec Ideal S16x4x2048x256 .f32) (b : Fin 16) (h : Fin 4) (t : Fin 2048) (m : Fin 256) :
    expos s (ix4 b h t m) = expo (fun m => s (ix4 b h t m)) m := by
  unfold expos
  rw [lifted_at, greatest_at, max_fold]
  rfl

/-- The heads' weighted values through the output's product, added to the rows. -/
def joined (e : FVec Ideal S16x4x2048x256 .f32) : FVec Ideal S16x2048x1024 .f32 :=
  addf x (Host.dotGeneral dot_S16x2048x1024_S1024x1024_S16x2048x1024_2_0_01_1_n_n none (shapeCast _ (transpose S16x2048x4x256 [0, 3, 1, 2] (Host.dotGeneral dot_S16x256x4x256_S16x4x2048x256_S16x4x256x2048_1_3_3_2_02_01 none (shapeCast _ (extf .f32 v bitsLt_bf16_f32) shapeCasts_S16x256x1024_S16x256x4x256) (Host.divf e (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd e (constant S_ .f32 0x00000000#32) reducesTo_S16x4x2048x256_S16x4x2048_d3 h_S_))))) transposes_S16x4x256x2048_S16x2048x4x256_0_3_1_2) shapeCasts_S16x2048x4x256_S16x2048x1024) wo)

theorem joined_at (e : FVec Ideal S16x4x2048x256 .f32) (b : Fin 16) (t : Fin 2048) (n : Fin 1024) :
    joined x v wo e (ix3 b t n)
      = x (ix3 b t n) + ∑ j : Fin 1024, (∑ m : Fin 256, Ideal.div (e (ix4 b ⟨j.val / 256, by omega⟩ t m)) (∑ m', e (ix4 b ⟨j.val / 256, by omega⟩ t m')) * v (ix3 b m j)) * wo (ix2 j n) := by
  pointwise [joined]
  simp only [mul_comm (v _)]

/-- The layer's result as the reference computes it. -/
def attended : FVec Ideal S16x2048x1024 .f32 := joined x v wo (expos (scores (queries wq (rows x g)) (keys k)))

theorem attended_at (b : Fin 16) (t : Fin 2048) (n : Fin 1024) :
    attended x k v g wq wo (ix3 b t n)
      = layer (fun j => x (ix3 b t j))
          (fun j m => (∑ d, query (normed (fun j => x (ix3 b t j)) (fun j => g (ix1 j))) (fun i => wq (ix2 i (col j d))) * k (ix3 b m (col j d))) * scale)
          (fun m j => v (ix3 b m j)) (fun j => wo (ix2 j n)) n := by
  unfold attended
  rw [joined_at]
  simp only [expos_at, scores_at, queries_at, keys_at, rows_at]
  rfl

theorem result_eq (m : (ℓ : Loc nD τ sig) → Buf (Elt Ideal) ℓ) (c : Dev nD) :
    res_main_v37 (F := Ideal) (StableHlo.launchContents m c) = attended (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v37 attended joined expos scores queries keys rows
  rfl

end Cert.Reference2Ideal.Attention

end
-- ==== Proof.AttnValue.lean ====
/- The two programs of the attention call leave the same array, and the reference's semaphores stay at zero. -/
module

public import proofs.«01_k».proof.Proof.AttnKernel
public import proofs.«01_k».proof.Proof.AttnRef

@[expose] public section

noncomputable section

namespace Cert.Attn

open Idealize.ShloMosaic Idealize.ShloMosaic.TcCoe Idealize.SL.Sem

theorem same_array (m : (ℓ : Loc Cert.Kernel2Ideal.nD Cert.Kernel2Ideal.τ Cert.Kernel2Ideal.sig) → Buf (Elt Ideal) ℓ) (c : Dev Cert.Kernel2Ideal.nD) :
    Cert.Kernel2Ideal.Value.G10 m c
      = Cert.Reference2Ideal.Attention.attended (m ((c.tc : Thread Cert.Kernel2Ideal.nD Cert.Kernel2Ideal.τ).loc Cert.Kernel2Ideal.main_arg0))
          (m ((c.tc : Thread Cert.Kernel2Ideal.nD Cert.Kernel2Ideal.τ).loc Cert.Kernel2Ideal.main_arg1))
          (m ((c.tc : Thread Cert.Kernel2Ideal.nD Cert.Kernel2Ideal.τ).loc Cert.Kernel2Ideal.main_arg2))
          (m ((c.tc : Thread Cert.Kernel2Ideal.nD Cert.Kernel2Ideal.τ).loc Cert.Kernel2Ideal.main_arg3))
          (m ((c.tc : Thread Cert.Kernel2Ideal.nD Cert.Kernel2Ideal.τ).loc Cert.Kernel2Ideal.main_arg4))
          (m ((c.tc : Thread Cert.Kernel2Ideal.nD Cert.Kernel2Ideal.τ).loc Cert.Kernel2Ideal.main_arg5)) := by
  funext i
  obtain ⟨b, p, n, rfl⟩ : ∃ (b : Fin 16) (p : Fin 2048) (n : Fin 1024), i = ix3 b p n := ⟨i 0, i 1, i 2, by
    funext a
    match a with
    | ⟨0, _⟩ => rfl
    | ⟨1, _⟩ => rfl
    | ⟨2, _⟩ => rfl⟩
  exact (Cert.Kernel2Ideal.Attention.result_at m c b p n).trans (Cert.Reference2Ideal.Attention.attended_at _ _ _ _ _ _ b p n).symm

end Cert.Attn

end
-- ==== Proof.RouteMath.lean ====
/- The router's choice for one token, as mathematics on extended reals: the group with the largest logit, the two largest
   of that group's experts, and the number of the pair. -/
module

public import Idealize.ShloMosaic.Lib.Pointwise

@[expose] public section

noncomputable section

namespace Cert.Route

open Idealize.ShloMosaic

/-- The place of the first largest of four numbers, found by comparing them in turn. -/
def place (a b c d : EReal) : EReal :=
  if max (max a b) c < d then 3 else if max a b < c then 2 else if a < b then 1 else 0

/-- The place of the first largest of four numbers, as the smallest place that holds the largest. -/
def firstLargest (x : Fin 4 → EReal) : EReal :=
  min (if x 0 = max (max (max (x 0) (x 1)) (x 2)) (x 3) then 0 else 4) (min (if x 1 = max (max (max (x 0) (x 1)) (x 2)) (x 3) then 1 else 4)
    (min (if x 2 = max (max (max (x 0) (x 1)) (x 2)) (x 3) then 2 else 4) (if x 3 = max (max (max (x 0) (x 1)) (x 2)) (x 3) then 3 else 4)))

theorem firstLargest_eq (x : Fin 4 → EReal) : firstLargest x = place (x 0) (x 1) (x 2) (x 3) := by
  unfold firstLargest place
  generalize x 0 = a
  generalize x 1 = b
  generalize x 2 = c
  generalize x 3 = d
  have h04 : (0 : EReal) ≤ 4 := by norm_num
  have h14 : (1 : EReal) ≤ 4 := by norm_cast
  have h24 : (2 : EReal) ≤ 4 := by norm_cast
  have h34 : (3 : EReal) ≤ 4 := by norm_cast
  have h01 : (0 : EReal) ≤ 1 := by norm_num
  have h02 : (0 : EReal) ≤ 2 := by norm_num
  have h03 : (0 : EReal) ≤ 3 := by norm_num
  have h12 : (1 : EReal) ≤ 2 := by norm_cast
  have h13 : (1 : EReal) ≤ 3 := by norm_cast
  have h23 : (2 : EReal) ≤ 3 := by norm_cast
  by_cases p3 : max (max a b) c < d
  · have e : max (max (max a b) c) d = d := max_eq_right p3.le
    have ha : a ≠ d := ((le_max_left a b).trans (le_max_left _ c)).trans_lt p3 |>.ne
    have hb : b ≠ d := ((le_max_right a b).trans (le_max_left _ c)).trans_lt p3 |>.ne
    have hc : c ≠ d := (le_max_right _ c).trans_lt p3 |>.ne
    rw [e, if_neg ha, if_neg hb, if_neg hc, if_pos rfl, if_pos p3, min_eq_right h34, min_eq_right h34, min_eq_right h34]
  have e3 : max (max (max a b) c) d = max (max a b) c := max_eq_left (not_lt.1 p3)
  rw [e3, if_neg p3]
  by_cases p2 : max a b < c
  · have e : max (max a b) c = c := max_eq_right p2.le
    have ha : a ≠ c := (le_max_left a b).trans_lt p2 |>.ne
    have hb : b ≠ c := (le_max_right a b).trans_lt p2 |>.ne
    rw [e, if_neg ha, if_neg hb, if_pos rfl, if_pos p2]
    split <;> simp [h23, h24]
  have e2 : max (max a b) c = max a b := max_eq_left (not_lt.1 p2)
  rw [e2, if_neg p2]
  by_cases p1 : a < b
  · have e : max a b = b := max_eq_right p1.le
    rw [e, if_neg p1.ne, if_pos rfl, if_pos p1]
    split <;> split <;> simp [h12, h13, h14]
  have e1 : max a b = a := max_eq_left (not_lt.1 p1)
  rw [e1, if_pos rfl, if_neg p1]
  split <;> split <;> split <;> simp [h01, h02, h03, h04]

/-! The constants, decoded. -/

theorem two : Ideal.ofBits FTy.f32 0x40000000#32 = 2 := by
  simp [Ideal.ofBits, Ideal.ieee, -EReal.coe_mul]
  norm_num
  norm_cast

theorem three : Ideal.ofBits FTy.f32 0x40400000#32 = 3 := by
  simp [Ideal.ofBits, Ideal.ieee, -EReal.coe_mul]
  norm_num
  norm_cast

theorem four : Ideal.ofBits FTy.f32 0x40800000#32 = 4 := by
  simp [Ideal.ofBits, Ideal.ieee, -EReal.coe_mul]
  norm_num
  norm_cast

/-- Keeping the greater of two numbers. -/
theorem keep_greater (a b : EReal) : (if a < b then b else a) = max a b := by
  split
  · rename_i h
    exact (max_eq_right h.le).symm
  · rename_i h
    exact (max_eq_left (not_lt.1 h)).symm

/-- The logit of the group whose number is `g`. -/
def chosen (g a b c d : EReal) : EReal := if g = 0 then a else if g = 1 then b else if g = 2 then c else d

/-- The places are the numbers 0 to 3. -/
theorem place_cases (a b c d : EReal) : place a b c d = 0 ∨ place a b c d = 1 ∨ place a b c d = 2 ∨ place a b c d = 3 := by
  unfold place
  split
  · simp
  · split
    · simp
    · split <;> simp

/-- The number of a group's pair of experts, whose places are `i` and `j`: 1086324736 is 6, 1088421888 is 7 and 1056964608 a half. -/
def pairNumber (g i j : EReal) : EReal :=
  g * Ideal.ofBits FTy.f32 0x40C00000#32 + min i j * (Ideal.ofBits FTy.f32 0x40E00000#32 - min i j) * Ideal.ofBits FTy.f32 0x3F000000#32
    + (max i j - min i j - 1)

/-- A logit, or the lowest number where its place `k` is already taken. -/
def left (i k a : EReal) : EReal := if i = k then Ideal.ofBits FTy.f32 0xFF800000#32 else a

/-- The second largest's place, given the first's. -/
def second (i a b c d : EReal) : EReal := place (left i 0 a) (left i 1 b) (left i 2 c) (left i 3 d)

/-- The bucket of a token from its group's number and its group's logits. -/
def bucketIn (g a b c d : EReal) : EReal := pairNumber g (place a b c d) (second (place a b c d) a b c d)

/-- The bucket of a token from its twenty logits: the groups', then each group's experts'. -/
def bucket (l : Fin 20 → EReal) : EReal :=
  bucketIn (place (l 0) (l 1) (l 2) (l 3)) (chosen (place (l 0) (l 1) (l 2) (l 3)) (l 4) (l 8) (l 12) (l 16))
    (chosen (place (l 0) (l 1) (l 2) (l 3)) (l 5) (l 9) (l 13) (l 17)) (chosen (place (l 0) (l 1) (l 2) (l 3)) (l 6) (l 10) (l 14) (l 18))
    (chosen (place (l 0) (l 1) (l 2) (l 3)) (l 7) (l 11) (l 15) (l 19))

/-- One where the bucket is `q`. -/
def hit (q : ℕ) (b : EReal) : EReal := if (FloatOps.sitofp (F := Ideal) FTy.f32 (BitVec.ofNat 32 q) : EReal) = b then 1 else 0

/-- A sum over 1024 places by blocks of 128. -/
theorem sum_blocks (f : Fin 1024 → EReal) : ∑ r, f r = ∑ a : Fin 8, ∑ l : Fin 128, f ⟨128 * a.val + l.val, by omega⟩ := by
  show ∑ r : Fin (8 * 128), f r = _
  rw [← (finProdFinEquiv (m := 8) (n := 128)).sum_comp, Fintype.sum_prod_type]
  refine Finset.sum_congr rfl fun a _ => Finset.sum_congr rfl fun l _ => congrArg f (Fin.ext ?_)
  show l.val + 128 * a.val = 128 * a.val + l.val
  omega

/-- A token's twenty logits from its row: the groups', then each group's experts'. -/
def token (x : Fin 1024 → EReal) (wg : Fin 1024 → Fin 4 → EReal) (bg : Fin 4 → EReal) (we : Fin 4 → Fin 1024 → Fin 4 → EReal) (be : Fin 4 → Fin 4 → EReal)
    (n : Fin 20) : EReal :=
  if h : n.val < 4 then (∑ j, x j * wg j ⟨n.val, h⟩) + bg ⟨n.val, h⟩
  else (∑ j, x j * we ⟨(n.val - 4) / 4, by omega⟩ j ⟨(n.val - 4) % 4, by omega⟩) + be ⟨(n.val - 4) / 4, by omega⟩ ⟨(n.val - 4) % 4, by omega⟩

/-- A tile's share of a sum over the tokens: the tiles are the halves of the 16 sequences. -/
def part (f : Fin 16 → Fin 2048 → EReal) (s : ℕ) : EReal :=
  if h : s < 32 then ∑ r : Fin 1024, f ⟨s / 2, by omega⟩ ⟨1024 * (s % 2) + r.val, by omega⟩ else 0

theorem sum_parts (f : Fin 16 → Fin 2048 → EReal) : ∑ s ∈ Finset.range 32, part f s = ∑ b, ∑ p, f b p := by
  rw [Finset.sum_range]
  show ∑ s : Fin (16 * 2), part f s.val = _
  rw [← (finProdFinEquiv (m := 16) (n := 2)).sum_comp, Fintype.sum_prod_type]
  refine Finset.sum_congr rfl fun b _ => ?_
  show _ = ∑ p : Fin (2 * 1024), f b p
  rw [← (finProdFinEquiv (m := 2) (n := 1024)).sum_comp, Fintype.sum_prod_type]
  refine Finset.sum_congr rfl fun k _ => ?_
  have e : (finProdFinEquiv (m := 16) (n := 2) (b, k)).val = k.val + 2 * b.val := rfl
  have hk := k.isLt
  unfold part
  rw [dif_pos (by omega)]
  refine Finset.sum_congr rfl fun r _ => congrArg₂ f (Fin.ext ?_) (Fin.ext ?_)
  · show (finProdFinEquiv (m := 16) (n := 2) (b, k)).val / 2 = b.val
    omega
  · show 1024 * ((finProdFinEquiv (m := 16) (n := 2) (b, k)).val % 2) + r.val = r.val + 1024 * k.val
    omega

end Cert.Route

end
-- ==== Proof.RouteTile.lean ====
/- The router's part of a tile at an index: the buckets of 1024 tokens from their logits, and how many fall in each. -/
module

public import proofs.«01_k».proof.Proof.Gen.Kernel2Ideal.Skeleton
public import proofs.«01_k».proof.Proof.AttnMath
public import proofs.«01_k».proof.Proof.RouteMath

@[expose] public section

set_option maxRecDepth 16384

noncomputable section

namespace Cert.Kernel2Ideal.Route

open Cert.Kernel2Ideal Cert.Kernel2Ideal.Gen Cert.Route Cert.Attn
open Idealize.ShloMosaic

theorem group_at (v99 : FVec Ideal S1024x1024 .f32) (v104 : FVec Ideal S1x1024 .f32) (v109 v110 : FVec Ideal S1024x1 .f32) (v118 : Vec Ideal S1024x128 .bf16) (v121 : Vec Ideal S1x128 .f32) (r : Fin 1024) :
    k0_pay28 v99 v104 v109 v110 v118 v121 (ix2 0 r)
      = place (k0_pay18 v99 v104 v109 v110 v118 v121 (ix2 0 r)) (k0_pay18 v99 v104 v109 v110 v118 v121 (ix2 1 r)) (k0_pay18 v99 v104 v109 v110 v118 v121 (ix2 2 r)) (k0_pay18 v99 v104 v109 v110 v118 v121 (ix2 3 r)) := by
  unfold k0_pay28 k0_pay27 k0_pay26 k0_pay25 k0_pay24 k0_pay23 k0_pay22 k0_pay21 k0_pay20 k0_pay19
  generalize k0_pay18 v99 v104 v109 v110 v118 v121 = lt
  pointwise []
  simp only [keep_greater, two, three]
  rfl

theorem chosen0_at (v99 : FVec Ideal S1024x1024 .f32) (v104 : FVec Ideal S1x1024 .f32) (v109 v110 : FVec Ideal S1024x1 .f32) (v118 : Vec Ideal S1024x128 .bf16) (v121 : Vec Ideal S1x128 .f32) (g : FVec Ideal S1x1024 .f32) (r : Fin 1024) :
    k0_pay31 (k0_pay18 v99 v104 v109 v110 v118 v121) g (k0_pay30 v99 v104 v109 v110 v118 v121) (Scalar.ofBits .f32 0x40000000#32) (ix2 0 r)
      = chosen (g (ix2 0 r)) (k0_pay18 v99 v104 v109 v110 v118 v121 (ix2 4 r)) (k0_pay18 v99 v104 v109 v110 v118 v121 (ix2 8 r)) (k0_pay18 v99 v104 v109 v110 v118 v121 (ix2 12 r)) (k0_pay18 v99 v104 v109 v110 v118 v121 (ix2 16 r)) := by
  unfold k0_pay30
  generalize k0_pay18 v99 v104 v109 v110 v118 v121 = lt
  pointwise [k0_pay31]
  simp only [two]
  rfl

theorem chosen1_at (lt : FVec Ideal S128x1024 .f32) (g : FVec Ideal S1x1024 .f32) (r : Fin 1024) :
    k0_pay32 lt g (ix2 0 r) = chosen (g (ix2 0 r)) (lt (ix2 5 r)) (lt (ix2 9 r)) (lt (ix2 13 r)) (lt (ix2 17 r)) := by
  pointwise [k0_pay32]
  simp only [two]
  rfl

theorem chosen2_at (lt : FVec Ideal S128x1024 .f32) (g : FVec Ideal S1x1024 .f32) (r : Fin 1024) :
    k0_pay33 lt g (ix2 0 r) = chosen (g (ix2 0 r)) (lt (ix2 6 r)) (lt (ix2 10 r)) (lt (ix2 14 r)) (lt (ix2 18 r)) := by
  pointwise [k0_pay33]
  simp only [two]
  rfl

theorem chosen3_at (lt : FVec Ideal S128x1024 .f32) (g : FVec Ideal S1x1024 .f32) (r : Fin 1024) :
    k0_pay36 lt (k0_pay34 lt g) (k0_pay35 g) (ix2 0 r) = chosen (g (ix2 0 r)) (lt (ix2 7 r)) (lt (ix2 11 r)) (lt (ix2 15 r)) (lt (ix2 19 r)) := by
  pointwise [k0_pay36, k0_pay35, k0_pay34]
  simp only [two]
  rfl

theorem first_at (lt : FVec Ideal S128x1024 .f32) (a b c d : FVec Ideal S1x1024 .f32) (z : IVec S1x1024 1) (r : Fin 1024) :
    k0_pay43 lt a b c d z (ix2 0 r) = place (a (ix2 0 r)) (b (ix2 0 r)) (c (ix2 0 r)) (k0_pay36 lt d z (ix2 0 r)) := by
  unfold k0_pay43 k0_pay41
  generalize k0_pay36 lt d z = e
  pointwise [k0_pay40, k0_pay39, k0_pay38, k0_pay37]
  simp only [keep_greater, two, three]
  rfl

theorem second_at (lt : FVec Ideal S128x1024 .f32) (a b c d : FVec Ideal S1x1024 .f32) (z : IVec S1x1024 1) (r : Fin 1024) :
    k0_pay54 lt a b c d z (ix2 0 r)
      = second (k0_pay43 lt a b c d z (ix2 0 r)) (a (ix2 0 r)) (b (ix2 0 r)) (c (ix2 0 r)) (k0_pay36 lt d z (ix2 0 r)) := by
  unfold k0_pay54 k0_pay52 k0_pay51 k0_pay50 k0_pay49 k0_pay48 k0_pay47 k0_pay46 k0_pay45 k0_pay44
  generalize k0_pay36 lt d z = e
  generalize k0_pay43 lt a b c d z = i
  pointwise []
  simp only [keep_greater, two, three]
  rfl

theorem bucket_at (g i j : FVec Ideal S1x1024 .f32) (r : Fin 1024) :
    k0_pay60 g i j (ix2 0 r) = pairNumber (g (ix2 0 r)) (i (ix2 0 r)) (j (ix2 0 r)) := by
  pointwise [k0_pay60]
  rfl

theorem hits_at (g i j : FVec Ideal S1x1024 .f32) (q : Fin 24) (r : Fin 1024) :
    k0_pay61 g i j (ix2 q r) = hit q.val (pairNumber (g (ix2 0 r)) (i (ix2 0 r)) (j (ix2 0 r))) := by
  rw [← bucket_at]
  pointwise [k0_pay61]
  rfl

theorem seen_at (g i j : FVec Ideal S1x1024 .f32) (s : Vec Ideal S24x1 .f32) (q : Fin 24) (l : Fin 128) :
    k0_pay3 (k0_pay83 (k0_pay61 g i j) (k0_pay73 (k0_pay61 g i j) s (k0_pay62 g i j)) (k0_pay74 (k0_pay61 g i j))) (k0_pay84 (k0_pay61 g i j)) (ix2 q l)
      = s (ix2 q 0) + ∑ r : Fin 1024, k0_pay61 g i j (ix2 q r) := by
  unfold k0_pay62
  generalize k0_pay61 g i j = h
  pointwise [k0_pay3, k0_pay84, k0_pay83, k0_pay81, k0_pay80, k0_pay78, k0_pay77, k0_pay74, k0_pay73, k0_pay71, k0_pay70, k0_pay68, k0_pay67, k0_pay65, k0_pay64]
  rw [sum_blocks, Fin.sum_univ_eight]
  simp only [add_assoc]
  simp

theorem logits_at (v6 : FVec Ideal S1024x1024 .f32) (v25 : FVec Ideal S1024x1024 .bf16) (v42 v59 : FVec Ideal S1024x256 .f32) (v73 : FVec Ideal S1024x256 .bf16) (v74 v78 v91 : Vec Ideal S1x256x256 .bf16) (v96 : Vec Ideal S1024x1024 .bf16)
    (x6 : Vec Ideal S1x1024 .f32) (x7 : Vec Ideal S1024x128 .bf16) (x8 : Vec Ideal S1x128 .f32) (r : Fin 1024) (n : Fin 128) :
    k0_pay18 (k0_pay13 v6 v25 v42 v59 v73 v74 v78 v91 v96) (k0_pay15 x6) (k0_pay16 v6 v25 v42 v59 v73 v74 v78 v91 v96) k0_pay17 x7 x8 (ix2 n r)
      = (∑ j, normed (fun j => k0_pay14 v6 v25 v42 v59 v73 v74 v78 v91 v96 (ix3 0 r j)) (fun j => x6 (ix2 0 j)) j * x7 (ix2 j n)) + x8 (ix2 0 n) := by
  unfold k0_pay16 k0_pay14
  generalize k0_pay13 v6 v25 v42 v59 v73 v74 v78 v91 v96 = h
  pointwise [k0_pay18, k0_pay17, k0_pay15]
  rfl

end Cert.Kernel2Ideal.Route

end
-- ==== Proof.RouteCarry.lean ====
/- What a tile of the attention's call leaves in the scratch that carries the counts, as a function of its blocks. -/
module

public import proofs.«01_k».proof.Proof.AttnTile
public import proofs.«01_k».proof.Proof.RouteTile

@[expose] public section

set_option maxRecDepth 16384

noncomputable section

namespace Cert.Kernel2Ideal.Route

open Cert.Kernel2Ideal Cert.Kernel2Ideal.Gen Cert.Kernel2Ideal.Attention
open Idealize.ShloMosaic Idealize.ShloMosaic.TcCoe Idealize.ShloMosaic.Tactic

variable {F : FTy → Type} [FloatOps F]

/-- The tile's rows after the attention. -/
def attended (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16) : FVec F S1024x1024 .f32 :=
  k0_pay13 (k0_pay6 x0) (k0_pay7 x0 x1 x2)
    (k0_pay10 (k0_pay8 x0 x1 x2 (cols 0 inb_S1x256x1024_S1x256x256_0_0_0 x3)) (k0_pay9 x0 x1 x2 (cols 0 inb_S1x256x1024_S1x256x256_0_0_0 x3)) (cols 0 inb_S1x256x1024_S1x256x256_0_0_0 x4))
    (k0_pay11 (k0_pay7 x0 x1 x2) (cols 256 inb_S1x256x1024_S1x256x256_0_0_256 x3) (cols 256 inb_S1x256x1024_S1x256x256_0_0_256 x4))
    (k0_pay12 (k0_pay7 x0 x1 x2) (cols 512 inb_S1x256x1024_S1x256x256_0_0_512 x3)) (cols 512 inb_S1x256x1024_S1x256x256_0_0_512 x4) (cols 768 inb_S1x256x1024_S1x256x256_0_0_768 x3) (cols 768 inb_S1x256x1024_S1x256x256_0_0_768 x4) x5

/-- Their mean squares. -/
def squares (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16) : FVec F S1024x1 .f32 :=
  k0_pay16 (k0_pay6 x0) (k0_pay7 x0 x1 x2)
    (k0_pay10 (k0_pay8 x0 x1 x2 (cols 0 inb_S1x256x1024_S1x256x256_0_0_0 x3)) (k0_pay9 x0 x1 x2 (cols 0 inb_S1x256x1024_S1x256x256_0_0_0 x3)) (cols 0 inb_S1x256x1024_S1x256x256_0_0_0 x4))
    (k0_pay11 (k0_pay7 x0 x1 x2) (cols 256 inb_S1x256x1024_S1x256x256_0_0_256 x3) (cols 256 inb_S1x256x1024_S1x256x256_0_0_256 x4))
    (k0_pay12 (k0_pay7 x0 x1 x2) (cols 512 inb_S1x256x1024_S1x256x256_0_0_512 x3)) (cols 512 inb_S1x256x1024_S1x256x256_0_0_512 x4) (cols 768 inb_S1x256x1024_S1x256x256_0_0_768 x3) (cols 768 inb_S1x256x1024_S1x256x256_0_0_768 x4) x5

/-- The logits, a row to a logit. -/
def logits (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) : FVec F S128x1024 .f32 :=
  k0_pay18 (attended x0 x1 x2 x3 x4 x5) (k0_pay15 x6) (squares x0 x1 x2 x3 x4 x5) k0_pay17 x7 x8

/-- The groups. -/
def groups (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) : FVec F S1x1024 .f32 :=
  k0_pay28 (attended x0 x1 x2 x3 x4 x5) (k0_pay15 x6) (squares x0 x1 x2 x3 x4 x5) k0_pay17 x7 x8

/-- The chosen group's logits, the first of them. -/
def chosen0 (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) : FVec F S1x1024 .f32 :=
  k0_pay31 (logits x0 x1 x2 x3 x4 x5 x6 x7 x8) (groups x0 x1 x2 x3 x4 x5 x6 x7 x8) (k0_pay30 (attended x0 x1 x2 x3 x4 x5) (k0_pay15 x6) (squares x0 x1 x2 x3 x4 x5) k0_pay17 x7 x8) (Scalar.ofBits .f32 0x40000000#32)

/-- The places of the largest. -/
def firsts (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) : FVec F S1x1024 .f32 :=
  k0_pay43 (logits x0 x1 x2 x3 x4 x5 x6 x7 x8) (chosen0 x0 x1 x2 x3 x4 x5 x6 x7 x8) (k0_pay32 (logits x0 x1 x2 x3 x4 x5 x6 x7 x8) (groups x0 x1 x2 x3 x4 x5 x6 x7 x8)) (k0_pay33 (logits x0 x1 x2 x3 x4 x5 x6 x7 x8) (groups x0 x1 x2 x3 x4 x5 x6 x7 x8)) (k0_pay34 (logits x0 x1 x2 x3 x4 x5 x6 x7 x8) (groups x0 x1 x2 x3 x4 x5 x6 x7 x8)) (k0_pay35 (groups x0 x1 x2 x3 x4 x5 x6 x7 x8))

/-- The places of the second largest. -/
def seconds (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) : FVec F S1x1024 .f32 :=
  k0_pay54 (logits x0 x1 x2 x3 x4 x5 x6 x7 x8) (chosen0 x0 x1 x2 x3 x4 x5 x6 x7 x8) (k0_pay32 (logits x0 x1 x2 x3 x4 x5 x6 x7 x8) (groups x0 x1 x2 x3 x4 x5 x6 x7 x8)) (k0_pay33 (logits x0 x1 x2 x3 x4 x5 x6 x7 x8) (groups x0 x1 x2 x3 x4 x5 x6 x7 x8)) (k0_pay34 (logits x0 x1 x2 x3 x4 x5 x6 x7 x8) (groups x0 x1 x2 x3 x4 x5 x6 x7 x8)) (k0_pay35 (groups x0 x1 x2 x3 x4 x5 x6 x7 x8))

/-- Which bucket each token is in. -/
def hits (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) : FVec F S24x1024 .f32 :=
  k0_pay61 (groups x0 x1 x2 x3 x4 x5 x6 x7 x8) (firsts x0 x1 x2 x3 x4 x5 x6 x7 x8) (seconds x0 x1 x2 x3 x4 x5 x6 x7 x8)

/-- The counts so far, over those before the tile. -/
def counted (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (s : Vec F S24x1 .f32) : FVec F S24x128 .f32 :=
  k0_pay3 (k0_pay83 (hits x0 x1 x2 x3 x4 x5 x6 x7 x8) (k0_pay73 (hits x0 x1 x2 x3 x4 x5 x6 x7 x8) s (k0_pay62 (groups x0 x1 x2 x3 x4 x5 x6 x7 x8) (firsts x0 x1 x2 x3 x4 x5 x6 x7 x8) (seconds x0 x1 x2 x3 x4 x5 x6 x7 x8))) (k0_pay74 (hits x0 x1 x2 x3 x4 x5 x6 x7 x8))) (k0_pay84 (hits x0 x1 x2 x3 x4 x5 x6 x7 x8))

/-- The first column of the counts. -/
def column (s : Vec F S24x128 .f32) : Vec F S24x1 .f32 :=
  fun j => s ((Rect.unit (s := S24x128) ![0, 0] S24x1.size inb_S24x128_S24x1_0_0).toLoadRect.idx j)

theorem corner : (![0, 0] : Fin 2 → ℕ) = fun _ => 0 := funext fun a => by fin_cases a <;> rfl

theorem canon_column (w : Vec F S24x128 .f32) :
    View.ld w (Rect.unit (s := S24x128) ![0, 0] S24x1.size inb_S24x128_S24x1_0_0) = column w := rfl

theorem readAt_row6 {a : Memref sig .tc .vmem S1x1024 .f32} (h : a.IsWhole) (x : Vec F S1x1024 .f32) :
    View.readAt (Elt F) a.view (Rect.unit (s := S1x1024) ![0, 0] S1x1024.size inb_S1x1024_S1x1024_0_0).toLoadRect (h.unread x) = x := readAt_gain h x

theorem readAt_weights {a : Memref sig .tc .vmem S1024x128 .bf16} (h : a.IsWhole) (x : Vec F S1024x128 .bf16) :
    View.readAt (Elt F) a.view (Rect.unit (s := S1024x128) ![0, 0] S1024x128.size inb_S1024x128_S1024x128_0_0).toLoadRect (h.unread x) = x :=
  funext fun j => (h.readAt_unread x _ j).trans (congrArg x (funext fun a => Fin.ext (by fin_cases a <;> exact (Nat.zero_add _).trans (Nat.one_mul _))))

theorem readAt_offset {a : Memref sig .tc .vmem S1x128 .f32} (h : a.IsWhole) (x : Vec F S1x128 .f32) :
    View.readAt (Elt F) a.view (Rect.unit (s := S1x128) ![0, 0] S1x128.size inb_S1x128_S1x128_0_0).toLoadRect (h.unread x) = x :=
  funext fun j => (h.readAt_unread x _ j).trans (congrArg x (funext fun a => Fin.ext (by fin_cases a <;> exact (Nat.zero_add _).trans (Nat.one_mul _))))

theorem readAt_column {a : Memref sig .tc .vmem S24x128 .f32} (h : a.IsWhole) (x : Vec F S24x128 .f32) :
    View.readAt (Elt F) a.view (Rect.unit (s := S24x128) ![0, 0] S24x1.size inb_S24x128_S24x1_0_0).toLoadRect (h.unread x) = column x :=
  funext fun j => h.readAt_unread x _ j

theorem pieces_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : ¬cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) (xs0 : Vec F S24x128 .f32) (xs1 : Vec F S128x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1).2.2.2.1
      = [⟨Rect.unit (s := S24x128) ![0, 0] S24x128.size inb_S24x128_S24x128_0_0, counted x0 x1 x2 x3 x4 x5 x6 x7 x8 (column xs0)⟩] := by
  unfold kernelRun0_B; dsimp only
  sl_unfold_words
  rw [readAt_row harg2 x0, readAt_gain harg3 x1, readAt_square harg4 x2, readAt_square harg7 x5,
    readAt_cols harg5 x3 0, readAt_cols harg5 x3 256, readAt_cols harg5 x3 512, readAt_cols harg5 x3 768,
    readAt_cols harg6 x4 0, readAt_cols harg6 x4 256, readAt_cols harg6 x4 512, readAt_cols harg6 x4 768,
    readAt_row6 harg8 x6, readAt_weights harg9 x7, readAt_offset harg10 x8, readAt_column harg15 xs0]
  unfold counted hits seconds firsts chosen0 groups logits attended squares
  with_reducible rfl

theorem whole_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : ¬cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) (xs0 : Vec F S24x128 .f32) (xs1 : Vec F S128x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1).2.2.1
      = [⟨Rect.unit (s := S24x128) ![0, 0] S24x128.size inb_S24x128_S24x128_0_0, counted x0 x1 x2 x3 x4 x5 x6 x7 x8 (column xs0)⟩] := by
  unfold kernelRun0_B; dsimp only
  sl_unfold_words
  rw [readAt_row harg2 x0, readAt_gain harg3 x1, readAt_square harg4 x2, readAt_square harg7 x5,
    readAt_cols harg5 x3 0, readAt_cols harg5 x3 256, readAt_cols harg5 x3 512, readAt_cols harg5 x3 768,
    readAt_cols harg6 x4 0, readAt_cols harg6 x4 256, readAt_cols harg6 x4 512, readAt_cols harg6 x4 768,
    readAt_row6 harg8 x6, readAt_weights harg9 x7, readAt_offset harg10 x8, readAt_column harg15 xs0, View.readCov_unit_zero (S := S24x128) _ corner]
  unfold counted hits seconds firsts chosen0 groups logits attended squares
  with_reducible rfl

theorem pieces_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1
      = [⟨Rect.unit (s := S24x128) ![0, 0] S24x128.size inb_S24x128_S24x128_0_0, counted x0 x1 x2 x3 x4 x5 x6 x7 x8 (column k0_pay4)⟩, ⟨Rect.unit (s := S24x128) ![0, 0] S24x128.size inb_S24x128_S24x128_0_0, k0_pay4⟩] := by
  unfold kernelRun0_A; dsimp only
  sl_unfold_words
  rw [readAt_row harg2 x0, readAt_gain harg3 x1, readAt_square harg4 x2, readAt_square harg7 x5,
    readAt_cols harg5 x3 0, readAt_cols harg5 x3 256, readAt_cols harg5 x3 512, readAt_cols harg5 x3 768,
    readAt_cols harg6 x4 0, readAt_cols harg6 x4 256, readAt_cols harg6 x4 512, readAt_cols harg6 x4 768,
    readAt_row6 harg8 x6, readAt_weights harg9 x7, readAt_offset harg10 x8, View.readCov_eq_canon_ld _ _ _ (fun y => ⟨_, List.mem_singleton_self _, by rw [Rect.mem_set_unit] <;> intro a <;> fin_cases a <;> simp only [Fin.zero_eta, Fin.mk_one, Matrix.cons_val_zero, Matrix.cons_val_one, Nat.zero_le, true_and, zero_add] <;> exact (y _).isLt⟩), View.canon_unit_zero (S := S24x128) corner]
  unfold counted hits seconds firsts chosen0 groups logits attended squares
  rfl

theorem carry_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = counted x0 x1 x2 x3 x4 x5 x6 x7 x8 (column k0_pay4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9), pieces_A, View.canon_cons_unit_zero (S := S24x128) corner]

theorem carry_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : ¬cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) (xs0 : Vec F S24x128 .f32) (xs1 : Vec F S128x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 = counted x0 x1 x2 x3 x4 x5 x6 x7 x8 (column xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1), pieces_B, View.canon_unit_zero (S := S24x128) corner]

theorem out_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x128 .bf16) (harg11 : arg11.IsWhole) (arg12 : Memref sig .tc .vmem S1x1024x1024 .f32) (harg12 : arg12.IsWhole) (arg13 : Memref sig .tc .vmem S1024x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S128x1024 .f32) (harg16 : arg16.IsWhole) (hc0 : ¬cond0_0 i)
    (x0 : Vec F S1x1024x1024 .f32) (x1 : Vec F S1x1024 .f32) (x2 : Vec F S1024x1024 .bf16) (x3 : Vec F S1x256x1024 .bf16) (x4 : Vec F S1x256x1024 .bf16) (x5 : Vec F S1024x1024 .bf16)
    (x6 : Vec F S1x1024 .f32) (x7 : Vec F S1024x128 .bf16) (x8 : Vec F S1x128 .f32) (x9 : Vec F S128x128 .bf16) (xs0 : Vec F S24x128 .f32) (xs1 : Vec F S128x1024 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 = counted x0 x1 x2 x3 x4 x5 x6 x7 x8 (column xs0) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1), whole_B, View.canon_unit_zero (S := S24x128) corner]

end Cert.Kernel2Ideal.Route

end
-- ==== Proof.RouteKernel.lean ====
/- The counts the attention's call returns, at an index, on extended reals. -/
module

public import proofs.«01_k».proof.Proof.AttnKernel
public import proofs.«01_k».proof.Proof.RouteCarry

@[expose] public section

set_option maxRecDepth 16384

noncomputable section

namespace Cert.Kernel2Ideal.Route

open Cert.Kernel2Ideal Cert.Kernel2Ideal.Gen Cert.Kernel2Ideal.Value Cert.Attn Cert.Route Cert.Kernel2Ideal.Attention
open Idealize.ShloMosaic Idealize.ShloMosaic.TcCoe Idealize.SL.Sem

section Tile
variable (x0 : Vec Ideal S1x1024x1024 .f32) (x1 : Vec Ideal S1x1024 .f32) (x2 : Vec Ideal S1024x1024 .bf16) (x3 : Vec Ideal S1x256x1024 .bf16) (x4 : Vec Ideal S1x256x1024 .bf16) (x5 : Vec Ideal S1024x1024 .bf16)
    (x6 : Vec Ideal S1x1024 .f32) (x7 : Vec Ideal S1024x128 .bf16) (x8 : Vec Ideal S1x128 .f32)

theorem logit_at (r : Fin 1024) (n : Fin 128) :
    logits x0 x1 x2 x3 x4 x5 x6 x7 x8 (ix2 n r)
      = (∑ j, normed (fun j => tile x0 x1 x2 x3 x4 x5 (ix3 0 r j)) (fun j => x6 (ix2 0 j)) j * x7 (ix2 j n)) + x8 (ix2 0 n) :=
  logits_at _ _ _ _ _ _ _ _ _ x6 x7 x8 r n

theorem groups_at (r : Fin 1024) :
    groups x0 x1 x2 x3 x4 x5 x6 x7 x8 (ix2 0 r)
      = place (logits x0 x1 x2 x3 x4 x5 x6 x7 x8 (ix2 0 r)) (logits x0 x1 x2 x3 x4 x5 x6 x7 x8 (ix2 1 r)) (logits x0 x1 x2 x3 x4 x5 x6 x7 x8 (ix2 2 r)) (logits x0 x1 x2 x3 x4 x5 x6 x7 x8 (ix2 3 r)) :=
  group_at _ _ _ _ x7 x8 r

theorem chosen0_eq (r : Fin 1024) :
    chosen0 x0 x1 x2 x3 x4 x5 x6 x7 x8 (ix2 0 r)
      = chosen (groups x0 x1 x2 x3 x4 x5 x6 x7 x8 (ix2 0 r)) (logits x0 x1 x2 x3 x4 x5 x6 x7 x8 (ix2 4 r)) (logits x0 x1 x2 x3 x4 x5 x6 x7 x8 (ix2 8 r)) (logits x0 x1 x2 x3 x4 x5 x6 x7 x8 (ix2 12 r)) (logits x0 x1 x2 x3 x4 x5 x6 x7 x8 (ix2 16 r)) :=
  chosen0_at _ _ _ _ x7 x8 _ r

theorem hit_at (q : Fin 24) (r : Fin 1024) :
    hits x0 x1 x2 x3 x4 x5 x6 x7 x8 (ix2 q r)
      = hit q.val (bucket fun n : Fin 20 => logits x0 x1 x2 x3 x4 x5 x6 x7 x8 (ix2 ⟨n.val, by omega⟩ r)) := by
  unfold hits
  rw [hits_at]
  unfold seconds firsts
  rw [second_at, first_at, chosen1_at, chosen2_at, chosen3_at, chosen0_eq, groups_at]
  rfl

theorem counted_at (s : Vec Ideal S24x128 .f32) (q : Fin 24) (l : Fin 128) :
    counted x0 x1 x2 x3 x4 x5 x6 x7 x8 (column s) (ix2 q l)
      = s (ix2 q 0) + ∑ r : Fin 1024, hit q.val (bucket fun n : Fin 20 => logits x0 x1 x2 x3 x4 x5 x6 x7 x8 (ix2 ⟨n.val, by omega⟩ r)) := by
  unfold counted hits
  rw [seen_at]
  refine congrArg₂ (· + ·) (congrArg s ?_) (Finset.sum_congr rfl fun r _ => hit_at x0 x1 x2 x3 x4 x5 x6 x7 x8 q r)
  funext a; apply Fin.ext
  match a with
  | ⟨0, _⟩ => exact (Nat.zero_add _).trans (Nat.one_mul _)
  | ⟨1, _⟩ => rfl

end Tile

variable (m : (ℓ : Loc nD τ sig) → Buf (Elt Ideal) ℓ)

theorem weights_at (c : Dev nD) (i : Fin 1024) (n : Fin 20) : V m c main_v6 (ix2 i ⟨n.val, by omega⟩)
    = if h : n.val < 4 then m ((c : Thread nD τ).loc main_arg7) (ix2 i ⟨n.val, h⟩)
      else m ((c : Thread nD τ).loc main_arg9) (ix3 ⟨(n.val - 4) / 4, by omega⟩ i ⟨(n.val - 4) % 4, by omega⟩) := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise []
  split
  · after_results_simp
  · after_results_simp
    pointwise []

theorem offsets_at (c : Dev nD) (n : Fin 20) : V m c main_v8 (ix2 0 ⟨n.val, by omega⟩)
    = if h : n.val < 4 then m ((c : Thread nD τ).loc main_arg8) (ix1 ⟨n.val, h⟩)
      else m ((c : Thread nD τ).loc main_arg10) (ix2 ⟨(n.val - 4) / 4, by omega⟩ ⟨(n.val - 4) % 4, by omega⟩) := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise []
  split
  · after_results_simp
  · after_results_simp
    pointwise []

theorem moeGain_eq (c : Dev nD) (j : Fin 1024) : V m c main_v16 (ix2 0 j) = m ((c : Thread nD τ).loc main_arg6) (ix1 j) := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise []

theorem windows' : ∀ t : Fin cfg0.N, win0_6.index t (0 : Fin 2) = 0 ∧ win0_6.index t (1 : Fin 2) = 0 ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem moeGain_block (c : Dev nD) (t : Fin cfg0.N) (j : Fin 1024) : iblk m c 6 t (ix2 0 j) = m ((c : Thread nD τ).loc main_arg6) (ix1 j) := by
  obtain ⟨e0, e1, _⟩ := windows' t
  refine (congrArg (V m c main_v16) (funext fun a => Fin.ext ?_)).trans (moeGain_eq m c j)
  match a with
  | ⟨0, _⟩ => show win0_6.index t (0 : Fin 2) * 1 + 1 * 0 = 0; omega
  | ⟨1, _⟩ => show win0_6.index t (1 : Fin 2) * 1024 + 1 * j.val = j.val; omega

theorem weights_block (c : Dev nD) (t : Fin cfg0.N) (i : Fin 1024) (n : Fin 128) : iblk m c 7 t (ix2 i n) = V m c main_v6 (ix2 i n) := by
  obtain ⟨_, _, e0, e1, _⟩ := windows' t
  refine congrArg (V m c main_v6) (funext fun a => Fin.ext ?_)
  match a with
  | ⟨0, _⟩ => show win0_7.index t (0 : Fin 2) * 1024 + 1 * i.val = i.val; omega
  | ⟨1, _⟩ => show win0_7.index t (1 : Fin 2) * 128 + 1 * n.val = n.val; omega

theorem offsets_block (c : Dev nD) (t : Fin cfg0.N) (n : Fin 128) : iblk m c 8 t (ix2 0 n) = V m c main_v8 (ix2 0 n) := by
  obtain ⟨_, _, _, _, e0, e1⟩ := windows' t
  refine congrArg (V m c main_v8) (funext fun a => Fin.ext ?_)
  match a with
  | ⟨0, _⟩ => show win0_8.index t (0 : Fin 2) * 1 + 1 * 0 = 0; omega
  | ⟨1, _⟩ => show win0_8.index t (1 : Fin 2) * 128 + 1 * n.val = n.val; omega

/-- A point's row is a row of the call's first result. -/
theorem tile_row (c : Dev nD) (t : Fin cfg0.N) (b : Fin 16) (p : Fin 2048) (r n : Fin 1024) (hb : t.val / 2 = b.val) (hp : 1024 * (t.val % 2) + r.val = p.val) :
    tile (iblk m c 0 t) (iblk m c 1 t) (iblk m c 2 t) (iblk m c 3 t) (iblk m c 4 t) (iblk m c 5 t) (ix3 0 r n) = G10 m c (ix3 b p n) := by
  rw [result_at, tile_at]
  simp only [rows_at m c t b p r _ hb hp, keys_at m c t b _ _ hb, values_at m c t b _ _ hb, gain_at, queryWeights_at, outputWeights_at, score_scaled]

/-- A token's logits. -/
def tokenLogits (c : Dev nD) (b : Fin 16) (p : Fin 2048) : Fin 20 → EReal :=
  token (normed (fun j => G10 m c (ix3 b p j)) (fun j => m ((c : Thread nD τ).loc main_arg6) (ix1 j)))
    (fun j e => m ((c : Thread nD τ).loc main_arg7) (ix2 j e)) (fun e => m ((c : Thread nD τ).loc main_arg8) (ix1 e))
    (fun g j e => m ((c : Thread nD τ).loc main_arg9) (ix3 g j e)) (fun g e => m ((c : Thread nD τ).loc main_arg10) (ix2 g e))

theorem token_at (c : Dev nD) (t : Fin cfg0.N) (b : Fin 16) (p : Fin 2048) (r : Fin 1024) (hb : t.val / 2 = b.val) (hp : 1024 * (t.val % 2) + r.val = p.val) (n : Fin 20) :
    logits (iblk m c 0 t) (iblk m c 1 t) (iblk m c 2 t) (iblk m c 3 t) (iblk m c 4 t) (iblk m c 5 t) (iblk m c 6 t) (iblk m c 7 t) (iblk m c 8 t) (ix2 ⟨n.val, by omega⟩ r)
      = tokenLogits m c b p n := by
  rw [logit_at]
  simp only [tile_row m c t b p r _ hb hp, moeGain_block, weights_block, offsets_block]
  unfold tokenLogits token
  by_cases h : n.val < 4
  · rw [dif_pos h]
    exact congrArg₂ (fun u v : EReal => u + v) (Finset.sum_congr rfl fun j _ => congrArg (fun u : EReal => _ * u) ((weights_at m c j n).trans (dif_pos h))) ((offsets_at m c n).trans (dif_pos h))
  · rw [dif_neg h]
    exact congrArg₂ (fun u v : EReal => u + v) (Finset.sum_congr rfl fun j _ => congrArg (fun u : EReal => _ * u) ((weights_at m c j n).trans (dif_neg h))) ((offsets_at m c n).trans (dif_neg h))

theorem point_at (c : Dev nD) (t : Fin cfg0.N) (q : Fin 24) :
    ∑ r : Fin 1024, hit q.val (bucket fun n : Fin 20 => logits (iblk m c 0 t) (iblk m c 1 t) (iblk m c 2 t) (iblk m c 3 t) (iblk m c 4 t) (iblk m c 5 t) (iblk m c 6 t) (iblk m c 7 t) (iblk m c 8 t) (ix2 ⟨n.val, by omega⟩ r))
      = part (fun b p => hit q.val (bucket (tokenLogits m c b p))) t.val := by
  have ht : t.val < 32 := lt_of_lt_of_eq t.isLt N_0
  unfold part
  rw [dif_pos ht]
  refine Finset.sum_congr rfl fun r _ => congrArg (fun l => hit q.val (bucket l)) (funext fun n => ?_)
  exact token_at m c t _ _ r rfl rfl n

theorem zero_at (q : Fin 24) (l : Fin 128) : k0_pay4 (F := Ideal) (ix2 q l) = 0 := by
  pointwise [k0_pay4]

/-- After a point the carried counts are those of the tiles so far. -/
theorem carry_at (c : Dev nD) (q : Fin 24) : ∀ (n : ℕ) (hn : n < cfg0.N) (l : Fin 128),
    (outsAt0 m c n hn).2.2.2.1 (ix2 q l) = ∑ s ∈ Finset.range (n + 1), part (fun b p => hit q.val (bucket (tokenLogits m c b p))) s
  | 0, hn, l => by
    have e := outsAt0_A m c ⟨0, hn⟩ rfl
    dsimp only at e
    rw [e]
    dsimp only
    rw [carry_A, counted_at, zero_at, point_at, Finset.sum_range_one, zero_add]
  | n + 1, hn, l => by
    have h : ¬(n + 1) % 32 = 0 := by
      have := lt_of_lt_of_eq hn N_0
      omega
    have e := outsAt0_B m c ⟨n + 1, hn⟩ h
    dsimp only at e
    rw [e]
    dsimp only
    rw [carry_B, counted_at, point_at, Finset.sum_range_succ]
    exact congrArg (· + _) (carry_at c q n (Nat.lt_of_succ_lt hn) 0)

/-- After a point other than the first the output's buffer holds them too. -/
theorem output_at (c : Dev nD) (q : Fin 24) (n : ℕ) (hn : n < cfg0.N) (h : 0 < n) (l : Fin 128) :
    (outsAt0 m c n hn).2.2.1 (ix2 q l) = ∑ s ∈ Finset.range (n + 1), part (fun b p => hit q.val (bucket (tokenLogits m c b p))) s := by
  have h' : ¬n % 32 = 0 := by
    have := lt_of_lt_of_eq hn N_0
    omega
  have e := outsAt0_B m c ⟨n, hn⟩ h'
  dsimp only at e
  rw [e]
  dsimp only
  rw [Route.out_B, counted_at, point_at, Finset.sum_range_succ]
  have k := carry_at m c q (n - 1) (Nat.lt_of_le_of_lt (Nat.sub_le _ _) hn) 0
  rw [Nat.sub_add_cancel h] at k
  exact congrArg (fun u : EReal => u + _) k

/-- The counts the call returns, at an index. -/
theorem counts_at (c : Dev nD) (q : Fin 24) (l : Fin 128) :
    G12 m c (ix2 q l) = ∑ b : Fin 16, ∑ p : Fin 2048, hit q.val (bucket (tokenLogits m c b p)) := by
  have hn : 31 < cfg0.N := lt_of_lt_of_eq (by decide) N_0.symm
  rw [G12_last, ← outsAt0_sweep m c 31 hn, output_at m c q 31 hn (by decide) l]
  exact sum_parts _

end Cert.Kernel2Ideal.Route

end
-- ==== Proof.RouteRef.lean ====
/- The reference's counts at an index. -/
module

public import proofs.«01_k».proof.Proof.AttnRef
public import proofs.«01_k».proof.Proof.RouteMath

@[expose] public section

set_option maxRecDepth 16384

noncomputable section

namespace Cert.Reference2Ideal.Route

open Cert.Reference2Ideal Cert.Reference2Ideal.Gen Cert.Reference2Ideal.Value Cert.Attn Cert.Route
open Idealize.ShloMosaic Idealize.ShloMosaic.TcCoe

theorem lowest : Ideal.ofBits FTy.f32 0xFF800000#32 = ⊥ := by
  simp [Ideal.ofBits, Ideal.ieee]

theorem highest : Ideal.ofBits FTy.f32 0x7F800000#32 = ⊤ := by
  simp [Ideal.ofBits, Ideal.ieee]

theorem nothing : Ideal.ofBits FTy.f32 0x00000000#32 = 0 := by
  simp [Ideal.ofBits, Ideal.ieee]

theorem number0 : (FloatOps.sitofp (F := Ideal) FTy.f32 (BitVec.ofNat 32 (0 : Fin 4).val) : EReal) = 0 := by
  simp [FloatOps.sitofp]

theorem number1 : (FloatOps.sitofp (F := Ideal) FTy.f32 (BitVec.ofNat 32 (1 : Fin 4).val) : EReal) = 1 := by
  simp [FloatOps.sitofp]

theorem number2 : (FloatOps.sitofp (F := Ideal) FTy.f32 (BitVec.ofNat 32 (2 : Fin 4).val) : EReal) = 2 := by
  simp [FloatOps.sitofp]
  norm_cast

theorem number3 : (FloatOps.sitofp (F := Ideal) FTy.f32 (BitVec.ofNat 32 (3 : Fin 4).val) : EReal) = 3 := by
  simp [FloatOps.sitofp]
  norm_cast

theorem fold_max (z : EReal) (f : Fin 4 → EReal) : Finset.fold max z f Finset.univ = max (f 0) (max (f 1) (max (f 2) (max (f 3) z))) := rfl

theorem fold_min (z : EReal) (f : Fin 4 → EReal) : Finset.fold min z f Finset.univ = min (f 0) (min (f 1) (min (f 2) (min (f 3) z))) := rfl

/-- The place of the first largest of each token's four numbers. -/
def places (l : FVec Ideal S16x2048x4 .f32) : FVec Ideal S16x2048 .f32 :=
  Host.reduce FloatOps.minimumf (select (cmpf .oeq l (broadcastInDim S16x2048x4 ![0, 1, 2] bcast_S16x2048x1_S16x2048x4_0_1_2 (broadcastInDim S16x2048x1 ![0, 1] bcast_S16x2048_S16x2048x1_0_1 (Host.reduce FloatOps.maximumf l (constant S_ .f32 0xFF800000#32) reducesTo_S16x2048x4_S16x2048_d2 h_S_)))) (broadcastInDim S16x2048x4 ![2] bcast_S4_S16x2048x4_2 (sitofp .f32 (iotaInDim S4 32 0))) (broadcastInDim S16x2048x4 ![] bcast_S_S16x2048x4 (id (constant S_ .f32 0x40800000#32)))) (constant S_ .f32 0x7F800000#32) reducesTo_S16x2048x4_S16x2048_d2 h_S_

theorem places_at (l : FVec Ideal S16x2048x4 .f32) (b : Fin 16) (p : Fin 2048) :
    places l (ix2 b p) = place (l (ix3 b p 0)) (l (ix3 b p 1)) (l (ix3 b p 2)) (l (ix3 b p 3)) := by
  rw [← firstLargest_eq (fun e => l (ix3 b p e))]
  unfold places
  simp only [id_eq]
  pointwise []
  rw [fold_max, fold_min, lowest, highest, four]
  simp only [number0, number1, number2, number3, firstLargest, max_assoc, max_bot_right, min_top_right]

/-- The groups' logits. -/
def groupLogits (x : FVec Ideal S16x2048x1024 .f32) (wg : FVec Ideal S1024x4 .f32) (bg : FVec Ideal S4 .f32) : FVec Ideal S16x2048x4 .f32 :=
  addf (Host.dotGeneral dot_S16x2048x1024_S1024x4_S16x2048x4_2_0_01_1_n_n none x wg) (broadcastInDim S16x2048x4 ![0, 1, 2] bcast_S1x1x4_S16x2048x4_0_1_2 (broadcastInDim S1x1x4 ![2] bcast_S4_S1x1x4_2 bg))

theorem groupLogits_at (x : FVec Ideal S16x2048x1024 .f32) (wg : FVec Ideal S1024x4 .f32) (bg : FVec Ideal S4 .f32) (b : Fin 16) (p : Fin 2048) (e : Fin 4) :
    groupLogits x wg bg (ix3 b p e) = (∑ j : Fin 1024, x (ix3 b p j) * wg (ix2 j e)) + bg (ix1 e) := by
  pointwise [groupLogits]

/-- The logits of each token's group. -/
def inGroup (x : FVec Ideal S16x2048x1024 .f32) (we : FVec Ideal S4x1024x4 .f32) (be : FVec Ideal S4x4 .f32) (g : FVec Ideal S16x2048 .f32) : FVec Ideal S16x2048x4 .f32 :=
  Host.reduceAdd (select (broadcastInDim S16x2048x4x4 ![0, 1, 2, 3] bcast_S16x2048x4x1_S16x2048x4x4_0_1_2_3 (cmpf .oeq (broadcastInDim S16x2048x4x1 ![0, 1, 2, 3] bcast_S1x1x4x1_S16x2048x4x1_0_1_2_3 (broadcastInDim S1x1x4x1 ![2, 3] bcast_S4x1_S1x1x4x1_2_3 (broadcastInDim S4x1 ![0] bcast_S4_S4x1_0 (sitofp .f32 (iotaInDim S4 32 0))))) (broadcastInDim S16x2048x4x1 ![0, 1, 2, 3] bcast_S16x2048x1x1_S16x2048x4x1_0_1_2_3 (broadcastInDim S16x2048x1x1 ![0, 1] bcast_S16x2048_S16x2048x1x1_0_1 g)))) (addf (Host.dotGeneral dot_S16x2048x1024_S4x1024x4_S16x2048x4x4_2_1_01_02_n_n none x we) (broadcastInDim S16x2048x4x4 ![0, 1, 2, 3] bcast_S1x1x4x4_S16x2048x4x4_0_1_2_3 (broadcastInDim S1x1x4x4 ![2, 3] bcast_S4x4_S1x1x4x4_2_3 be))) (broadcastInDim S16x2048x4x4 ![] bcast_S_S16x2048x4x4 (id (constant S_ .f32 0x00000000#32)))) (constant S_ .f32 0x00000000#32) reducesTo_S16x2048x4x4_S16x2048x4_d2 h_S_

/-- A sum with one term kept is the kept term. -/
theorem keep_one (g : EReal) (f : Fin 4 → EReal) (h : g = 0 ∨ g = 1 ∨ g = 2 ∨ g = 3) :
    (if (0 : EReal) = g then f 0 else 0) + (if (1 : EReal) = g then f 1 else 0) + (if (2 : EReal) = g then f 2 else 0) + (if (3 : EReal) = g then f 3 else 0) = chosen g (f 0) (f 1) (f 2) (f 3) := by
  have h01 : (0 : EReal) ≠ 1 := by norm_num
  have h02 : (0 : EReal) ≠ 2 := by norm_num
  have h03 : (0 : EReal) ≠ 3 := by norm_num
  have h12 : (1 : EReal) ≠ 2 := by norm_cast
  have h13 : (1 : EReal) ≠ 3 := by norm_cast
  have h23 : (2 : EReal) ≠ 3 := by norm_cast
  unfold chosen
  rcases h with rfl | rfl | rfl | rfl <;> simp [h01, h02, h03, h12, h13, h23, h01.symm, h02.symm, h03.symm, h12.symm, h13.symm, h23.symm]

theorem inGroup_at (x : FVec Ideal S16x2048x1024 .f32) (we : FVec Ideal S4x1024x4 .f32) (be : FVec Ideal S4x4 .f32) (g : FVec Ideal S16x2048 .f32) (b : Fin 16) (p : Fin 2048) (e : Fin 4)
    (h : g (ix2 b p) = 0 ∨ g (ix2 b p) = 1 ∨ g (ix2 b p) = 2 ∨ g (ix2 b p) = 3) :
    inGroup x we be g (ix3 b p e)
      = chosen (g (ix2 b p)) ((∑ j : Fin 1024, x (ix3 b p j) * we (ix3 0 j e)) + be (ix2 0 e)) ((∑ j : Fin 1024, x (ix3 b p j) * we (ix3 1 j e)) + be (ix2 1 e))
          ((∑ j : Fin 1024, x (ix3 b p j) * we (ix3 2 j e)) + be (ix2 2 e)) ((∑ j : Fin 1024, x (ix3 b p j) * we (ix3 3 j e)) + be (ix2 3 e)) := by
  rw [← keep_one _ (fun k => (∑ j : Fin 1024, x (ix3 b p j) * we (ix3 k j e)) + be (ix2 k e)) h]
  unfold inGroup
  simp only [id_eq]
  pointwise []
  rw [Fin.sum_univ_four]
  simp only [number0, number1, number2, number3, nothing]

/-- The logits with the largest taken away. -/
def rest (l : FVec Ideal S16x2048x4 .f32) (i : FVec Ideal S16x2048 .f32) : FVec Ideal S16x2048x4 .f32 :=
  select (cmpf .oeq (broadcastInDim S16x2048x4 ![0, 1, 2] bcast_S1x1x4_S16x2048x4_0_1_2 (broadcastInDim S1x1x4 ![2] bcast_S4_S1x1x4_2 (sitofp .f32 (iotaInDim S4 32 0)))) (broadcastInDim S16x2048x4 ![0, 1, 2] bcast_S16x2048x1_S16x2048x4_0_1_2 (broadcastInDim S16x2048x1 ![0, 1] bcast_S16x2048_S16x2048x1_0_1 i))) (broadcastInDim S16x2048x4 ![] bcast_S_S16x2048x4 (id (constant S_ .f32 0xFF800000#32))) l

theorem rest_at (l : FVec Ideal S16x2048x4 .f32) (i : FVec Ideal S16x2048 .f32) (b : Fin 16) (p : Fin 2048) (e : Fin 4) :
    rest l i (ix3 b p e) = left (i (ix2 b p)) (FloatOps.sitofp (F := Ideal) FTy.f32 (BitVec.ofNat 32 e.val) : EReal) (l (ix3 b p e)) := by
  unfold rest
  simp only [id_eq]
  pointwise []
  unfold left
  simp only [eq_comm]

/-- How many tokens fall in each bucket, from their groups and places. -/
def counts (g i j : FVec Ideal S16x2048 .f32) : FVec Ideal S24x128 .f32 :=
  broadcastInDim S24x128 ![0, 1] bcast_S24x1_S24x128_0_1 (broadcastInDim S24x1 ![0] bcast_S24_S24x1_0 (Host.reduceAdd (id (select (cmpf .oeq (broadcastInDim S24x16x2048 ![0, 1, 2] bcast_S24x1x1_S24x16x2048_0_1_2 (broadcastInDim S24x1x1 ![0] bcast_S24_S24x1x1_0 (sitofp .f32 (iotaInDim S24 32 0)))) (broadcastInDim S24x16x2048 ![0, 1, 2] bcast_S1x16x2048_S24x16x2048_0_1_2 (broadcastInDim S1x16x2048 ![1, 2] bcast_S16x2048_S1x16x2048_1_2 (addf (addf (mulf g (broadcastInDim S16x2048 ![] bcast_S_S16x2048 (constant S_ .f32 0x40C00000#32))) (mulf (mulf (minimumf i j) (subf (broadcastInDim S16x2048 ![] bcast_S_S16x2048 (constant S_ .f32 0x40E00000#32)) (minimumf i j))) (broadcastInDim S16x2048 ![] bcast_S_S16x2048 (constant S_ .f32 0x3F000000#32)))) (subf (subf (maximumf i j) (minimumf i j)) (broadcastInDim S16x2048 ![] bcast_S_S16x2048 (constant S_ .f32 0x3F800000#32))))))) (broadcastInDim S24x16x2048 ![] bcast_S_S24x16x2048 (constant S_ .f32 0x3F800000#32)) (broadcastInDim S24x16x2048 ![] bcast_S_S24x16x2048 (constant S_ .f32 0x00000000#32)))) (constant S_ .f32 0x00000000#32) reducesTo_S24x16x2048_S24_d1_2 h_S_))

theorem counts_at (g i j : FVec Ideal S16x2048 .f32) (q : Fin 24) (l : Fin 128) :
    counts g i j (ix2 q l) = ∑ b : Fin 16, ∑ p : Fin 2048, hit q.val (pairNumber (g (ix2 b p)) (i (ix2 b p)) (j (ix2 b p))) := by
  unfold counts
  simp only [id_eq]
  pointwise []
  refine Finset.sum_congr rfl fun b _ => Finset.sum_congr rfl fun p _ => ?_
  pointwise []
  rfl

/-- The counts from the rows after the attention. -/
def routed (h : FVec Ideal S16x2048x1024 .f32) (gm : FVec Ideal S1024 .f32) (wg : FVec Ideal S1024x4 .f32) (bg : FVec Ideal S4 .f32) (we : FVec Ideal S4x1024x4 .f32) (be : FVec Ideal S4x4 .f32) :
    FVec Ideal S24x128 .f32 :=
  counts (places (groupLogits (Attention.rows h gm) wg bg)) (places (inGroup (Attention.rows h gm) we be (places (groupLogits (Attention.rows h gm) wg bg))))
    (places (rest (inGroup (Attention.rows h gm) we be (places (groupLogits (Attention.rows h gm) wg bg))) (places (inGroup (Attention.rows h gm) we be (places (groupLogits (Attention.rows h gm) wg bg))))))

theorem routed_at (h : FVec Ideal S16x2048x1024 .f32) (gm : FVec Ideal S1024 .f32) (wg : FVec Ideal S1024x4 .f32) (bg : FVec Ideal S4 .f32) (we : FVec Ideal S4x1024x4 .f32) (be : FVec Ideal S4x4 .f32)
    (q : Fin 24) (l : Fin 128) :
    routed h gm wg bg we be (ix2 q l)
      = ∑ b : Fin 16, ∑ p : Fin 2048, hit q.val (bucket (token (normed (fun j => h (ix3 b p j)) (fun j => gm (ix1 j)))
          (fun j e => wg (ix2 j e)) (fun e => bg (ix1 e)) (fun g j e => we (ix3 g j e)) (fun g e => be (ix2 g e)))) := by
  unfold routed
  rw [counts_at]
  refine Finset.sum_congr rfl fun b _ => Finset.sum_congr rfl fun p _ => congrArg (hit q.val) ?_
  have hg : ∀ y : FVec Ideal S16x2048x4 .f32, places y (ix2 b p) = 0 ∨ places y (ix2 b p) = 1 ∨ places y (ix2 b p) = 2 ∨ places y (ix2 b p) = 3 := fun y => by
    rw [places_at]
    exact place_cases _ _ _ _
  have hl : ∀ e, inGroup (Attention.rows h gm) we be (places (groupLogits (Attention.rows h gm) wg bg)) (ix3 b p e) = _ := fun e => inGroup_at _ _ _ _ b p e (hg _)
  simp only [places_at, rest_at, hl, groupLogits_at, Attention.rows_at, number0, number1, number2, number3]
  rfl

section Named
variable (m : (ℓ : Loc nD τ sig) → Buf (Elt Ideal) ℓ) (c : Dev nD)

theorem rows_eq : res_main_v50 (F := Ideal) (StableHlo.launchContents m c) = Attention.rows (res_main_v37 (F := Ideal) (StableHlo.launchContents m c)) (m ((c.tc : Thread nD τ).loc main_arg6)) := by
  unfold res_main_v50 Attention.rows
  rfl

theorem group_eq : res_main_v61 (F := Ideal) (StableHlo.launchContents m c)
    = places (groupLogits (res_main_v50 (F := Ideal) (StableHlo.launchContents m c)) (m ((c.tc : Thread nD τ).loc main_arg7)) (m ((c.tc : Thread nD τ).loc main_arg8))) := by
  unfold res_main_v61 res_main_v54 places groupLogits
  rfl

theorem inGroup_eq : res_main_v74 (F := Ideal) (StableHlo.launchContents m c)
    = inGroup (res_main_v50 (F := Ideal) (StableHlo.launchContents m c)) (m ((c.tc : Thread nD τ).loc main_arg9)) (m ((c.tc : Thread nD τ).loc main_arg10)) (res_main_v61 (F := Ideal) (StableHlo.launchContents m c)) := by
  unfold res_main_v74 res_main_v66 inGroup
  rfl

theorem first_eq : res_main_v81 (F := Ideal) (StableHlo.launchContents m c) = places (res_main_v74 (F := Ideal) (StableHlo.launchContents m c)) := by
  unfold res_main_v81 places
  rfl

theorem second_eq : res_main_v94 (F := Ideal) (StableHlo.launchContents m c)
    = places (rest (res_main_v74 (F := Ideal) (StableHlo.launchContents m c)) (res_main_v81 (F := Ideal) (StableHlo.launchContents m c))) := by
  unfold res_main_v94 res_main_v87 res_main_v66 places rest
  rfl

/-- The counts the reference returns, from the arguments. -/
theorem counts_eq :
    counts (res_main_v61 (F := Ideal) (StableHlo.launchContents m c)) (res_main_v81 (F := Ideal) (StableHlo.launchContents m c)) (res_main_v94 (F := Ideal) (StableHlo.launchContents m c))
      = routed (Attention.attended (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [second_eq, first_eq, inGroup_eq, group_eq, rows_eq, Attention.result_eq]
  rfl

end Named

end Cert.Reference2Ideal.Route

end
-- ==== Proof.RouteValue.lean ====
/- The two programs of the attention's call leave the same counts. -/
module

public import proofs.«01_k».proof.Proof.AttnValue
public import proofs.«01_k».proof.Proof.RouteKernel
public import proofs.«01_k».proof.Proof.RouteRef

@[expose] public section

noncomputable section

namespace Cert.Route

open Idealize.ShloMosaic Idealize.ShloMosaic.TcCoe Idealize.SL.Sem

theorem same_counts (m : (ℓ : Loc Cert.Kernel2Ideal.nD Cert.Kernel2Ideal.τ Cert.Kernel2Ideal.sig) → Buf (Elt Ideal) ℓ) (c : Dev Cert.Kernel2Ideal.nD) :
    Cert.Kernel2Ideal.Value.G12 m c
      = Cert.Reference2Ideal.Route.routed (Cert.Kernel2Ideal.Value.G10 m c)
          (m ((c.tc : Thread Cert.Kernel2Ideal.nD Cert.Kernel2Ideal.τ).loc Cert.Kernel2Ideal.main_arg6))
          (m ((c.tc : Thread Cert.Kernel2Ideal.nD Cert.Kernel2Ideal.τ).loc Cert.Kernel2Ideal.main_arg7))
          (m ((c.tc : Thread Cert.Kernel2Ideal.nD Cert.Kernel2Ideal.τ).loc Cert.Kernel2Ideal.main_arg8))
          (m ((c.tc : Thread Cert.Kernel2Ideal.nD Cert.Kernel2Ideal.τ).loc Cert.Kernel2Ideal.main_arg9))
          (m ((c.tc : Thread Cert.Kernel2Ideal.nD Cert.Kernel2Ideal.τ).loc Cert.Kernel2Ideal.main_arg10)) := by
  funext i
  obtain ⟨q, l, rfl⟩ : ∃ (q : Fin 24) (l : Fin 128), i = ix2 q l := ⟨i 0, i 1, by
    funext a
    match a with
    | ⟨0, _⟩ => rfl
    | ⟨1, _⟩ => rfl⟩
  exact (Cert.Kernel2Ideal.Route.counts_at m c q l).trans (Cert.Reference2Ideal.Route.routed_at _ _ _ _ _ _ q l).symm

end Cert.Route

end
-- ==== Proof.MemKernel.lean ====
/- The memory's projection: the call's two results at an index of the whole arrays, on extended reals. -/
module

public import proofs.«01_k».proof.Proof.Gen.Kernel3Ideal.Value
public import proofs.«01_k».proof.Proof.AttnMath
public import Idealize.ShloMosaic.Lib.Writes

@[expose] public section

set_option maxRecDepth 16384

noncomputable section

namespace Cert.Kernel3Ideal.Memory

open Cert.Kernel3Ideal Cert.Kernel3Ideal.Gen Cert.Kernel3Ideal.Value Cert.Attn
open Idealize.ShloMosaic Idealize.ShloMosaic.TcCoe Idealize.SL.Sem

section Run
variable {F : FTy → Type} [FloatOps F] (m : (ℓ : Loc nD τ sig) → Buf (Elt F) ℓ)

theorem origin : (![0, 0, 0] : Fin 3 → ℕ) = fun _ => 0 := funext fun a => by fin_cases a <;> rfl

theorem ld_rows (x : Vec F S1x256x1024 .f32) : View.ld x r0_0 = x :=
  funext fun j => congrArg x (funext fun a => Fin.ext (by fin_cases a <;> exact (Nat.zero_add _).trans (Nat.one_mul _)))

theorem ld_gain (x : Vec F S1x1024 .f32) : View.ld x r0_1 = x :=
  funext fun j => congrArg x (funext fun a => Fin.ext (by fin_cases a <;> exact (Nat.zero_add _).trans (Nat.one_mul _)))

theorem ld_weights (x : Vec F S1024x2048 .bf16) : View.ld x r0_2 = x :=
  funext fun j => congrArg x (funext fun a => Fin.ext (by fin_cases a <;> exact (Nat.zero_add _).trans (Nat.one_mul _)))

theorem out_keys (x0 : Vec F S1x256x1024 .f32) (x1 : Vec F S1x1024 .f32) (x2 : Vec F S1024x2048 .bf16) : out0_3 x0 x1 x2 = k0_pay2 x0 x1 x2 := by
  unfold out0_3
  rw [ld_rows, ld_gain, ld_weights, View.canon_unit_zero (S := S1x256x1024) origin]

theorem out_values (x0 : Vec F S1x256x1024 .f32) (x1 : Vec F S1x1024 .f32) (x2 : Vec F S1024x2048 .bf16) : out0_4 x0 x1 x2 = k0_pay3 x0 x1 x2 := by
  unfold out0_4
  rw [ld_rows, ld_gain, ld_weights, View.canon_unit_zero (S := S1x256x1024) origin]

theorem gain_eq (c : Dev nD) : V m c main_v0 = shapeCast S1x1024 (m ((c : Thread nD τ).loc main_arg1)) shapeCasts_S1024_S1x1024 := by
  unfold V
  after_results_simp
  try rfl

theorem weights_eq (c : Dev nD) : V m c main_v1 = truncf .bf16 (m ((c : Thread nD τ).loc main_arg2)) bitsLt_bf16_f32 := by
  unfold V
  after_results_simp
  try rfl

theorem windows : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ (cfg0.win 3).flush t = true ∧ (cfg0.win 4).flush t = true :=
  (by decide +kernel : ∀ t : Fin grid0.N, _)

theorem rows_at (c : Dev nD) (t : Fin cfg0.N) (b : Fin 16) (r : Fin 256) (j : Fin 1024) (hb : t.val = b.val) :
    iblk m c 0 t (ix3 0 r j) = m ((c : Thread nD τ).loc main_arg0) (ix3 b r j) := by
  obtain ⟨e0, e1, e2, _⟩ := windows t
  refine (congrFun (V_main_arg0 m c) _).trans (congrArg (m ((c : Thread nD τ).loc main_arg0)) (funext fun a => Fin.ext ?_))
  match a with
  | ⟨0, _⟩ => show win0_0.index t (0 : Fin 3) * 1 + 1 * 0 = b.val; omega
  | ⟨1, _⟩ => show win0_0.index t (1 : Fin 3) * 256 + 1 * r.val = r.val; omega
  | ⟨2, _⟩ => show win0_0.index t (2 : Fin 3) * 1024 + 1 * j.val = j.val; omega

theorem gain_block (c : Dev nD) (t : Fin cfg0.N) (j : Fin 1024) : iblk m c 1 t (ix2 0 j) = V m c main_v0 (ix2 0 j) := by
  obtain ⟨_, _, _, e0, e1, _⟩ := windows t
  refine congrArg (V m c main_v0) (funext fun a => Fin.ext ?_)
  match a with
  | ⟨0, _⟩ => show win0_1.index t (0 : Fin 2) * 1 + 1 * 0 = 0; omega
  | ⟨1, _⟩ => show win0_1.index t (1 : Fin 2) * 1024 + 1 * j.val = j.val; omega

theorem weights_block (c : Dev nD) (t : Fin cfg0.N) (i : Fin 1024) (j : Fin 2048) : iblk m c 2 t (ix2 i j) = V m c main_v1 (ix2 i j) := by
  obtain ⟨_, _, _, _, _, e0, e1, _⟩ := windows t
  refine congrArg (V m c main_v1) (funext fun a => Fin.ext ?_)
  match a with
  | ⟨0, _⟩ => show win0_2.index t (0 : Fin 2) * 1024 + 1 * i.val = i.val; omega
  | ⟨1, _⟩ => show win0_2.index t (1 : Fin 2) * 2048 + 1 * j.val = j.val; omega

theorem keys_block (c : Dev nD) (t : Fin cfg0.N) (b : Fin 16) (r : Fin 256) (j : Fin 1024) (hb : t.val = b.val) :
    (dats m 0 c).arrAt 3 cfg0.N (ix3 b r j) = k0_pay2 (iblk m c 0 t) (iblk m c 1 t) (iblk m c 2 t) (ix3 0 r j) := by
  obtain ⟨_, _, _, _, _, _, _, e0, e1, e2, _, _, _, f, _⟩ := windows t
  refine Eq.trans (congrArg ((dats m 0 c).arrAt 3 cfg0.N) (funext fun a => Fin.ext ?_)) ((congrFun (blocks3 m c t f) (ix3 0 r j)).trans ?_)
  · match a with
    | ⟨0, _⟩ => show b.val = win0_3.index t (0 : Fin 3) * 1 + 1 * 0; omega
    | ⟨1, _⟩ => show r.val = win0_3.index t (1 : Fin 3) * 256 + 1 * r.val; omega
    | ⟨2, _⟩ => show j.val = win0_3.index t (2 : Fin 3) * 1024 + 1 * j.val; omega
  · rw [flushed3, out_keys]
    rfl

theorem values_block (c : Dev nD) (t : Fin cfg0.N) (b : Fin 16) (r : Fin 256) (j : Fin 1024) (hb : t.val = b.val) :
    (dats m 0 c).arrAt 4 cfg0.N (ix3 b r j) = k0_pay3 (iblk m c 0 t) (iblk m c 1 t) (iblk m c 2 t) (ix3 0 r j) := by
  obtain ⟨_, _, _, _, _, _, _, _, _, _, e0, e1, e2, _, f⟩ := windows t
  refine Eq.trans (congrArg ((dats m 0 c).arrAt 4 cfg0.N) (funext fun a => Fin.ext ?_)) ((congrFun (blocks4 m c t f) (ix3 0 r j)).trans ?_)
  · match a with
    | ⟨0, _⟩ => show b.val = win0_4.index t (0 : Fin 3) * 1 + 1 * 0; omega
    | ⟨1, _⟩ => show r.val = win0_4.index t (1 : Fin 3) * 256 + 1 * r.val; omega
    | ⟨2, _⟩ => show j.val = win0_4.index t (2 : Fin 3) * 1024 + 1 * j.val; omega
  · rw [flushed4, out_values]
    rfl

end Run

theorem product_at (x0 : FVec Ideal S1x256x1024 .f32) (x1 : FVec Ideal S1x1024 .f32) (x2 : FVec Ideal S1024x2048 .bf16) (r : Fin 256) (j : Fin 2048) :
    k0_pay1 (F := Ideal) x0 x1 x2 (ix2 r j) = query (normed (fun i => x0 (ix3 0 r i)) (fun i => x1 (ix2 0 i))) (fun i => x2 (ix2 i j)) := by
  pointwise [k0_pay1]
  rfl

theorem keys_tile (x0 : FVec Ideal S1x256x1024 .f32) (x1 : FVec Ideal S1x1024 .f32) (x2 : FVec Ideal S1024x2048 .bf16) (r : Fin 256) (j : Fin 1024) :
    k0_pay2 (F := Ideal) x0 x1 x2 (ix3 0 r j) = k0_pay1 (F := Ideal) x0 x1 x2 (ix2 r ⟨j.val, by omega⟩) := by
  pointwise [k0_pay2]

theorem values_tile (x0 : FVec Ideal S1x256x1024 .f32) (x1 : FVec Ideal S1x1024 .f32) (x2 : FVec Ideal S1024x2048 .bf16) (r : Fin 256) (j : Fin 1024) :
    k0_pay3 (F := Ideal) x0 x1 x2 (ix3 0 r j) = k0_pay1 (F := Ideal) x0 x1 x2 (ix2 r ⟨1024 + j.val, by omega⟩) := by
  pointwise [k0_pay3]

variable (m : (ℓ : Loc nD τ sig) → Buf (Elt Ideal) ℓ)

theorem gain_at (c : Dev nD) (t : Fin cfg0.N) (j : Fin 1024) : iblk m c 1 t (ix2 0 j) = m ((c : Thread nD τ).loc main_arg1) (ix1 j) := by
  rw [gain_block, gain_eq]
  pointwise []

theorem weights_at (c : Dev nD) (t : Fin cfg0.N) (i : Fin 1024) (j : Fin 2048) : iblk m c 2 t (ix2 i j) = m ((c : Thread nD τ).loc main_arg2) (ix2 i j) := by
  rw [weights_block, weights_eq]
  pointwise []

theorem keys_at (c : Dev nD) (b : Fin 16) (r : Fin 256) (j : Fin 1024) :
    (dats m 0 c).arrAt 3 cfg0.N (ix3 b r j)
      = query (normed (fun i => m ((c : Thread nD τ).loc main_arg0) (ix3 b r i)) (fun i => m ((c : Thread nD τ).loc main_arg1) (ix1 i)))
          (fun i => m ((c : Thread nD τ).loc main_arg2) (ix2 i ⟨j.val, by omega⟩)) := by
  rw [keys_block m c ⟨b.val, b.isLt.trans_eq N_0.symm⟩ b r j rfl, keys_tile, product_at]
  simp only [rows_at m c ⟨b.val, b.isLt.trans_eq N_0.symm⟩ b _ _ rfl, gain_at, weights_at]

theorem values_at (c : Dev nD) (b : Fin 16) (r : Fin 256) (j : Fin 1024) :
    (dats m 0 c).arrAt 4 cfg0.N (ix3 b r j)
      = query (normed (fun i => m ((c : Thread nD τ).loc main_arg0) (ix3 b r i)) (fun i => m ((c : Thread nD τ).loc main_arg1) (ix1 i)))
          (fun i => m ((c : Thread nD τ).loc main_arg2) (ix2 i ⟨1024 + j.val, by omega⟩)) := by
  rw [values_block m c ⟨b.val, b.isLt.trans_eq N_0.symm⟩ b r j rfl, values_tile, product_at]
  simp only [rows_at m c ⟨b.val, b.isLt.trans_eq N_0.symm⟩ b _ _ rfl, gain_at, weights_at]

end Cert.Kernel3Ideal.Memory

end
-- ==== Proof.MemRef.lean ====
/- The reference's keys and values at an index. -/
module

public import proofs.«01_k».proof.Proof.Gen.Reference3Ideal.Run
public import proofs.«01_k».proof.Proof.AttnMath
public import Idealize.ShloMosaic.Lib.Quiescent

@[expose] public section

set_option maxRecDepth 16384

noncomputable section

namespace Cert.Reference3Ideal.Memory

open Cert.Reference3Ideal Cert.Reference3Ideal.Gen Cert.Attn
open Idealize.ShloMosaic Idealize.ShloMosaic.TcCoe

variable (x : FVec Ideal S16x256x1024 .f32) (g : FVec Ideal S1024 .f32) (w : FVec Ideal S1024x2048 .f32)

/-- The keys: the first 1024 columns of the normalised memory's product. -/
def keys : FVec Ideal S16x256x1024 .bf16 :=
  truncf .bf16 (extractStridedSlice S16x256x1024 ![0, 0, 0] (Host.dotGeneral dot_S16x256x1024_S1024x2048_S16x256x2048_2_0_01_1_n_n none (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) w) slices_S16x256x2048_S16x256x1024_0_0_0) bitsLt_bf16_f32

/-- The values: the others. -/
def values : FVec Ideal S16x256x1024 .bf16 :=
  truncf .bf16 (extractStridedSlice S16x256x1024 ![0, 0, 1024] (Host.dotGeneral dot_S16x256x1024_S1024x2048_S16x256x2048_2_0_01_1_n_n none (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) w) slices_S16x256x2048_S16x256x1024_0_0_1024) bitsLt_bf16_f32

theorem keys_at (b : Fin 16) (r : Fin 256) (j : Fin 1024) :
    keys x g w (ix3 b r j) = query (normed (fun i => x (ix3 b r i)) (fun i => g (ix1 i))) (fun i => w (ix2 i ⟨j.val, by omega⟩)) := by
  pointwise [keys]
  rfl

theorem values_at (b : Fin 16) (r : Fin 256) (j : Fin 1024) :
    values x g w (ix3 b r j) = query (normed (fun i => x (ix3 b r i)) (fun i => g (ix1 i))) (fun i => w (ix2 i ⟨1024 + j.val, by omega⟩)) := by
  pointwise [values]
  rfl

end Cert.Reference3Ideal.Memory

end
-- ==== Proof.MemValue.lean ====
/- The memory's projection: the call's keys and values are the reference's. -/
module

public import proofs.«01_k».proof.Proof.MemKernel
public import proofs.«01_k».proof.Proof.MemRef

@[expose] public section

noncomputable section

namespace Cert.Memory

open Cert.Kernel3Ideal Cert.Kernel3Ideal.Gen Cert.Kernel3Ideal.Value
open Idealize.ShloMosaic Idealize.ShloMosaic.TcCoe Idealize.SL.Sem

variable (m : (ℓ : Loc nD τ sig) → Buf (Elt Ideal) ℓ) (c : Dev nD)

theorem same_keys : (dats m 0 c).arrAt 3 cfg0.N = Cert.Reference3Ideal.Memory.keys (m ((c : Thread nD τ).loc main_arg0))
    (m ((c : Thread nD τ).loc main_arg1)) (m ((c : Thread nD τ).loc main_arg2)) := by
  funext i
  obtain ⟨b, r, j, rfl⟩ : ∃ (b : Fin 16) (r : Fin 256) (j : Fin 1024), i = ix3 b r j :=
    ⟨i 0, i 1, i 2, by funext a; match a with | ⟨0, _⟩ => rfl | ⟨1, _⟩ => rfl | ⟨2, _⟩ => rfl⟩
  exact (Cert.Kernel3Ideal.Memory.keys_at m c b r j).trans (Cert.Reference3Ideal.Memory.keys_at _ _ _ b r j).symm

theorem same_values : (dats m 0 c).arrAt 4 cfg0.N = Cert.Reference3Ideal.Memory.values (m ((c : Thread nD τ).loc main_arg0))
    (m ((c : Thread nD τ).loc main_arg1)) (m ((c : Thread nD τ).loc main_arg2)) := by
  funext i
  obtain ⟨b, r, j, rfl⟩ : ∃ (b : Fin 16) (r : Fin 256) (j : Fin 1024), i = ix3 b r j :=
    ⟨i 0, i 1, i 2, by funext a; match a with | ⟨0, _⟩ => rfl | ⟨1, _⟩ => rfl | ⟨2, _⟩ => rfl⟩
  exact (Cert.Kernel3Ideal.Memory.values_at m c b r j).trans (Cert.Reference3Ideal.Memory.values_at _ _ _ b r j).symm

end Cert.Memory

end
-- ==== Proof.PoolMath.lean ====
/- What the pooling mixer computes, on extended reals: sums over the trailing rows of a sequence that has zeros before it.
   One program sums a window one row after another, the other doubles: a window of `2n` rows is one of `n` and the one
   before it. -/
module

public import proofs.«01_k».proof.Proof.AttnMath

@[expose] public section

noncomputable section

namespace Cert.Pool

open Idealize.ShloMosaic

/-- The sum of a sequence over the `n` places that end at `r`. -/
def window (e : ℕ → EReal) (n r : ℕ) : EReal := ∑ k ∈ Finset.range n, e (r - k)

theorem window_two (e : ℕ → EReal) (r : ℕ) : window e 2 r = e r + e (r - 1) := by
  simp [window, Finset.sum_range_succ]

theorem window_double (e : ℕ → EReal) (n r : ℕ) : window e (n + n) r = window e n r + window e n (r - n) := by
  simp only [window, Finset.sum_range_add, Nat.sub_sub]

/-- A column of 2048 rows with sixteen zeros before it. -/
def behind (x : Fin 2048 → EReal) (r : ℕ) : EReal := if h : 16 ≤ r ∧ r - 16 < 2048 then x ⟨r - 16, h.2⟩ else 0

/-- How many of a window's `n` rows there are at position `p`. -/
def count (p : ℕ) (n : BitVec 32) : EReal :=
  FloatOps.sitofp (F := Ideal) FTy.f32 (IntOp.minsi (IntOp.addi 1#32 (BitVec.ofNat 32 p)) n)

/-- Column `i` of group `q`. -/
def lane (q : Fin 4) (i : Fin 256) : Fin 1024 := ⟨256 * q.val + i.val, by omega⟩

/-- One column of a group's product: the means over the window less the rows, times the weights. -/
def mixed (total x w : Fin 256 → EReal) (n : EReal) : EReal := ∑ i, (Ideal.div (total i) n - x i) * w i

theorem mixed_congr {t t' x x' : Fin 256 → EReal} (w : Fin 256 → EReal) (n : EReal) (ht : ∀ i, t i = t' i) (hx : ∀ i, x i = x' i) :
    mixed t x w n = mixed t' x' w n := by
  rw [funext ht, funext hx]

/-- A group's output at position `p`. -/
def group (x : Fin 2048 → Fin 1024 → EReal) (w : Fin 256 → EReal) (q : Fin 4) (n : ℕ) (p : Fin 2048) : EReal :=
  mixed (fun i => window (behind fun r => x r (lane q i)) n (16 + p.val)) (fun i => x p (lane q i)) w (count p.val (BitVec.ofNat 32 n))

end Cert.Pool

end
-- ==== Proof.PoolTile.lean ====
/- The pooling mixer's body at an index of its tile, on extended reals. -/
module

public import proofs.«01_k».proof.Proof.Gen.Kernel4Ideal.Value
public import proofs.«01_k».proof.Proof.PoolMath
public import Idealize.ShloMosaic.Lib.Writes

@[expose] public section

set_option maxRecDepth 16384

noncomputable section

namespace Cert.Kernel4Ideal.Pool

open Cert.Kernel4Ideal Cert.Kernel4Ideal.Gen Cert.Kernel4Ideal.Value Cert.Attn Cert.Pool
open Idealize.ShloMosaic Idealize.ShloMosaic.TcCoe Idealize.SL.Sem

variable (i : grid0.Coords) (v0 : FVec Ideal S1x1024 .f32) (v2 : FVec Ideal S1x1024x1024 .f32) (v17 : FVec Ideal S1x16x1024 .f32)

/-- The last sixteen rows before the tile, normalised. -/
def halo : FVec Ideal S16x1024 .f32 :=
  have v18 : FVec Ideal S16x1024 .f32 := shapeCast S16x1024 v17 shapeCasts_S1x16x1024_S16x1024
  have v20 : FVec Ideal S16 .f32 := multiReduction .add [1] S16 (mulf v18 v18) 0x00000000#32 reduces_S16x1024_S16 (.inl rfl) rfl
  have v23 : FVec Ideal S16x1 .f32 := divf (shapeCast S16x1 v20 shapeCasts_S16_S16x1) (broadcast S16x1 (Scalar.ofBits .f32 0x44800000#32))
  have v26 : FVec Ideal S16x1 .f32 := rsqrt (addf v23 (broadcast S16x1 (Scalar.ofBits .f32 0x358637BD#32)))
  mulf (mulf v18 (broadcastTo S16x1024 v26 broadcasts_S16x1_S16x1024)) (broadcastTo S16x1024 (k0_pay2 v0) broadcasts_S1x1024_S16x1024)

/-- Those rows, zeros in a sequence's first tile, and the tile's rows, normalised. -/
def rows : FVec Ideal S1040x1024 .f32 :=
  concatenate S1040x1024 0 [⟨S16x1024, Scalar.select (Scalar.cmpi .sgt (BitVec.ofNat 32 (i 1).val) 0#32) (halo v0 v17) (broadcast S16x1024 (Scalar.ofBits .f32 0x00000000#32))⟩,
    ⟨S1024x1024, k0_pay4 v0 v2⟩] concatenates_S16x1024_S1024x1024_S1040x1024_d0

theorem pay5_eq : k0_pay5 (F := Ideal) i v0 v2 v17 = addf (rows i v0 v2 v17) (dynamicRotate 0 1#32 none (rows i v0 v2 v17) rotates_S1040x1024_d0) := rfl

theorem halo_at (r : Fin 16) (j : Fin 1024) : halo v0 v17 (ix2 r j) = normed (fun k => v17 (ix3 0 r k)) (fun k => v0 (ix2 0 k)) j := by
  pointwise [halo, k0_pay2]
  rfl

theorem pay4_at (r : Fin 1024) (j : Fin 1024) : k0_pay4 (F := Ideal) v0 v2 (ix2 r j) = normed (fun k => v2 (ix3 0 r k)) (fun k => v0 (ix2 0 k)) j := by
  pointwise [k0_pay4, k0_pay3, k0_pay2]
  rfl

theorem rows_low (r : Fin 1040) (j : Fin 1024) (h : r.val < 16) :
    rows i v0 v2 v17 (ix2 r j) = Scalar.select (Scalar.cmpi .sgt (BitVec.ofNat 32 (i 1).val) 0#32) (halo v0 v17 (ix2 ⟨r.val, h⟩ j)) 0 := by
  pointwise [rows]
  exact dif_pos h

theorem rows_high (r : Fin 1040) (j : Fin 1024) (h : ¬ r.val < 16) :
    rows i v0 v2 v17 (ix2 r j) = k0_pay4 (F := Ideal) v0 v2 (ix2 ⟨r.val - 16, by omega⟩ j) := by
  pointwise [rows]
  exact dif_neg h

/-! The sums, where the rows are a sequence's from place `T` on. The rotation's wrapped rows are not read. -/

section Sums

variable (e : Fin 1024 → ℕ → EReal) (T : ℕ) (hE : ∀ (r : Fin 1040) (j : Fin 1024), rows i v0 v2 v17 (ix2 r j) = e j (T + r.val))

include hE

theorem pay5_at (r : Fin 1040) (j : Fin 1024) (h : 1 ≤ r.val) : k0_pay5 (F := Ideal) i v0 v2 v17 (ix2 r j) = window (e j) 2 (T + r.val) := by
  rw [pay5_eq, window_two]
  pointwise []
  exact congrArg₂ (fun a b : EReal => a + b) (hE r j)
    ((hE ⟨(r.val + 1040 - 1) % 1040, by omega⟩ j).trans (congrArg (e j) (show T + (r.val + 1040 - 1) % 1040 = T + r.val - 1 by omega)))

theorem pay7_at (r : Fin 1040) (j : Fin 768) (h : 3 ≤ r.val) :
    k0_pay7 (F := Ideal) i v0 v2 v17 (ix2 r j) = window (e ⟨256 + j.val, by omega⟩) 4 (T + r.val) := by
  refine Eq.trans ?_ (window_double _ 2 _).symm
  pointwise [k0_pay7]
  exact congrArg₂ (fun a b : EReal => a + b) (pay5_at i v0 v2 v17 e T hE r ⟨256 + j.val, by omega⟩ (by omega))
    ((pay5_at i v0 v2 v17 e T hE ⟨(r.val + 1040 - 2) % 1040, by omega⟩ ⟨256 + j.val, by omega⟩ (show 1 ≤ (r.val + 1040 - 2) % 1040 by omega)).trans
      (congrArg (window _ 2) (show T + (r.val + 1040 - 2) % 1040 = T + r.val - 2 by omega)))

theorem pay8_at (r : Fin 1040) (j : Fin 512) (h : 7 ≤ r.val) :
    k0_pay8 (F := Ideal) (k0_pay7 i v0 v2 v17) (ix2 r j) = window (e ⟨256 + (256 + j.val), by omega⟩) 8 (T + r.val) := by
  refine Eq.trans ?_ (window_double _ 4 _).symm
  pointwise [k0_pay8]
  exact congrArg₂ (fun a b : EReal => a + b) (pay7_at i v0 v2 v17 e T hE r ⟨256 + j.val, by omega⟩ (by omega))
    ((pay7_at i v0 v2 v17 e T hE ⟨(r.val + 1040 - 4) % 1040, by omega⟩ ⟨256 + j.val, by omega⟩ (show 3 ≤ (r.val + 1040 - 4) % 1040 by omega)).trans
      (congrArg (window _ 4) (show T + (r.val + 1040 - 4) % 1040 = T + r.val - 4 by omega)))

theorem pay9_at (r : Fin 1024) (j : Fin 256) :
    k0_pay9 (F := Ideal) (k0_pay7 i v0 v2 v17) (ix2 r j) = window (e ⟨256 + (256 + (256 + j.val)), by omega⟩) 16 (T + (16 + r.val)) := by
  refine Eq.trans ?_ (window_double _ 8 _).symm
  pointwise [k0_pay9]
  exact congrArg₂ (fun a b : EReal => a + b) (pay8_at i v0 v2 v17 e T hE ⟨16 + r.val, by omega⟩ ⟨256 + j.val, by omega⟩ (show 7 ≤ 16 + r.val by omega))
    ((pay8_at i v0 v2 v17 e T hE ⟨(16 + r.val + 1040 - 8) % 1040, by omega⟩ ⟨256 + j.val, by omega⟩ (show 7 ≤ (16 + r.val + 1040 - 8) % 1040 by omega)).trans
      (congrArg (window _ 8) (show T + (16 + r.val + 1040 - 8) % 1040 = T + (16 + r.val) - 8 by omega)))

theorem pay6_at (r : Fin 1024) (j : Fin 256) :
    k0_pay6 (F := Ideal) i v0 v2 v17 (ix2 r j) = window (e ⟨j.val, by omega⟩) 2 (T + (16 + r.val)) := by
  pointwise [k0_pay6]
  exact pay5_at i v0 v2 v17 e T hE ⟨16 + r.val, by omega⟩ ⟨j.val, by omega⟩ (show 1 ≤ 16 + r.val by omega)

end Sums

/-- The positions, as the body counts them from its tile's number. -/
theorem place (a r : ℕ) : IntOp.addi (IntOp.addi (Scalar.muli (BitVec.ofNat 32 a) 1024#32) (BitVec.ofNat 32 r)) 1#32
    = IntOp.addi 1#32 (BitVec.ofNat 32 (1024 * a + r)) := by
  show BitVec.ofNat 32 a * 1024#32 + BitVec.ofNat 32 r + 1#32 = 1#32 + BitVec.ofNat 32 (1024 * a + r)
  rw [BitVec.ofNat_add, BitVec.ofNat_mul, BitVec.mul_comm, BitVec.add_comm 1#32]

variable (x : FVec Ideal S1024x1024 .f32) (w : FVec Ideal S1x256x256 .bf16) (a : ℕ) (r : Fin 1024) (j : Fin 256)

theorem first_at (s : FVec Ideal S1024x256 .f32) : k0_pay11 (F := Ideal) (BitVec.ofNat 32 a) x s w (ix2 r j)
    = mixed (fun k => s (ix2 r k)) (fun k => x (ix2 r ⟨k.val, by omega⟩)) (fun k => w (ix3 0 k j)) (count (1024 * a + r.val) 2#32) := by
  pointwise [k0_pay11, k0_pay10]
  rw [place]
  rfl

theorem second_at (v : FVec Ideal S1040x768 .f32) : k0_pay12 (F := Ideal) (BitVec.ofNat 32 a) x v w (ix2 r j)
    = mixed (fun k => v (ix2 ⟨16 + r.val, by omega⟩ ⟨k.val, by omega⟩)) (fun k => x (ix2 r ⟨256 + k.val, by omega⟩)) (fun k => w (ix3 0 k j)) (count (1024 * a + r.val) 4#32) := by
  pointwise [k0_pay12, k0_pay10]
  rw [place]
  rfl

theorem third_at (v : FVec Ideal S1040x768 .f32) : k0_pay13 (F := Ideal) (BitVec.ofNat 32 a) x v (ix2 r j)
    = Ideal.div (k0_pay8 (F := Ideal) v (ix2 ⟨16 + r.val, by omega⟩ ⟨j.val, by omega⟩)) (count (1024 * a + r.val) 8#32) - x (ix2 r ⟨512 + j.val, by omega⟩) := by
  pointwise [k0_pay13, k0_pay10]
  rw [place]
  rfl

/-! The result's four quarters of columns. -/

theorem out0_at (v3 : FVec Ideal S1024x1024 .f32) (v48 : FVec Ideal S1024x256 .f32) (v65 v76 : FVec Ideal S1024x256 .f32) (v84 : FVec Ideal S1024x256 .bf16)
    (v85 v96 : FVec Ideal S1x256x256 .bf16) (v100 : FVec Ideal S1x1024 .f32) :
    k0_pay1 (F := Ideal) v3 x v48 (k0_pay10 (BitVec.ofNat 32 a)) v65 v76 v84 v85 v96 v100 (ix3 0 r ⟨j.val, by omega⟩)
      = v3 (ix2 r ⟨j.val, by omega⟩) + v65 (ix2 r j) * v100 (ix2 0 ⟨j.val, by omega⟩) := by
  pointwise [k0_pay1, k0_pay10]

theorem out1_at (v3 : FVec Ideal S1024x1024 .f32) (v48 : FVec Ideal S1024x256 .f32) (v65 v76 : FVec Ideal S1024x256 .f32) (v84 : FVec Ideal S1024x256 .bf16)
    (v85 v96 : FVec Ideal S1x256x256 .bf16) (v100 : FVec Ideal S1x1024 .f32) :
    k0_pay1 (F := Ideal) v3 x v48 (k0_pay10 (BitVec.ofNat 32 a)) v65 v76 v84 v85 v96 v100 (ix3 0 r ⟨256 + j.val, by omega⟩)
      = v3 (ix2 r ⟨256 + j.val, by omega⟩) + v76 (ix2 r j) * v100 (ix2 0 ⟨256 + j.val, by omega⟩) := by
  pointwise [k0_pay1, k0_pay10]

theorem out2_at (v3 : FVec Ideal S1024x1024 .f32) (v48 : FVec Ideal S1024x256 .f32) (v65 v76 : FVec Ideal S1024x256 .f32) (v84 : FVec Ideal S1024x256 .bf16)
    (v85 v96 : FVec Ideal S1x256x256 .bf16) (v100 : FVec Ideal S1x1024 .f32) :
    k0_pay1 (F := Ideal) v3 x v48 (k0_pay10 (BitVec.ofNat 32 a)) v65 v76 v84 v85 v96 v100 (ix3 0 r ⟨512 + j.val, by omega⟩)
      = v3 (ix2 r ⟨512 + j.val, by omega⟩) + (∑ k : Fin 256, v84 (ix2 r k) * v85 (ix3 0 k j)) * v100 (ix2 0 ⟨512 + j.val, by omega⟩) := by
  pointwise [k0_pay1, k0_pay10]
  rw [dif_neg (by omega), dif_neg (by omega), dif_pos (by omega)]
  simp only [show 512 + j.val - 256 - 256 = j.val by omega]

theorem out3_at (v3 : FVec Ideal S1024x1024 .f32) (v48 : FVec Ideal S1024x256 .f32) (v65 v76 : FVec Ideal S1024x256 .f32) (v84 : FVec Ideal S1024x256 .bf16)
    (v85 v96 : FVec Ideal S1x256x256 .bf16) (v100 : FVec Ideal S1x1024 .f32) :
    k0_pay1 (F := Ideal) v3 x v48 (k0_pay10 (BitVec.ofNat 32 a)) v65 v76 v84 v85 v96 v100 (ix3 0 r ⟨768 + j.val, by omega⟩)
      = v3 (ix2 r ⟨768 + j.val, by omega⟩) + mixed (fun k => v48 (ix2 r k)) (fun k => x (ix2 r ⟨768 + k.val, by omega⟩)) (fun k => v96 (ix3 0 k j)) (count (1024 * a + r.val) 16#32) * v100 (ix2 0 ⟨768 + j.val, by omega⟩) := by
  pointwise [k0_pay1, k0_pay10]
  rw [dif_neg (by omega), dif_neg (by omega), dif_neg (by omega), place]
  simp only [show 768 + j.val - 256 - 256 - 256 = j.val by omega]
  rfl

end Cert.Kernel4Ideal.Pool

end
-- ==== Proof.PoolKernel.lean ====
/- The pooling mixer: the call's result at an index of the whole array, on extended reals. -/
module

public import proofs.«01_k».proof.Proof.PoolTile

@[expose] public section

set_option maxRecDepth 16384

noncomputable section

namespace Cert.Kernel4Ideal.Pool

open Cert.Kernel4Ideal Cert.Kernel4Ideal.Gen Cert.Kernel4Ideal.Value Cert.Attn Cert.Pool
open Idealize.ShloMosaic Idealize.ShloMosaic.TcCoe Idealize.SL.Sem

section Run
variable {F : FTy → Type} [FloatOps F] (m : (ℓ : Loc nD τ sig) → Buf (Elt F) ℓ)

theorem origin : (![0, 0, 0] : Fin 3 → ℕ) = fun _ => 0 := funext fun a => by fin_cases a <;> rfl

theorem ld_gain (x : Vec F S1x1024 .f32) : View.ld x r0_0 = x :=
  funext fun j => congrArg x (funext fun a => Fin.ext (by fin_cases a <;> exact (Nat.zero_add _).trans (Nat.one_mul _)))

theorem ld_rows (x : Vec F S1x1024x1024 .f32) : View.ld x r0_1 = x :=
  funext fun j => congrArg x (funext fun a => Fin.ext (by fin_cases a <;> exact (Nat.zero_add _).trans (Nat.one_mul _)))

theorem ld_halo (x : Vec F S1x16x1024 .f32) : View.ld x r0_2 = x :=
  funext fun j => congrArg x (funext fun a => Fin.ext (by fin_cases a <;> exact (Nat.zero_add _).trans (Nat.one_mul _)))

theorem ld_w0 (x : Vec F S4x256x256 .bf16) (k j : Fin 256) : View.ld x r0_3 (ix3 0 k j) = x (ix3 0 k j) :=
  congrArg x (funext fun a => Fin.ext (by
    match a with
    | ⟨0, _⟩ => rfl
    | ⟨1, _⟩ => exact (Nat.zero_add _).trans (Nat.one_mul _)
    | ⟨2, _⟩ => exact (Nat.zero_add _).trans (Nat.one_mul _)))

theorem ld_w1 (x : Vec F S4x256x256 .bf16) (k j : Fin 256) : View.ld x r0_4 (ix3 0 k j) = x (ix3 1 k j) :=
  congrArg x (funext fun a => Fin.ext (by
    match a with
    | ⟨0, _⟩ => rfl
    | ⟨1, _⟩ => exact (Nat.zero_add _).trans (Nat.one_mul _)
    | ⟨2, _⟩ => exact (Nat.zero_add _).trans (Nat.one_mul _)))

theorem ld_w2 (x : Vec F S4x256x256 .bf16) (k j : Fin 256) : View.ld x r0_5 (ix3 0 k j) = x (ix3 2 k j) :=
  congrArg x (funext fun a => Fin.ext (by
    match a with
    | ⟨0, _⟩ => rfl
    | ⟨1, _⟩ => exact (Nat.zero_add _).trans (Nat.one_mul _)
    | ⟨2, _⟩ => exact (Nat.zero_add _).trans (Nat.one_mul _)))

theorem ld_w3 (x : Vec F S4x256x256 .bf16) (k j : Fin 256) : View.ld x r0_6 (ix3 0 k j) = x (ix3 3 k j) :=
  congrArg x (funext fun a => Fin.ext (by
    match a with
    | ⟨0, _⟩ => rfl
    | ⟨1, _⟩ => exact (Nat.zero_add _).trans (Nat.one_mul _)
    | ⟨2, _⟩ => exact (Nat.zero_add _).trans (Nat.one_mul _)))

theorem out_eq (i : grid0.Coords) (x0 : Vec F S1x1024x1024 .f32) (x1 : Vec F S1x16x1024 .f32) (x2 : Vec F S1x1024 .f32) (x3 : Vec F S4x256x256 .bf16) (x4 : Vec F S1x1024 .f32) :
    out0_5 i x0 x1 x2 x3 x4 = k0_pay1 (k0_pay3 x0) (k0_pay4 x2 x0) (k0_pay9 (k0_pay7 i x2 x0 x1)) (k0_pay10 (BitVec.ofNat 32 (i 1).val))
      (k0_pay11 (BitVec.ofNat 32 (i 1).val) (k0_pay4 x2 x0) (k0_pay6 i x2 x0 x1) (View.ld x3 r0_3))
      (k0_pay12 (BitVec.ofNat 32 (i 1).val) (k0_pay4 x2 x0) (k0_pay7 i x2 x0 x1) (View.ld x3 r0_4))
      (k0_pay13 (BitVec.ofNat 32 (i 1).val) (k0_pay4 x2 x0) (k0_pay7 i x2 x0 x1)) (View.ld x3 r0_5) (View.ld x3 r0_6) x4 := by
  unfold out0_5 k0_pay14 k0_pay15
  rw [ld_rows, ld_gain, ld_halo, ld_gain, View.canon_unit_zero (S := S1x1024x1024) origin]

theorem gain_eq (c : Dev nD) : V m c main_v0 = shapeCast S1x1024 (m ((c : Thread nD τ).loc main_arg1)) shapeCasts_S1024_S1x1024 := by
  unfold V
  after_results_simp
  try rfl

theorem weights_eq (c : Dev nD) : V m c main_v1 = truncf .bf16 (m ((c : Thread nD τ).loc main_arg2)) bitsLt_bf16_f32 := by
  unfold V
  after_results_simp
  try rfl

theorem scale_eq (c : Dev nD) : V m c main_v2 = shapeCast S1x1024 (m ((c : Thread nD τ).loc main_arg3)) shapeCasts_S1024_S1x1024 := by
  unfold V
  after_results_simp
  try rfl

theorem windows : ∀ t : Fin cfg0.N, win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 63 * (t.val % 2) ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val / 2 ∧ win0_5.index t (1 : Fin 3) = t.val % 2 ∧ win0_5.index t (2 : Fin 3) = 0
    ∧ (cfg0.win 5).flush t = true ∧ (grid0.coords t 1).val = t.val % 2 :=
  (by decide +kernel : ∀ t : Fin grid0.N, _)

/-- The grid point of a sequence's tile. -/
def point (b : Fin 16) (a : Fin 2) : Fin cfg0.N := ⟨2 * b.val + a.val, (show 2 * b.val + a.val < 32 by omega).trans_eq N_0.symm⟩

theorem coord (b : Fin 16) (a : Fin 2) : (grid0.coords (point b a) 1).val = a.val := by
  have h := windows (point b a)
  have e : (point b a).val = 2 * b.val + a.val := rfl
  omega

theorem rows_block (c : Dev nD) (b : Fin 16) (a : Fin 2) (r : Fin 1024) (j : Fin 1024) :
    iblk m c 0 (point b a) (ix3 0 r j) = m ((c : Thread nD τ).loc main_arg0) (ix3 b ⟨1024 * a.val + r.val, by omega⟩ j) := by
  have h := windows (point b a)
  have e : (point b a).val = 2 * b.val + a.val := rfl
  refine (congrFun (V_main_arg0 m c) _).trans (congrArg (m ((c : Thread nD τ).loc main_arg0)) (funext fun d => Fin.ext ?_))
  match d with
  | ⟨0, _⟩ => show win0_0.index (point b a) (0 : Fin 3) * 1 + 1 * 0 = b.val; omega
  | ⟨1, _⟩ => show win0_0.index (point b a) (1 : Fin 3) * 1024 + 1 * r.val = 1024 * a.val + r.val; omega
  | ⟨2, _⟩ => show win0_0.index (point b a) (2 : Fin 3) * 1024 + 1 * j.val = j.val; omega

theorem halo_block (c : Dev nD) (b : Fin 16) (a : Fin 2) (r : Fin 16) (j : Fin 1024) :
    iblk m c 1 (point b a) (ix3 0 r j) = m ((c : Thread nD τ).loc main_arg0) (ix3 b ⟨1008 * a.val + r.val, by omega⟩ j) := by
  have h := windows (point b a)
  have e : (point b a).val = 2 * b.val + a.val := rfl
  refine (congrFun (V_main_arg0 m c) _).trans (congrArg (m ((c : Thread nD τ).loc main_arg0)) (funext fun d => Fin.ext ?_))
  match d with
  | ⟨0, _⟩ => show win0_1.index (point b a) (0 : Fin 3) * 1 + 1 * 0 = b.val; omega
  | ⟨1, _⟩ => show win0_1.index (point b a) (1 : Fin 3) * 16 + 1 * r.val = 1008 * a.val + r.val; omega
  | ⟨2, _⟩ => show win0_1.index (point b a) (2 : Fin 3) * 1024 + 1 * j.val = j.val; omega

theorem gain_block (c : Dev nD) (t : Fin cfg0.N) (j : Fin 1024) : iblk m c 2 t (ix2 0 j) = V m c main_v0 (ix2 0 j) := by
  have h := windows t
  refine congrArg (V m c main_v0) (funext fun d => Fin.ext ?_)
  match d with
  | ⟨0, _⟩ => show win0_2.index t (0 : Fin 2) * 1 + 1 * 0 = 0; omega
  | ⟨1, _⟩ => show win0_2.index t (1 : Fin 2) * 1024 + 1 * j.val = j.val; omega

theorem weights_block (c : Dev nD) (t : Fin cfg0.N) (q : Fin 4) (k j : Fin 256) : iblk m c 3 t (ix3 q k j) = V m c main_v1 (ix3 q k j) := by
  have h := windows t
  refine congrArg (V m c main_v1) (funext fun d => Fin.ext ?_)
  match d with
  | ⟨0, _⟩ => show win0_3.index t (0 : Fin 3) * 4 + 1 * q.val = q.val; omega
  | ⟨1, _⟩ => show win0_3.index t (1 : Fin 3) * 256 + 1 * k.val = k.val; omega
  | ⟨2, _⟩ => show win0_3.index t (2 : Fin 3) * 256 + 1 * j.val = j.val; omega

theorem scale_block (c : Dev nD) (t : Fin cfg0.N) (j : Fin 1024) : iblk m c 4 t (ix2 0 j) = V m c main_v2 (ix2 0 j) := by
  have h := windows t
  refine congrArg (V m c main_v2) (funext fun d => Fin.ext ?_)
  match d with
  | ⟨0, _⟩ => show win0_4.index t (0 : Fin 2) * 1 + 1 * 0 = 0; omega
  | ⟨1, _⟩ => show win0_4.index t (1 : Fin 2) * 1024 + 1 * j.val = j.val; omega

theorem result_block (c : Dev nD) (b : Fin 16) (a : Fin 2) (r : Fin 1024) (j : Fin 1024) :
    (dats m 0 c).arrAt 5 cfg0.N (ix3 b ⟨1024 * a.val + r.val, by omega⟩ j)
      = out0_5 (grid0.coords (point b a)) (iblk m c 0 (point b a)) (iblk m c 1 (point b a)) (iblk m c 2 (point b a)) (iblk m c 3 (point b a)) (iblk m c 4 (point b a)) (ix3 0 r j) := by
  have h := windows (point b a)
  have e : (point b a).val = 2 * b.val + a.val := rfl
  refine Eq.trans (congrArg ((dats m 0 c).arrAt 5 cfg0.N) (funext fun d => Fin.ext ?_)) ((congrFun (blocks5 m c (point b a) (by simp only [h])) (ix3 0 r j)).trans ?_)
  · match d with
    | ⟨0, _⟩ => show b.val = win0_5.index (point b a) (0 : Fin 3) * 1 + 1 * 0; omega
    | ⟨1, _⟩ => show 1024 * a.val + r.val = win0_5.index (point b a) (1 : Fin 3) * 1024 + 1 * r.val; omega
    | ⟨2, _⟩ => show j.val = win0_5.index (point b a) (2 : Fin 3) * 1024 + 1 * j.val; omega
  · rw [flushed5]
    rfl

end Run

variable (m : (ℓ : Loc nD τ sig) → Buf (Elt Ideal) ℓ)

theorem gain_at (c : Dev nD) (t : Fin cfg0.N) (j : Fin 1024) : iblk m c 2 t (ix2 0 j) = m ((c : Thread nD τ).loc main_arg1) (ix1 j) := by
  rw [gain_block, gain_eq]
  pointwise []

theorem weights_at (c : Dev nD) (t : Fin cfg0.N) (q : Fin 4) (k j : Fin 256) : iblk m c 3 t (ix3 q k j) = m ((c : Thread nD τ).loc main_arg2) (ix3 q k j) := by
  rw [weights_block, weights_eq]
  pointwise []

theorem scale_at (c : Dev nD) (t : Fin cfg0.N) (j : Fin 1024) : iblk m c 4 t (ix2 0 j) = m ((c : Thread nD τ).loc main_arg3) (ix1 j) := by
  rw [scale_block, scale_eq]
  pointwise []

/-- A sequence's normalised rows. -/
def seq (h : Fin 2048 → Fin 1024 → EReal) (g : Fin 1024 → EReal) (p : Fin 2048) (j : Fin 1024) : EReal := normed (h p) g j

/-- The rows a tile reads: its sequence's from sixteen before the tile on, with zeros before the sequence. -/
theorem tile_rows (i : grid0.Coords) (a : Fin 2) (hi : (i 1).val = a.val) (h : Fin 2048 → Fin 1024 → EReal) (g : Fin 1024 → EReal)
    (v0 : FVec Ideal S1x1024 .f32) (v2 : FVec Ideal S1x1024x1024 .f32) (v17 : FVec Ideal S1x16x1024 .f32)
    (h0 : ∀ j, v0 (ix2 0 j) = g j) (h2 : ∀ (r j : Fin 1024), v2 (ix3 0 r j) = h ⟨1024 * a.val + r.val, by omega⟩ j)
    (h17 : ∀ (r : Fin 16) (j : Fin 1024), v17 (ix3 0 r j) = h ⟨1008 * a.val + r.val, by omega⟩ j) (r : Fin 1040) (j : Fin 1024) :
    rows i v0 v2 v17 (ix2 r j) = behind (fun p => seq h g p j) (1024 * a.val + r.val) := by
  by_cases hr : r.val < 16
  · rw [rows_low i v0 v2 v17 r j hr, halo_at, hi]
    simp only [h0, h17]
    fin_cases a
    · rw [behind, dif_neg (show ¬ (16 ≤ 1024 * 0 + r.val ∧ 1024 * 0 + r.val - 16 < 2048) by omega)]
      rfl
    · rw [behind, dif_pos (show 16 ≤ 1024 * 1 + r.val ∧ 1024 * 1 + r.val - 16 < 2048 by omega)]
      refine Eq.trans (b := normed (h ⟨1008 * 1 + r.val, by omega⟩) g j) rfl ?_
      exact congrArg (fun p => normed (h p) g j) (Fin.ext (show 1008 * 1 + r.val = 1024 * 1 + r.val - 16 by omega))
  · rw [rows_high i v0 v2 v17 r j hr, pay4_at]
    simp only [h0, h2]
    rw [behind, dif_pos (show 16 ≤ 1024 * a.val + r.val ∧ 1024 * a.val + r.val - 16 < 2048 by omega)]
    exact congrArg (fun p => normed (h p) g j) (Fin.ext (show 1024 * a.val + (r.val - 16) = 1024 * a.val + r.val - 16 by omega))

section Tile

variable (i : grid0.Coords) (a : Fin 2) (hi : (i 1).val = a.val) (h : Fin 2048 → Fin 1024 → EReal) (g : Fin 1024 → EReal)
  (v0 : FVec Ideal S1x1024 .f32) (v2 : FVec Ideal S1x1024x1024 .f32) (v17 : FVec Ideal S1x16x1024 .f32)
  (h0 : ∀ j, v0 (ix2 0 j) = g j) (h2 : ∀ (r j : Fin 1024), v2 (ix3 0 r j) = h ⟨1024 * a.val + r.val, by omega⟩ j)
  (h17 : ∀ (r : Fin 16) (j : Fin 1024), v17 (ix3 0 r j) = h ⟨1008 * a.val + r.val, by omega⟩ j)
  (r : Fin 1024) (j : Fin 256) (w : FVec Ideal S1x256x256 .bf16)

include h0 h2 in
theorem seq_at (j : Fin 1024) : k0_pay4 (F := Ideal) v0 v2 (ix2 r j) = seq h g ⟨1024 * a.val + r.val, by omega⟩ j := by
  rw [pay4_at]
  simp only [h0, h2]
  rfl

include hi h0 h2 h17

theorem quarter0 : k0_pay11 (F := Ideal) (BitVec.ofNat 32 (i 1).val) (k0_pay4 v0 v2) (k0_pay6 i v0 v2 v17) w (ix2 r j)
    = group (seq h g) (fun k => w (ix3 0 k j)) 0 2 ⟨1024 * a.val + r.val, by omega⟩ := by
  rw [first_at, hi]
  refine mixed_congr _ _ (fun k => ?_) fun k => ?_
  · rw [pay6_at i v0 v2 v17 (fun j => behind fun p => seq h g p j) (1024 * a.val) (tile_rows i a hi h g v0 v2 v17 h0 h2 h17), show (⟨k.val, by omega⟩ : Fin 1024) = lane 0 k from Fin.ext (show k.val = 256 * 0 + k.val by omega),
      show 1024 * a.val + (16 + r.val) = 16 + (1024 * a.val + r.val) by omega]
  · rw [seq_at i a hi h g v0 v2 h0 h2, show (⟨k.val, by omega⟩ : Fin 1024) = lane 0 k from Fin.ext (show k.val = 256 * 0 + k.val by omega)]

theorem quarter1 : k0_pay12 (F := Ideal) (BitVec.ofNat 32 (i 1).val) (k0_pay4 v0 v2) (k0_pay7 i v0 v2 v17) w (ix2 r j)
    = group (seq h g) (fun k => w (ix3 0 k j)) 1 4 ⟨1024 * a.val + r.val, by omega⟩ := by
  rw [second_at, hi]
  refine mixed_congr _ _ (fun k => ?_) fun k => ?_
  · rw [pay7_at i v0 v2 v17 (fun j => behind fun p => seq h g p j) (1024 * a.val) (tile_rows i a hi h g v0 v2 v17 h0 h2 h17) ⟨16 + r.val, by omega⟩ ⟨k.val, by omega⟩ (show 3 ≤ 16 + r.val by omega),
      show (⟨256 + k.val, by omega⟩ : Fin 1024) = lane 1 k from Fin.ext (show 256 + k.val = 256 * 1 + k.val by omega),
      show 1024 * a.val + (16 + r.val) = 16 + (1024 * a.val + r.val) by omega]
  · rw [seq_at i a hi h g v0 v2 h0 h2, show (⟨256 + k.val, by omega⟩ : Fin 1024) = lane 1 k from Fin.ext (show 256 + k.val = 256 * 1 + k.val by omega)]

theorem quarter2 : (∑ k : Fin 256, k0_pay13 (F := Ideal) (BitVec.ofNat 32 (i 1).val) (k0_pay4 v0 v2) (k0_pay7 i v0 v2 v17) (ix2 r k) * w (ix3 0 k j))
    = group (seq h g) (fun k => w (ix3 0 k j)) 2 8 ⟨1024 * a.val + r.val, by omega⟩ := by
  unfold group mixed
  refine Finset.sum_congr rfl fun k _ => congrArg (fun z : EReal => z * w (ix3 0 k j)) ?_
  rw [third_at, hi, pay8_at i v0 v2 v17 (fun j => behind fun p => seq h g p j) (1024 * a.val) (tile_rows i a hi h g v0 v2 v17 h0 h2 h17) ⟨16 + r.val, by omega⟩ ⟨k.val, by omega⟩ (show 7 ≤ 16 + r.val by omega),
    seq_at i a hi h g v0 v2 h0 h2, show (⟨512 + k.val, by omega⟩ : Fin 1024) = lane 2 k from Fin.ext (show 512 + k.val = 256 * 2 + k.val by omega),
    show (⟨256 + (256 + k.val), by omega⟩ : Fin 1024) = lane 2 k from Fin.ext (show 256 + (256 + k.val) = 256 * 2 + k.val by omega),
    show 1024 * a.val + (16 + r.val) = 16 + (1024 * a.val + r.val) by omega]

theorem quarter3 : mixed (fun k => k0_pay9 (F := Ideal) (k0_pay7 i v0 v2 v17) (ix2 r k)) (fun k => k0_pay4 (F := Ideal) v0 v2 (ix2 r ⟨768 + k.val, by omega⟩))
      (fun k => w (ix3 0 k j)) (count (1024 * (i 1).val + r.val) 16#32)
    = group (seq h g) (fun k => w (ix3 0 k j)) 3 16 ⟨1024 * a.val + r.val, by omega⟩ := by
  rw [hi]
  refine mixed_congr _ _ (fun k => ?_) fun k => ?_
  · rw [pay9_at i v0 v2 v17 (fun j => behind fun p => seq h g p j) (1024 * a.val) (tile_rows i a hi h g v0 v2 v17 h0 h2 h17),
      show (⟨256 + (256 + (256 + k.val)), by omega⟩ : Fin 1024) = lane 3 k from Fin.ext (show 256 + (256 + (256 + k.val)) = 256 * 3 + k.val by omega),
      show 1024 * a.val + (16 + r.val) = 16 + (1024 * a.val + r.val) by omega]
  · rw [seq_at i a hi h g v0 v2 h0 h2, show (⟨768 + k.val, by omega⟩ : Fin 1024) = lane 3 k from Fin.ext (show 768 + k.val = 256 * 3 + k.val by omega)]

end Tile

/-- The result at a position and a group's column. -/
def resultAt (c : Dev nD) (q : Fin 4) (n : ℕ) (b : Fin 16) (p : Fin 2048) (j : Fin 256) : EReal :=
  (show EReal from m ((c : Thread nD τ).loc main_arg0) (ix3 b p (lane q j)))
    + group (seq (fun r i => m ((c : Thread nD τ).loc main_arg0) (ix3 b r i)) fun i => m ((c : Thread nD τ).loc main_arg1) (ix1 i))
        (fun k => m ((c : Thread nD τ).loc main_arg2) (ix3 q k j)) q n p * (show EReal from m ((c : Thread nD τ).loc main_arg3) (ix1 (lane q j)))

theorem pay3_at (v2 : FVec Ideal S1x1024x1024 .f32) (r j : Fin 1024) : k0_pay3 (F := Ideal) v2 (ix2 r j) = v2 (ix3 0 r j) := by
  pointwise [k0_pay3]

theorem tile0 (c : Dev nD) (b : Fin 16) (a : Fin 2) (r : Fin 1024) (j : Fin 256) :
    (dats m 0 c).arrAt 5 cfg0.N (ix3 b ⟨1024 * a.val + r.val, by omega⟩ (lane 0 j)) = resultAt m c 0 2 b ⟨1024 * a.val + r.val, by omega⟩ j := by
  rw [result_block, out_eq, show lane 0 j = ⟨j.val, by omega⟩ from Fin.ext (show 256 * 0 + j.val = j.val by omega), out0_at, pay3_at, rows_block, scale_at,
    quarter0 (grid0.coords (point b a)) a (coord b a) (fun r i => m ((c : Thread nD τ).loc main_arg0) (ix3 b r i)) (fun i => m ((c : Thread nD τ).loc main_arg1) (ix1 i))
      _ _ _ (gain_at m c (point b a)) (rows_block m c b a) (halo_block m c b a) r j]
  rw [show (fun k => View.ld (iblk m c 3 (point b a)) r0_3 (ix3 0 k j)) = fun k => m ((c : Thread nD τ).loc main_arg2) (ix3 0 k j) from
    funext fun k => (ld_w0 (iblk m c 3 (point b a)) k j).trans (weights_at m c (point b a) 0 k j)]
  rw [show (⟨j.val, by omega⟩ : Fin 1024) = lane 0 j from Fin.ext (show j.val = 256 * 0 + j.val by omega)]
  rfl

theorem tile1 (c : Dev nD) (b : Fin 16) (a : Fin 2) (r : Fin 1024) (j : Fin 256) :
    (dats m 0 c).arrAt 5 cfg0.N (ix3 b ⟨1024 * a.val + r.val, by omega⟩ (lane 1 j)) = resultAt m c 1 4 b ⟨1024 * a.val + r.val, by omega⟩ j := by
  rw [result_block, out_eq, show lane 1 j = ⟨256 + j.val, by omega⟩ from Fin.ext (show 256 * 1 + j.val = 256 + j.val by omega), out1_at, pay3_at, rows_block, scale_at,
    quarter1 (grid0.coords (point b a)) a (coord b a) (fun r i => m ((c : Thread nD τ).loc main_arg0) (ix3 b r i)) (fun i => m ((c : Thread nD τ).loc main_arg1) (ix1 i))
      _ _ _ (gain_at m c (point b a)) (rows_block m c b a) (halo_block m c b a) r j]
  rw [show (fun k => View.ld (iblk m c 3 (point b a)) r0_4 (ix3 0 k j)) = fun k => m ((c : Thread nD τ).loc main_arg2) (ix3 1 k j) from
    funext fun k => (ld_w1 (iblk m c 3 (point b a)) k j).trans (weights_at m c (point b a) 1 k j)]
  rw [show (⟨256 + j.val, by omega⟩ : Fin 1024) = lane 1 j from Fin.ext (show 256 + j.val = 256 * 1 + j.val by omega)]
  rfl

theorem tile2 (c : Dev nD) (b : Fin 16) (a : Fin 2) (r : Fin 1024) (j : Fin 256) :
    (dats m 0 c).arrAt 5 cfg0.N (ix3 b ⟨1024 * a.val + r.val, by omega⟩ (lane 2 j)) = resultAt m c 2 8 b ⟨1024 * a.val + r.val, by omega⟩ j := by
  rw [result_block, out_eq, show lane 2 j = ⟨512 + j.val, by omega⟩ from Fin.ext (show 256 * 2 + j.val = 512 + j.val by omega), out2_at, pay3_at, rows_block, scale_at,
    quarter2 (grid0.coords (point b a)) a (coord b a) (fun r i => m ((c : Thread nD τ).loc main_arg0) (ix3 b r i)) (fun i => m ((c : Thread nD τ).loc main_arg1) (ix1 i))
      _ _ _ (gain_at m c (point b a)) (rows_block m c b a) (halo_block m c b a) r j]
  rw [show (fun k => View.ld (iblk m c 3 (point b a)) r0_5 (ix3 0 k j)) = fun k => m ((c : Thread nD τ).loc main_arg2) (ix3 2 k j) from
    funext fun k => (ld_w2 (iblk m c 3 (point b a)) k j).trans (weights_at m c (point b a) 2 k j)]
  rw [show (⟨512 + j.val, by omega⟩ : Fin 1024) = lane 2 j from Fin.ext (show 512 + j.val = 256 * 2 + j.val by omega)]
  rfl

theorem tile3 (c : Dev nD) (b : Fin 16) (a : Fin 2) (r : Fin 1024) (j : Fin 256) :
    (dats m 0 c).arrAt 5 cfg0.N (ix3 b ⟨1024 * a.val + r.val, by omega⟩ (lane 3 j)) = resultAt m c 3 16 b ⟨1024 * a.val + r.val, by omega⟩ j := by
  rw [result_block, out_eq, show lane 3 j = ⟨768 + j.val, by omega⟩ from Fin.ext (show 256 * 3 + j.val = 768 + j.val by omega), out3_at, pay3_at, rows_block, scale_at,
    quarter3 (grid0.coords (point b a)) a (coord b a) (fun r i => m ((c : Thread nD τ).loc main_arg0) (ix3 b r i)) (fun i => m ((c : Thread nD τ).loc main_arg1) (ix1 i))
      _ _ _ (gain_at m c (point b a)) (rows_block m c b a) (halo_block m c b a) r j]
  rw [show (fun k => View.ld (iblk m c 3 (point b a)) r0_6 (ix3 0 k j)) = fun k => m ((c : Thread nD τ).loc main_arg2) (ix3 3 k j) from
    funext fun k => (ld_w3 (iblk m c 3 (point b a)) k j).trans (weights_at m c (point b a) 3 k j)]
  rw [show (⟨768 + j.val, by omega⟩ : Fin 1024) = lane 3 j from Fin.ext (show 768 + j.val = 256 * 3 + j.val by omega)]
  rfl

end Cert.Kernel4Ideal.Pool

end
-- ==== Proof.PoolRef.lean ====
/- The reference's pooling mixer at an index. -/
module

public import proofs.«01_k».proof.Proof.Gen.Reference4Ideal.Run
public import proofs.«01_k».proof.Proof.PoolMath
public import Idealize.ShloMosaic.Lib.Quiescent

@[expose] public section

set_option maxRecDepth 16384

noncomputable section

namespace Cert.Reference4Ideal.Pool

open Cert.Reference4Ideal Cert.Reference4Ideal.Gen Cert.Attn Cert.Pool
open Idealize.ShloMosaic Idealize.ShloMosaic.TcCoe

/-- The normalised rows. -/
def rows (h : FVec Ideal S16x2048x1024 .f32) (g : FVec Ideal S1024 .f32) : FVec Ideal S16x2048x1024 .f32 :=
  mulf (mulf h (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf h h) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- Fifteen zeros before every sequence. -/
def padded (x : FVec Ideal S16x2048x1024 .f32) : FVec Ideal S16x2063x1024 .f32 :=
  pad S16x2063x1024 ![0, 15, 0] ![0, 0, 0] ![0, 0, 0] x (sitofp .f32 (constantI S_ 32 0#32)) pads_S16x2048x1024_S16x2063x1024_000_1500_000 h_S_

/-- The product of the group with windows of 2. -/
def part0 (x : FVec Ideal S16x2048x1024 .f32) (y : FVec Ideal S16x2063x1024 .f32) (w : FVec Ideal S4x256x256 .f32) : FVec Ideal S16x2048x256 .f32 :=
  (Host.dotGeneral dot_S16x2048x256_S256x256_S16x2048x256_2_0_01_1_n_n none (subf (Host.divf (addf (extractStridedSlice S16x2048x256 ![0, 15, 0] y slices_S16x2063x1024_S16x2048x256_0_15_0) (extractStridedSlice S16x2048x256 ![0, 14, 0] y slices_S16x2063x1024_S16x2048x256_0_14_0)) (broadcastInDim S16x2048x256 ![0, 1, 2] bcast_S1x2048x1_S16x2048x256_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 2#32))))))) (extractStridedSlice S16x2048x256 ![0, 0, 0] x slices_S16x2048x1024_S16x2048x256_0_0_0)) (shapeCast _ (extractStridedSlice S1x256x256 ![0, 0, 0] w slices_S4x256x256_S1x256x256_0_0_0) shapeCasts_S1x256x256_S256x256))

/-- The product of the group with windows of 4. -/
def part1 (x : FVec Ideal S16x2048x1024 .f32) (y : FVec Ideal S16x2063x1024 .f32) (w : FVec Ideal S4x256x256 .f32) : FVec Ideal S16x2048x256 .f32 :=
  (Host.dotGeneral dot_S16x2048x256_S256x256_S16x2048x256_2_0_01_1_n_n none (subf (Host.divf (addf (addf (addf (extractStridedSlice S16x2048x256 ![0, 15, 256] y slices_S16x2063x1024_S16x2048x256_0_15_256) (extractStridedSlice S16x2048x256 ![0, 14, 256] y slices_S16x2063x1024_S16x2048x256_0_14_256)) (extractStridedSlice S16x2048x256 ![0, 13, 256] y slices_S16x2063x1024_S16x2048x256_0_13_256)) (extractStridedSlice S16x2048x256 ![0, 12, 256] y slices_S16x2063x1024_S16x2048x256_0_12_256)) (broadcastInDim S16x2048x256 ![0, 1, 2] bcast_S1x2048x1_S16x2048x256_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 4#32))))))) (extractStridedSlice S16x2048x256 ![0, 0, 256] x slices_S16x2048x1024_S16x2048x256_0_0_256)) (shapeCast _ (extractStridedSlice S1x256x256 ![1, 0, 0] w slices_S4x256x256_S1x256x256_1_0_0) shapeCasts_S1x256x256_S256x256))

/-- The product of the group with windows of 8. -/
def part2 (x : FVec Ideal S16x2048x1024 .f32) (y : FVec Ideal S16x2063x1024 .f32) (w : FVec Ideal S4x256x256 .f32) : FVec Ideal S16x2048x256 .f32 :=
  (Host.dotGeneral dot_S16x2048x256_S256x256_S16x2048x256_2_0_01_1_n_n none (subf (Host.divf (addf (addf (addf (addf (addf (addf (addf (extractStridedSlice S16x2048x256 ![0, 15, 512] y slices_S16x2063x1024_S16x2048x256_0_15_512) (extractStridedSlice S16x2048x256 ![0, 14, 512] y slices_S16x2063x1024_S16x2048x256_0_14_512)) (extractStridedSlice S16x2048x256 ![0, 13, 512] y slices_S16x2063x1024_S16x2048x256_0_13_512)) (extractStridedSlice S16x2048x256 ![0, 12, 512] y slices_S16x2063x1024_S16x2048x256_0_12_512)) (extractStridedSlice S16x2048x256 ![0, 11, 512] y slices_S16x2063x1024_S16x2048x256_0_11_512)) (extractStridedSlice S16x2048x256 ![0, 10, 512] y slices_S16x2063x1024_S16x2048x256_0_10_512)) (extractStridedSlice S16x2048x256 ![0, 9, 512] y slices_S16x2063x1024_S16x2048x256_0_9_512)) (extractStridedSlice S16x2048x256 ![0, 8, 512] y slices_S16x2063x1024_S16x2048x256_0_8_512)) (broadcastInDim S16x2048x256 ![0, 1, 2] bcast_S1x2048x1_S16x2048x256_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 8#32))))))) (extractStridedSlice S16x2048x256 ![0, 0, 512] x slices_S16x2048x1024_S16x2048x256_0_0_512)) (shapeCast _ (extractStridedSlice S1x256x256 ![2, 0, 0] w slices_S4x256x256_S1x256x256_2_0_0) shapeCasts_S1x256x256_S256x256))

/-- The product of the group with windows of 16. -/
def part3 (x : FVec Ideal S16x2048x1024 .f32) (y : FVec Ideal S16x2063x1024 .f32) (w : FVec Ideal S4x256x256 .f32) : FVec Ideal S16x2048x256 .f32 :=
  (Host.dotGeneral dot_S16x2048x256_S256x256_S16x2048x256_2_0_01_1_n_n none (subf (Host.divf (addf (addf (addf (addf (addf (addf (addf (addf (addf (addf (addf (addf (addf (addf (addf (extractStridedSlice S16x2048x256 ![0, 15, 768] y slices_S16x2063x1024_S16x2048x256_0_15_768) (extractStridedSlice S16x2048x256 ![0, 14, 768] y slices_S16x2063x1024_S16x2048x256_0_14_768)) (extractStridedSlice S16x2048x256 ![0, 13, 768] y slices_S16x2063x1024_S16x2048x256_0_13_768)) (extractStridedSlice S16x2048x256 ![0, 12, 768] y slices_S16x2063x1024_S16x2048x256_0_12_768)) (extractStridedSlice S16x2048x256 ![0, 11, 768] y slices_S16x2063x1024_S16x2048x256_0_11_768)) (extractStridedSlice S16x2048x256 ![0, 10, 768] y slices_S16x2063x1024_S16x2048x256_0_10_768)) (extractStridedSlice S16x2048x256 ![0, 9, 768] y slices_S16x2063x1024_S16x2048x256_0_9_768)) (extractStridedSlice S16x2048x256 ![0, 8, 768] y slices_S16x2063x1024_S16x2048x256_0_8_768)) (extractStridedSlice S16x2048x256 ![0, 7, 768] y slices_S16x2063x1024_S16x2048x256_0_7_768)) (extractStridedSlice S16x2048x256 ![0, 6, 768] y slices_S16x2063x1024_S16x2048x256_0_6_768)) (extractStridedSlice S16x2048x256 ![0, 5, 768] y slices_S16x2063x1024_S16x2048x256_0_5_768)) (extractStridedSlice S16x2048x256 ![0, 4, 768] y slices_S16x2063x1024_S16x2048x256_0_4_768)) (extractStridedSlice S16x2048x256 ![0, 3, 768] y slices_S16x2063x1024_S16x2048x256_0_3_768)) (extractStridedSlice S16x2048x256 ![0, 2, 768] y slices_S16x2063x1024_S16x2048x256_0_2_768)) (extractStridedSlice S16x2048x256 ![0, 1, 768] y slices_S16x2063x1024_S16x2048x256_0_1_768)) (extractStridedSlice S16x2048x256 ![0, 0, 768] y slices_S16x2063x1024_S16x2048x256_0_0_768)) (broadcastInDim S16x2048x256 ![0, 1, 2] bcast_S1x2048x1_S16x2048x256_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 16#32))))))) (extractStridedSlice S16x2048x256 ![0, 0, 768] x slices_S16x2048x1024_S16x2048x256_0_0_768)) (shapeCast _ (extractStridedSlice S1x256x256 ![3, 0, 0] w slices_S4x256x256_S1x256x256_3_0_0) shapeCasts_S1x256x256_S256x256))

/-- The result. -/
def pooled (h : FVec Ideal S16x2048x1024 .f32) (g : FVec Ideal S1024 .f32) (w : FVec Ideal S4x256x256 .f32) (s : FVec Ideal S1024 .f32) : FVec Ideal S16x2048x1024 .f32 :=
  addf h (mulf ((concatenate S16x2048x1024 2 [⟨S16x2048x256, part0 (rows h g) (padded (rows h g)) w⟩, ⟨S16x2048x256, part1 (rows h g) (padded (rows h g)) w⟩, ⟨S16x2048x256, part2 (rows h g) (padded (rows h g)) w⟩, ⟨S16x2048x256, part3 (rows h g) (padded (rows h g)) w⟩] concatenates_S16x2048x256_S16x2048x256_S16x2048x256_S16x2048x256_S16x2048x1024_d2 : (⟨S16x2048x1024, .f32⟩ : BufTy).Contents (Elt Ideal))) (broadcastInDim S16x2048x1024 ![0, 1, 2] bcast_S1x1x1024_S16x2048x1024_0_1_2 (broadcastInDim S1x1x1024 ![2] bcast_S1024_S1x1x1024_2 s)))

theorem result_eq (m : (ℓ : Loc nD τ sig) → Buf (Elt Ideal) ℓ) (c : Dev nD) : Value.res_main_v121 m c
    = pooled (m ((c.tc : Thread nD τ).loc main_arg0)) (m ((c.tc : Thread nD τ).loc main_arg1)) (m ((c.tc : Thread nD τ).loc main_arg2)) (m ((c.tc : Thread nD τ).loc main_arg3)) := by
  unfold Value.res_main_v121 pooled part0 part1 part2 part3 padded rows
  rfl

theorem rows_at (h : FVec Ideal S16x2048x1024 .f32) (g : FVec Ideal S1024 .f32) (b : Fin 16) (p : Fin 2048) (j : Fin 1024) :
    rows h g (ix3 b p j) = normed (fun i => h (ix3 b p i)) (fun i => g (ix1 i)) j := by
  pointwise [rows]
  rfl

theorem padded_at (x : FVec Ideal S16x2048x1024 .f32) (b : Fin 16) (p : Fin 2063) (j : Fin 1024) :
    padded x (ix3 b p j) = behind (fun r => x (ix3 b r j)) (p.val + 1) := by
  pointwise [padded]
  by_cases hp : 15 ≤ p.val
  · rw [dif_pos ⟨hp, by omega⟩, behind, dif_pos (show 16 ≤ p.val + 1 ∧ p.val + 1 - 16 < 2048 by omega)]
    exact congrArg (fun r => x (ix3 b r j)) (Fin.ext (show p.val - 15 = p.val + 1 - 16 by omega))
  · rw [dif_neg (fun h => hp h.1), behind, dif_neg (show ¬ (16 ≤ p.val + 1 ∧ p.val + 1 - 16 < 2048) by omega)]
    show FloatOps.sitofp (F := Ideal) FTy.f32 0#32 = (0 : EReal)
    simp [FloatOps.sitofp]

variable (x : FVec Ideal S16x2048x1024 .f32) (y : FVec Ideal S16x2063x1024 .f32) (w : FVec Ideal S4x256x256 .f32)
  (hy : ∀ (b : Fin 16) (p : Fin 2063) (j : Fin 1024), y (ix3 b p j) = behind (fun r => x (ix3 b r j)) (p.val + 1))
  (b : Fin 16) (p : Fin 2048) (j : Fin 256)

include hy

theorem part0_at : part0 x y w (ix3 b p j) = group (fun r i => x (ix3 b r i)) (fun k => w (ix3 0 k j)) 0 2 p := by
  have e : ∀ k : Fin 256, (⟨k.val, by omega⟩ : Fin 1024) = lane 0 k := fun k => Fin.ext (show k.val = 256 * 0 + k.val by omega)
  pointwise [part0]
  simp only [e, hy]
  refine mixed_congr _ _ (fun k => ?_) fun k => rfl
  simp only [window, Finset.sum_range_succ, Finset.sum_range_zero, zero_add, show 16 + p.val - 0 = 15 + p.val + 1 by omega, show 16 + p.val - 1 = 14 + p.val + 1 by omega]

theorem part1_at : part1 x y w (ix3 b p j) = group (fun r i => x (ix3 b r i)) (fun k => w (ix3 1 k j)) 1 4 p := by
  have e : ∀ k : Fin 256, (⟨256 + k.val, by omega⟩ : Fin 1024) = lane 1 k := fun k => Fin.ext (show 256 + k.val = 256 * 1 + k.val by omega)
  pointwise [part1]
  simp only [e, hy]
  refine mixed_congr _ _ (fun k => ?_) fun k => rfl
  simp only [window, Finset.sum_range_succ, Finset.sum_range_zero, zero_add, show 16 + p.val - 0 = 15 + p.val + 1 by omega, show 16 + p.val - 1 = 14 + p.val + 1 by omega, show 16 + p.val - 2 = 13 + p.val + 1 by omega, show 16 + p.val - 3 = 12 + p.val + 1 by omega]

theorem part2_at : part2 x y w (ix3 b p j) = group (fun r i => x (ix3 b r i)) (fun k => w (ix3 2 k j)) 2 8 p := by
  have e : ∀ k : Fin 256, (⟨512 + k.val, by omega⟩ : Fin 1024) = lane 2 k := fun k => Fin.ext (show 512 + k.val = 256 * 2 + k.val by omega)
  pointwise [part2]
  simp only [e, hy]
  refine mixed_congr _ _ (fun k => ?_) fun k => rfl
  simp only [window, Finset.sum_range_succ, Finset.sum_range_zero, zero_add, show 16 + p.val - 0 = 15 + p.val + 1 by omega, show 16 + p.val - 1 = 14 + p.val + 1 by omega, show 16 + p.val - 2 = 13 + p.val + 1 by omega, show 16 + p.val - 3 = 12 + p.val + 1 by omega, show 16 + p.val - 4 = 11 + p.val + 1 by omega, show 16 + p.val - 5 = 10 + p.val + 1 by omega, show 16 + p.val - 6 = 9 + p.val + 1 by omega, show 16 + p.val - 7 = 8 + p.val + 1 by omega]

theorem part3_at : part3 x y w (ix3 b p j) = group (fun r i => x (ix3 b r i)) (fun k => w (ix3 3 k j)) 3 16 p := by
  have e : ∀ k : Fin 256, (⟨768 + k.val, by omega⟩ : Fin 1024) = lane 3 k := fun k => Fin.ext (show 768 + k.val = 256 * 3 + k.val by omega)
  pointwise [part3]
  simp only [e, hy]
  refine mixed_congr _ _ (fun k => ?_) fun k => rfl
  simp only [window, Finset.sum_range_succ, Finset.sum_range_zero, zero_add, show 16 + p.val - 0 = 15 + p.val + 1 by omega, show 16 + p.val - 1 = 14 + p.val + 1 by omega, show 16 + p.val - 2 = 13 + p.val + 1 by omega, show 16 + p.val - 3 = 12 + p.val + 1 by omega, show 16 + p.val - 4 = 11 + p.val + 1 by omega, show 16 + p.val - 5 = 10 + p.val + 1 by omega, show 16 + p.val - 6 = 9 + p.val + 1 by omega, show 16 + p.val - 7 = 8 + p.val + 1 by omega, show 16 + p.val - 8 = 7 + p.val + 1 by omega, show 16 + p.val - 9 = 6 + p.val + 1 by omega, show 16 + p.val - 10 = 5 + p.val + 1 by omega, show 16 + p.val - 11 = 4 + p.val + 1 by omega, show 16 + p.val - 12 = 3 + p.val + 1 by omega, show 16 + p.val - 13 = 2 + p.val + 1 by omega, show 16 + p.val - 14 = 1 + p.val + 1 by omega, show 16 + p.val - 15 = p.val + 1 by omega]

omit hy

/-- The result at a position and a group's column. -/
def resultAt (h : FVec Ideal S16x2048x1024 .f32) (g : FVec Ideal S1024 .f32) (w : FVec Ideal S4x256x256 .f32) (s : FVec Ideal S1024 .f32)
    (q : Fin 4) (n : ℕ) (b : Fin 16) (p : Fin 2048) (j : Fin 256) : EReal :=
  h (ix3 b p (lane q j)) + group (fun r i => normed (fun k => h (ix3 b r k)) (fun k => g (ix1 k)) i) (fun k => w (ix3 q k j)) q n p * s (ix1 (lane q j))

variable (h : FVec Ideal S16x2048x1024 .f32) (g : FVec Ideal S1024 .f32) (s : FVec Ideal S1024 .f32)

theorem quarter0 : pooled h g w s (ix3 b p (lane 0 j)) = resultAt h g w s 0 2 b p j := by
  have e : lane 0 j = ⟨j.val, by omega⟩ := Fin.ext (show 256 * 0 + j.val = j.val by omega)
  unfold resultAt
  rw [e]
  pointwise [pooled]
  rw [part0_at (rows h g) (padded (rows h g)) w (padded_at (rows h g))]
  simp only [rows_at]

theorem quarter1 : pooled h g w s (ix3 b p (lane 1 j)) = resultAt h g w s 1 4 b p j := by
  have e : lane 1 j = ⟨256 + j.val, by omega⟩ := Fin.ext (show 256 * 1 + j.val = 256 + j.val by omega)
  unfold resultAt
  rw [e]
  pointwise [pooled]
  rw [part1_at (rows h g) (padded (rows h g)) w (padded_at (rows h g))]
  simp only [rows_at]

theorem quarter2 : pooled h g w s (ix3 b p (lane 2 j)) = resultAt h g w s 2 8 b p j := by
  have e : lane 2 j = ⟨512 + j.val, by omega⟩ := Fin.ext (show 256 * 2 + j.val = 512 + j.val by omega)
  unfold resultAt
  rw [e]
  pointwise [pooled]
  rw [dif_neg (by omega), dif_neg (by omega), dif_pos (by omega)]
  simp only [show 512 + j.val - 256 - 256 = j.val by omega]
  rw [part2_at (rows h g) (padded (rows h g)) w (padded_at (rows h g))]
  simp only [rows_at]

theorem quarter3 : pooled h g w s (ix3 b p (lane 3 j)) = resultAt h g w s 3 16 b p j := by
  have e : lane 3 j = ⟨768 + j.val, by omega⟩ := Fin.ext (show 256 * 3 + j.val = 768 + j.val by omega)
  unfold resultAt
  rw [e]
  pointwise [pooled]
  rw [dif_neg (by omega), dif_neg (by omega), dif_neg (by omega)]
  simp only [show 768 + j.val - 256 - 256 - 256 = j.val by omega]
  rw [part3_at (rows h g) (padded (rows h g)) w (padded_at (rows h g))]
  simp only [rows_at]

end Cert.Reference4Ideal.Pool

end
-- ==== Proof.PoolValue.lean ====
/- The pooling mixer: the call's result is the reference's. -/
module

public import proofs.«01_k».proof.Proof.PoolKernel
public import proofs.«01_k».proof.Proof.PoolRef

@[expose] public section

noncomputable section

namespace Cert.Pool

open Cert.Kernel4Ideal Cert.Kernel4Ideal.Gen Cert.Kernel4Ideal.Value
open Idealize.ShloMosaic Idealize.ShloMosaic.TcCoe Idealize.SL.Sem

variable (m : (ℓ : Loc nD τ sig) → Buf (Elt Ideal) ℓ) (c : Dev nD)

theorem same_array : (dats m 0 c).arrAt 5 cfg0.N = Cert.Reference4Ideal.Pool.pooled (m ((c : Thread nD τ).loc main_arg0))
    (m ((c : Thread nD τ).loc main_arg1)) (m ((c : Thread nD τ).loc main_arg2)) (m ((c : Thread nD τ).loc main_arg3)) := by
  funext i
  obtain ⟨b, a, r, q, j, rfl⟩ : ∃ (b : Fin 16) (a : Fin 2) (r : Fin 1024) (q : Fin 4) (j : Fin 256), i = ix3 b ⟨1024 * a.val + r.val, by omega⟩ (lane q j) := by
    have h1 : (i 1).val < 2048 := (i 1).isLt
    have h2 : (i 2).val < 1024 := (i 2).isLt
    refine ⟨i 0, ⟨(i 1).val / 1024, by omega⟩, ⟨(i 1).val % 1024, by omega⟩, ⟨(i 2).val / 256, by omega⟩, ⟨(i 2).val % 256, by omega⟩, ?_⟩
    funext d
    match d with
    | ⟨0, _⟩ => rfl
    | ⟨1, _⟩ => exact Fin.ext (show (i 1).val = 1024 * ((i 1).val / 1024) + (i 1).val % 1024 by omega)
    | ⟨2, _⟩ => exact Fin.ext (show (i 2).val = 256 * ((i 2).val / 256) + (i 2).val % 256 by omega)
  match q with
  | 0 => exact (Cert.Kernel4Ideal.Pool.tile0 m c b a r j).trans (Cert.Reference4Ideal.Pool.quarter0 _ b _ j _ _ _).symm
  | 1 => exact (Cert.Kernel4Ideal.Pool.tile1 m c b a r j).trans (Cert.Reference4Ideal.Pool.quarter1 _ b _ j _ _ _).symm
  | 2 => exact (Cert.Kernel4Ideal.Pool.tile2 m c b a r j).trans (Cert.Reference4Ideal.Pool.quarter2 _ b _ j _ _ _).symm
  | 3 => exact (Cert.Kernel4Ideal.Pool.tile3 m c b a r j).trans (Cert.Reference4Ideal.Pool.quarter3 _ b _ j _ _ _).symm

end Cert.Pool

end
-- ==== Proof.RowsMath.lean ====
/- A token's row, as the call finds it: over 128 lanes the number that only the bucket's lane holds, cut in two digits to
   base 256 and put together again. Over the reals nothing is lost by that, and lanes past the last bucket add nothing. -/
module

public import Idealize.ShloMosaic.PureOps.Ideal
public import Idealize.ShloMosaic.Lib.ValueIdx
public import Idealize.ShloMosaic.Lib.IdealHost

@[expose] public section

noncomputable section

namespace Cert.Rows

open Idealize.ShloMosaic

/-- A bucket's number as a float. -/
def lane (n : Nat) : EReal := FloatOps.sitofp (F := Ideal) FTy.f32 (BitVec.ofNat 32 n)

theorem lane_eq {n : Nat} (h : n < 128) : lane n = ((n : ℝ) : EReal) := by
  have e : (BitVec.ofNat 32 n).toInt = (n : Int) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e, Int.cast_natCast]

theorem ofBits_256_bf16 : Ideal.ofBits FTy.bf16 17280#16 = ((256 : ℝ) : EReal) := by
  simp [Ideal.ofBits, Ideal.ieee, -EReal.coe_mul]
  norm_num

theorem ofBits_256 : Ideal.ofBits FTy.f32 1132462080#32 = ((256 : ℝ) : EReal) := by
  simp [Ideal.ofBits, Ideal.ieee, -EReal.coe_mul]
  norm_num

theorem ofBits_part : Ideal.ofBits FTy.f32 998244352#32 = ((1 / 256 : ℝ) : EReal) := by
  simp [Ideal.ofBits, Ideal.ieee, -EReal.coe_mul]
  norm_num

theorem ofBits_24 : Ideal.ofBits FTy.f32 0x41C00000#32 = ((24 : ℝ) : EReal) := by
  simp [Ideal.ofBits, Ideal.ieee, -EReal.coe_mul]
  norm_num

theorem ofBits_32768 : Ideal.ofBits FTy.f32 0x47000000#32 = ((32768 : ℝ) : EReal) := by
  simp [Ideal.ofBits, Ideal.ieee, -EReal.coe_mul]
  norm_num

/-- A number in two digits to base 256 and put together again. -/
theorem digits (x : ℝ) :
    Ideal.ofBits FTy.bf16 17280#16 * Ideal.liftRound Int.floor ((x : EReal) * Ideal.ofBits FTy.f32 998244352#32)
      + ((x : EReal) - Ideal.liftRound Int.floor ((x : EReal) * Ideal.ofBits FTy.f32 998244352#32) * Ideal.ofBits FTy.f32 1132462080#32) = (x : EReal) := by
  rw [ofBits_256_bf16, ofBits_256, ofBits_part, ← EReal.coe_mul]
  show ((256 : ℝ) : EReal) * ((⌊x * (1 / 256)⌋ : ℝ) : EReal) + ((x : EReal) - ((⌊x * (1 / 256)⌋ : ℝ) : EReal) * ((256 : ℝ) : EReal)) = _
  rw [← EReal.coe_mul, ← EReal.coe_mul, ← EReal.coe_sub, ← EReal.coe_add]
  congr 1
  ring

/-- A token's row: its bucket's first row and its rank in the bucket. -/
def row (bucket rank : EReal) (first : Fin 24 → EReal) : EReal :=
  ∑ b : Fin 24, if bucket = lane b.val then first b + rank else 0

/-- A real number, not an infinity. -/
def Finite (x : EReal) : Prop := ∃ r : ℝ, x = (r : EReal)

/-- A bucket's number below 24. -/
def Below (x : EReal) : Prop := x < ((24 : ℝ) : EReal)

/-- What the call adds up over the lanes is the token's row. -/
theorem sum_lanes (bucket rank : EReal) (start : Fin 128 → EReal) (first : Fin 24 → EReal) (hb : Below bucket) (hr : Finite rank)
    (hs : ∀ x, Finite (start x)) (h1 : ∀ b : Fin 24, start ⟨b.val, by omega⟩ = first b) :
    (∑ x : Fin 128, Ideal.ofBits FTy.bf16 17280#16 *
        Ideal.liftRound Int.floor (((if lane x.val = bucket then start x else 0) + if lane x.val = bucket then rank else 0) * Ideal.ofBits FTy.f32 998244352#32))
      + ∑ x : Fin 128, (((if lane x.val = bucket then start x else 0) + if lane x.val = bucket then rank else 0)
        - Ideal.liftRound Int.floor (((if lane x.val = bucket then start x else 0) + if lane x.val = bucket then rank else 0) * Ideal.ofBits FTy.f32 998244352#32)
          * Ideal.ofBits FTy.f32 1132462080#32)
      = row bucket rank first := by
  rw [← Finset.sum_add_distrib]
  have e : ∀ x : Fin 128, Finite ((if lane x.val = bucket then start x else 0) + if lane x.val = bucket then rank else 0) := by
    intro x
    obtain ⟨r, hr⟩ := hr
    obtain ⟨s, hs⟩ := hs x
    split
    · exact ⟨s + r, by rw [hr, hs, EReal.coe_add]⟩
    · exact ⟨0, by rw [add_zero]; rfl⟩
  have e1 : ∀ x : Fin 128, Ideal.ofBits FTy.bf16 17280#16 *
        Ideal.liftRound Int.floor (((if lane x.val = bucket then start x else 0) + if lane x.val = bucket then rank else 0) * Ideal.ofBits FTy.f32 998244352#32)
      + (((if lane x.val = bucket then start x else 0) + if lane x.val = bucket then rank else 0)
        - Ideal.liftRound Int.floor (((if lane x.val = bucket then start x else 0) + if lane x.val = bucket then rank else 0) * Ideal.ofBits FTy.f32 998244352#32)
          * Ideal.ofBits FTy.f32 1132462080#32)
      = if bucket = lane x.val then start x + rank else 0 := by
    intro x
    obtain ⟨r, h⟩ := e x
    rw [h, digits, ← h]
    by_cases c : bucket = lane x.val
    · rw [if_pos c, if_pos c.symm, if_pos c.symm]
    · rw [if_neg c, if_neg (Ne.symm c), if_neg (Ne.symm c), add_zero]
  rw [Finset.sum_congr rfl fun x _ => e1 x]
  refine (Fin.sum_univ_add (a := 24) (b := 104) (fun x : Fin 128 => if bucket = lane x.val then start x + rank else (0 : EReal))).trans ?_
  have z : ∀ x : Fin 104, (if bucket = lane (Fin.natAdd 24 x).val then start (Fin.natAdd 24 x) + rank else (0 : EReal)) = 0 := by
    intro x
    refine if_neg fun c => ?_
    rw [lane_eq (by rw [Fin.val_natAdd]; omega)] at c
    rw [c, Below, EReal.coe_lt_coe_iff, Fin.val_natAdd] at hb
    have : (24 : ℝ) ≤ ((24 + x.val : ℕ) : ℝ) := by exact_mod_cast Nat.le_add_right 24 x.val
    linarith
  rw [Finset.sum_congr rfl fun x _ => z x, Finset.sum_const_zero, add_zero]
  refine Finset.sum_congr rfl fun b _ => ?_
  rw [← h1 b]
  rfl

end Cert.Rows

end
-- ==== Proof.RowsKernel.lean ====
/- The tokens' rows: the call's result at an index of the whole array, on extended reals. -/
module

public import proofs.«01_k».proof.Proof.Gen.Kernel5Ideal.Value
public import proofs.«01_k».proof.Proof.RowsMath
public import Idealize.ShloMosaic.Lib.Writes
public import Idealize.ShloMosaic.Lib.Pointwise

@[expose] public section

set_option maxRecDepth 16384

noncomputable section

namespace Cert.Kernel5Ideal.Rows

open Cert.Kernel5Ideal Cert.Kernel5Ideal.Gen Cert.Kernel5Ideal.Value Cert.Rows
open Idealize.ShloMosaic Idealize.ShloMosaic.TcCoe Idealize.SL.Sem

section Run
variable {F : FTy → Type} [FloatOps F] (m : (ℓ : Loc nD τ sig) → Buf (Elt F) ℓ)

theorem origin : (![0, 0, 0] : Fin 3 → ℕ) = fun _ => 0 := funext fun a => by fin_cases a <;> rfl

theorem ld_route (x : Vec F S4096x128 .f32) : View.ld x r0_0 = x :=
  funext fun j => congrArg x (funext fun a => Fin.ext (by fin_cases a <;> exact (Nat.zero_add _).trans (Nat.one_mul _)))

theorem ld_starts (x : Vec F S1x128 .f32) : View.ld x r0_1 = x :=
  funext fun j => congrArg x (funext fun a => Fin.ext (by fin_cases a <;> exact (Nat.zero_add _).trans (Nat.one_mul _)))

theorem out_rows (x0 : Vec F S4096x128 .f32) (x1 : Vec F S1x128 .f32) : out0_2 x0 x1 = k0_pay1 x0 x1 := by
  unfold out0_2
  rw [ld_route, ld_starts, View.canon_unit_zero (S := S1x8x4096) origin]

/-- The buckets' first rows, from the counts: whole tiles of 512 rows for each bucket, the buckets one after the other. -/
def firstRows (x : IVec S24 32) : FVec F S24 .f32 :=
  let up : IVec S24 32 := addi x (broadcastInDim S24 ![] bcast_S_S24 (constantI S_ 32 511#32))
  let size : IVec S24 32 := broadcastInDim S24 ![] bcast_S_S24 (id (constantI S_ 32 512#32))
  let tiles : IVec S24 32 := select (andi (cmpi .ne (signi up) (broadcastInDim S24 ![] bcast_S_S24 (signi (id (constantI S_ 32 512#32)))))
      (cmpi .ne (Host.remsi up size) (broadcastInDim S24 ![] bcast_S_S24 (constantI S_ 32 0#32))))
    (subi (Host.divsi up size) (broadcastInDim S24 ![] bcast_S_S24 (constantI S_ 32 1#32))) (Host.divsi up size)
  sitofp .f32 (muli (subi (Host.reduceWindow IntOp.addi ![24] ![1] ![23] ![0] tiles (broadcastInDim S_ ![] bcast_S_S_ (constantI S_ 32 0#32)) reduceWindows_S24_S24_w24s1p23_0 h_S_) tiles)
    (broadcastInDim S24 ![] bcast_S_S24 (constantI S_ 32 512#32)))

theorem starts_eq (c : Dev nD) : V m c main_v9 = shapeCast S1x128 (pad S128 ![0] ![104] ![0] (firstRows (m ((c : Thread nD τ).loc main_arg1))) (sitofp .f32 (constantI S_ 32 0#32)) pads_S24_S128_01040 h_S_) shapeCasts_S128_S1x128 := by
  unfold V
  simp only [hostOps0, hostOps0_1, hostOps0_2, hostOps0_3, hostOps0_4, hostOps0_5, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try rfl

theorem windows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ (cfg0.win 2).flush t = true :=
  (by decide +kernel : ∀ t : Fin grid0.N, _)

theorem route_at (c : Dev nD) (t : Fin cfg0.N) (b : Fin 8) (r : Fin 4096) (j : Fin 128) (hb : t.val = b.val) :
    iblk m c 0 t (ix2 r j) = m ((c : Thread nD τ).loc main_arg0) (ix2 ⟨b.val * 4096 + r.val, by omega⟩ j) := by
  obtain ⟨e0, e1, _⟩ := windows t
  refine (congrFun (V_main_arg0 m c) _).trans (congrArg (m ((c : Thread nD τ).loc main_arg0)) (funext fun a => Fin.ext ?_))
  match a with
  | ⟨0, _⟩ => show win0_0.index t (0 : Fin 2) * 4096 + 1 * r.val = b.val * 4096 + r.val; rw [e0, hb]; omega
  | ⟨1, _⟩ => show win0_0.index t (1 : Fin 2) * 128 + 1 * j.val = j.val; omega

theorem starts_block (c : Dev nD) (t : Fin cfg0.N) (j : Fin 128) : iblk m c 1 t (ix2 0 j) = V m c main_v9 (ix2 0 j) := by
  obtain ⟨_, _, e0, e1, _⟩ := windows t
  refine congrArg (V m c main_v9) (funext fun a => Fin.ext ?_)
  match a with
  | ⟨0, _⟩ => show win0_1.index t (0 : Fin 2) * 1 + 1 * 0 = 0; omega
  | ⟨1, _⟩ => show win0_1.index t (1 : Fin 2) * 128 + 1 * j.val = j.val; omega

theorem rows_block (c : Dev nD) (t : Fin cfg0.N) (b : Fin 8) (s : Fin 8) (r : Fin 4096) (hb : t.val = b.val) :
    (dats m 0 c).arrAt 2 cfg0.N (ix3 b s r) = k0_pay1 (iblk m c 0 t) (iblk m c 1 t) (ix3 0 s r) := by
  obtain ⟨_, _, _, _, e0, e1, e2, f⟩ := windows t
  refine Eq.trans (congrArg ((dats m 0 c).arrAt 2 cfg0.N) (funext fun a => Fin.ext ?_)) ((congrFun (blocks2 m c t f) (ix3 0 s r)).trans ?_)
  · match a with
    | ⟨0, _⟩ => show b.val = win0_2.index t (0 : Fin 3) * 1 + 1 * 0; omega
    | ⟨1, _⟩ => show s.val = win0_2.index t (1 : Fin 3) * 8 + 1 * s.val; omega
    | ⟨2, _⟩ => show r.val = win0_2.index t (2 : Fin 3) * 4096 + 1 * r.val; omega
  · rw [flushed2, out_rows]
    rfl

end Run

theorem pay_at (x0 : FVec Ideal S4096x128 .f32) (x1 : FVec Ideal S1x128 .f32) (s : Fin 8) (r : Fin 4096) (first : Fin 24 → EReal)
    (hb : Below (x0 (ix2 r 2))) (hr : Finite (x0 (ix2 r 3))) (hs : ∀ x, Finite (x1 (ix2 0 x))) (h1 : ∀ b : Fin 24, x1 (ix2 0 ⟨b.val, by omega⟩) = first b) :
    k0_pay1 (F := Ideal) x0 x1 (ix3 0 s r) = Ideal.fptosi 32 (row (x0 (ix2 r 2)) (x0 (ix2 r 3)) first) := by
  rw [← sum_lanes _ _ (fun x => x1 (ix2 0 x)) first hb hr hs h1]
  pointwise [k0_pay1]
  rfl

variable (m : (ℓ : Loc nD τ sig) → Buf (Elt Ideal) ℓ)

theorem starts_at (c : Dev nD) (t : Fin cfg0.N) (j : Fin 128) :
    iblk m c 1 t (ix2 0 j) = if h : j.val < 24 then firstRows (F := Ideal) (m ((c : Thread nD τ).loc main_arg1)) (ix1 ⟨j.val, h⟩) else FloatOps.sitofp FTy.f32 0#32 := by
  rw [starts_block, starts_eq]
  pointwise []

theorem firstRows_finite (x : IVec S24 32) (b : Fin 24) : Finite (firstRows (F := Ideal) x (ix1 b)) := ⟨_, rfl⟩

theorem starts_finite (c : Dev nD) (t : Fin cfg0.N) (j : Fin 128) : Finite (iblk m c 1 t (ix2 0 j)) := by
  rw [starts_at]
  split
  · exact firstRows_finite _ _
  · exact ⟨_, rfl⟩

theorem rows_at (c : Dev nD) (b s : Fin 8) (r : Fin 4096)
    (hb : Below (m ((c : Thread nD τ).loc main_arg0) (ix2 ⟨b.val * 4096 + r.val, by omega⟩ 2)))
    (hr : Finite (m ((c : Thread nD τ).loc main_arg0) (ix2 ⟨b.val * 4096 + r.val, by omega⟩ 3))) :
    (dats m 0 c).arrAt 2 cfg0.N (ix3 b s r)
      = Ideal.fptosi 32 (row (m ((c : Thread nD τ).loc main_arg0) (ix2 ⟨b.val * 4096 + r.val, by omega⟩ 2))
          (m ((c : Thread nD τ).loc main_arg0) (ix2 ⟨b.val * 4096 + r.val, by omega⟩ 3))
          (fun j => firstRows (F := Ideal) (m ((c : Thread nD τ).loc main_arg1)) (ix1 j))) := by
  have e (j : Fin 128) := route_at m c ⟨b.val, b.isLt.trans_eq N_0.symm⟩ b r j rfl
  rw [← e] at hb hr
  rw [rows_block m c ⟨b.val, b.isLt.trans_eq N_0.symm⟩ b s r rfl, ← e, ← e]
  exact pay_at _ _ s r _ hb hr (starts_finite m c _) fun j => (starts_at m c _ _).trans (dif_pos j.isLt)

end Cert.Kernel5Ideal.Rows

end
-- ==== Proof.RowsRef.lean ====
/- The reference's rows of the tokens at an index. -/
module

public import proofs.«01_k».proof.Proof.Gen.Reference5Ideal.Run
public import proofs.«01_k».proof.Proof.RowsKernel
public import Idealize.ShloMosaic.Lib.Quiescent

@[expose] public section

set_option maxRecDepth 16384

noncomputable section

namespace Cert.Reference5Ideal.Rows

open Cert.Reference5Ideal Cert.Reference5Ideal.Gen
open Idealize.ShloMosaic Idealize.ShloMosaic.TcCoe Idealize.SL.Sem
open Cert.Kernel5Ideal.Rows (firstRows)
open Cert.Rows

/-- The reference's result, of the route rows and the buckets' first rows. -/
def rows (route : FVec Ideal S32768x128 .f32) (first : FVec Ideal S24 .f32) : IVec S8x8x4096 32 :=
  broadcastInDim S8x8x4096 ![0, 1, 2] bcast_S8x1x4096_S8x8x4096_0_1_2 (shapeCast _ (fptosi 32 (Host.reduceAdd (select (cmpf .oeq (broadcastInDim S32768x24 ![0, 1] bcast_S32768x1_S32768x24_0_1 (broadcastInDim S32768x1 ![0] bcast_S32768_S32768x1_0 (shapeCast _ (extractStridedSlice S32768x1 ![0, 2] route slices_S32768x128_S32768x1_0_2) shapeCasts_S32768x1_S32768))) (broadcastInDim S32768x24 ![0, 1] bcast_S1x24_S32768x24_0_1 (broadcastInDim S1x24 ![1] bcast_S24_S1x24_1 (sitofp .f32 (iotaInDim S24 32 0))))) (addf (broadcastInDim S32768x24 ![0, 1] bcast_S1x24_S32768x24_0_1 (broadcastInDim S1x24 ![1] bcast_S24_S1x24_1 first)) (broadcastInDim S32768x24 ![0, 1] bcast_S32768x1_S32768x24_0_1 (broadcastInDim S32768x1 ![0] bcast_S32768_S32768x1_0 (shapeCast _ (extractStridedSlice S32768x1 ![0, 3] route slices_S32768x128_S32768x1_0_3) shapeCasts_S32768x1_S32768)))) (broadcastInDim S32768x24 ![] bcast_S_S32768x24 (id (constant S_ .f32 0x00000000#32)))) (constant S_ .f32 0x00000000#32) reducesTo_S32768x24_S32768_d1 h_S_)) shapeCasts_S32768_S8x1x4096)

theorem rows_at (route : FVec Ideal S32768x128 .f32) (first : FVec Ideal S24 .f32) (b s : Fin 8) (r : Fin 4096) :
    rows route first (ix3 b s r) = Ideal.fptosi 32 (row (route (ix2 ⟨b.val * 4096 + r.val, by omega⟩ 2)) (route (ix2 ⟨b.val * 4096 + r.val, by omega⟩ 3)) (fun j => first (ix1 j))) := by
  pointwise [rows]
  refine congrArg (Ideal.fptosi 32) (Finset.sum_congr rfl fun x _ => ?_)
  split
  · exact (if_pos (by assumption)).symm
  · exact (show Ideal.ofBits FTy.f32 0#32 = (0 : EReal) from Ideal.ofBits_zero_f32).trans (if_neg (by assumption)).symm

theorem result_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v28) = rows (m ((c : Thread nD τ).loc main_arg0)) (firstRows (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference5Ideal.Value.run (F := Ideal) m ρ

end Cert.Reference5Ideal.Rows

end
-- ==== Proof.RowsValue.lean ====
/- The tokens' rows: what the precondition says of each token, and that the call's array is the reference's. -/
module

public import proofs.«01_k».proof.Proof.RowsRef
public import proofs.«01_k».proof.Proof.Gen.Pre_ranked_tokens
public import Idealize.ShloMosaic.Lib.ReduceAll
public import Idealize.ShloMosaic.Lib.Pointwise

@[expose] public section

set_option maxRecDepth 16384

noncomputable section

namespace Cert.Rows

open Cert.Kernel5Ideal Cert.Kernel5Ideal.Gen Cert.Kernel5Ideal.Value
open Idealize.ShloMosaic Idealize.ShloMosaic.TcCoe Idealize.SL.Sem
open Cert.Kernel5Ideal.Rows (firstRows)

theorem one_and {a b : BitVec 1} (h : IntOp.andi a b = 1#1) : a = 1#1 ∧ b = 1#1 := by
  revert a b
  decide

theorem ofBool_true {p : Prop} [Decidable p] (h : BitVec.ofBool (decide p) = 1#1) : p := by
  by_contra c
  rw [decide_eq_false c] at h
  exact absurd h (by decide)

/-- The precondition of one token: its bucket is below 24, and its rank is a real number. -/
theorem token_of_pre (route : FVec Ideal S32768x128 .f32) (counts : IVec S24 32) (h : Cert.Pre_ranked_tokens.fn (F := Ideal) route counts = fun _ => 1#1)
    (n : Fin 32768) : Below (route (ix2 n 2)) ∧ Finite (route (ix2 n 3)) := by
  have e := Host.reduce_andi_all _ _ _ _ ix0 (congrFun h ix0) (ix1 n)
  revert e
  pointwise []
  intro e
  obtain ⟨e, e3⟩ := one_and e
  obtain ⟨e1, e2⟩ := one_and e
  have l := ofBool_true e1
  have lo := ofBool_true e2
  have hi := ofBool_true e3
  rw [show Ideal.ofBits FTy.f32 1103101952#32 = ((24 : ℝ) : EReal) from ofBits_24] at l
  rw [show Ideal.ofBits FTy.f32 1191182336#32 = ((32768 : ℝ) : EReal) from ofBits_32768] at hi
  refine ⟨l, _, (EReal.coe_toReal (fun t => ?_) fun t => ?_).symm⟩
  · rw [t] at hi
    exact absurd hi (not_le.mpr (EReal.coe_lt_top _))
  · rw [t] at lo
    exact absurd lo (not_le.mpr EReal.bot_lt_zero)

variable (m : (ℓ : Loc nD τ sig) → Buf (Elt Ideal) ℓ) (c : Dev nD)

theorem same_rows (h : Cert.Pre_ranked_tokens.fn (F := Ideal) (m ((c : Thread nD τ).loc main_arg0)) (m ((c : Thread nD τ).loc main_arg1)) = fun _ => 1#1) :
    (dats m 0 c).arrAt 2 cfg0.N = Cert.Reference5Ideal.Rows.rows (m ((c : Thread nD τ).loc main_arg0)) (firstRows (m ((c : Thread nD τ).loc main_arg1))) := by
  funext i
  obtain ⟨b, s, r, rfl⟩ : ∃ (b s : Fin 8) (r : Fin 4096), i = ix3 b s r :=
    ⟨i 0, i 1, i 2, by funext a; match a with | ⟨0, _⟩ => rfl | ⟨1, _⟩ => rfl | ⟨2, _⟩ => rfl⟩
  obtain ⟨hb, hr⟩ := token_of_pre _ _ h ⟨b.val * 4096 + r.val, by omega⟩
  exact (Cert.Kernel5Ideal.Rows.rows_at m c b s r hb hr).trans (Cert.Reference5Ideal.Rows.rows_at _ _ b s r).symm

end Cert.Rows

end
-- ==== Proof.lean ====
module

public import proofs.«01_k».proof.Defs
public import proofs.«01_k».proof.Proof.Gen.Kernel
public import proofs.«01_k».proof.Proof.SameText
public import proofs.«01_k».proof.Proof.KernelValue
public import proofs.«01_k».proof.Proof.RefValue
public import proofs.«01_k».proof.Proof.AttnValue
public import proofs.«01_k».proof.Proof.RouteValue
public import proofs.«01_k».proof.Proof.MemValue
public import proofs.«01_k».proof.Proof.PoolValue
public import proofs.«01_k».proof.Proof.RowsValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_ranked_tokens
public import proofs.«01_k».proof.Proof.Gen.Pre_counts_of_all_tokens

@[expose] public section

noncomputable section

namespace Cert.Proof

open Idealize.ShloMosaic Idealize.SL.Sem Cert.Counts
open Cert.KernelIdeal.Experts (good_of_pre)

theorem good_kernel (m : (ℓ : Loc Cert.Kernel.nD Cert.Kernel.τ Cert.Kernel.sig) → Buf (Elt Bits) ℓ) (hp : Cert.Pre_Kernel m) :
    Good (Cert.KernelIdeal.Experts.cnt (m (((0 : Dev Cert.Kernel.nD).tc : Thread Cert.Kernel.nD Cert.Kernel.τ).loc Cert.Kernel.main_arg1))) :=
  good_of_pre _ _ _ _ fun y => congrFun (hp 0) y

theorem frame_kernel : Cert.quiescent_Kernel := fun m ρ hp =>
  Cert.Kernel.Experts.frame (F := Bits) m ρ (Cert.KernelIdeal.Experts.ok (F := Bits) m (good_kernel m hp))

theorem frame_ideal : Cert.quiescent_KernelIdeal := fun m ρ hp =>
  Cert.KernelIdeal.Experts.frame m ρ (Cert.KernelIdeal.Experts.ok m (good_of_pre _ _ _ _ fun y => congrFun (hp 0) y))

theorem frame_reference : Cert.quiescent_ReferenceIdeal := fun m ρ hp =>
  (θ_run Cert.ReferenceIdeal.defs _ _).mono (fun _ h => ⟨fun c => (h.1 c).2, h.2⟩)
    (Cert.ReferenceIdeal.Experts.run_layer m ρ fun c => good_of_pre _ _ _ _ fun y => congrFun (hp c) y)

theorem value : Cert.algebraic_KernelIdeal_ReferenceIdeal := fun m ρ m' ρ' hp hm => by
  have g : Good (Cert.KernelIdeal.Experts.cntOf m) := good_of_pre _ _ _ _ fun y => congrFun (hp 0) y
  refine ⟨fun _ => Cert.KernelIdeal.Experts.result m, Cert.KernelIdeal.Experts.run_layer m ρ g, ?_⟩
  have g' : ∀ c : Dev Cert.ReferenceIdeal.nD, Good (Cert.KernelIdeal.Experts.cnt (m' ((c.tc : Thread Cert.ReferenceIdeal.nD Cert.ReferenceIdeal.τ).loc Cert.ReferenceIdeal.main_arg1))) := by
    intro c
    obtain rfl : c = 0 := Subsingleton.elim _ _
    exact (congrArg (fun x => Good (Cert.KernelIdeal.Experts.cnt x)) (hm 0).2.1).mpr g
  refine (θ_run Cert.ReferenceIdeal.defs _ _).mono (fun _ h c => ⟨(h.1 c).1.trans ?_, (h.1 c).2⟩) (Cert.ReferenceIdeal.Experts.run_layer m' ρ' g')
  obtain rfl : c = 0 := Subsingleton.elim _ _
  obtain ⟨h0, h1, h2, h3⟩ := hm 0
  rw [h0, h1, h2, h3]
  rfl

theorem frame_attention : Cert.quiescent_Kernel2 := fun m ρ _ => Cert.Kernel2.Gen.frame m ρ

theorem frame_attention_ideal : Cert.quiescent_Kernel2Ideal := fun m ρ _ => Cert.Kernel2Ideal.Gen.frame m ρ

theorem frame_attention_reference : Cert.quiescent_Reference2Ideal := fun m ρ _ =>
  (θ_run Cert.Reference2Ideal.defs _ _).mono (fun r h => ⟨fun c => (h c).2.2, sem_eq_zero_of_no_sems (by decide) r.2⟩) (Cert.Reference2Ideal.Value.run (F := Ideal) m ρ)

theorem value_attention : Cert.algebraic_Kernel2Ideal_Reference2Ideal := fun m ρ m' ρ' _ hm => by
  refine ⟨fun c => Cert.Kernel2Ideal.Value.G10 m c, fun c => Cert.Kernel2Ideal.Value.G12 m c,
    (θ_run Cert.Kernel2Ideal.defs _ _).mono (fun _ h c => ⟨(h c).1, (h c).2.2.1, (h c).2.2.2⟩) (Cert.Kernel2Ideal.Value.run (F := Ideal) m ρ), ?_⟩
  refine (θ_run Cert.Reference2Ideal.defs _ _).mono (fun _ h c => ⟨(h c).1.trans ?_, (h c).2.1.trans ?_, (h c).2.2⟩) (Cert.Reference2Ideal.Value.run (F := Ideal) m' ρ')
  · obtain ⟨h0, h1, h2, h3, h4, h5, _⟩ := hm c
    refine (Cert.Reference2Ideal.Attention.result_eq m' c).trans ?_
    rw [h0, h1, h2, h3, h4, h5]
    exact (Cert.Attn.same_array m c).symm
  · obtain ⟨h0, h1, h2, h3, h4, h5, h6, h7, h8, h9, h10⟩ := hm c
    refine (Cert.Reference2Ideal.Route.counts_eq m' c).trans ?_
    rw [h0, h1, h2, h3, h4, h5, h6, h7, h8, h9, h10, ← Cert.Attn.same_array m c]
    exact (Cert.Route.same_counts m c).symm

theorem frame_memory : Cert.quiescent_Kernel3 := fun m ρ _ => Cert.Kernel3.Gen.frame m ρ

theorem frame_memory_ideal : Cert.quiescent_Kernel3Ideal := fun m ρ _ => Cert.Kernel3Ideal.Gen.frame m ρ

theorem frame_memory_reference : Cert.quiescent_Reference3Ideal := fun m ρ _ =>
  (θ_run Cert.Reference3Ideal.defs _ _).mono (fun r h => ⟨fun c => (h c).2.2, sem_eq_zero_of_no_sems (by decide) r.2⟩) (Cert.Reference3Ideal.Value.run (F := Ideal) m ρ)

theorem value_memory : Cert.algebraic_Kernel3Ideal_Reference3Ideal := fun m ρ m' ρ' _ hm => by
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    Cert.Kernel3Ideal.Value.run_blocks (F := Ideal) m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · obtain ⟨h0, h1, h2⟩ := hm c
    rw [h0, h1, h2]
    exact (Cert.Memory.same_keys m c).symm
  · obtain ⟨h0, h1, h2⟩ := hm c
    rw [h0, h1, h2]
    exact (Cert.Memory.same_values m c).symm

theorem frame_pool : Cert.quiescent_Kernel4 := fun m ρ _ => Cert.Kernel4.Gen.frame m ρ

theorem frame_pool_ideal : Cert.quiescent_Kernel4Ideal := fun m ρ _ => Cert.Kernel4Ideal.Gen.frame m ρ

theorem frame_pool_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem value_pool : Cert.algebraic_Kernel4Ideal_Reference4Ideal := fun m ρ m' ρ' _ hm => by
  refine ⟨fun c => (Cert.Kernel4Ideal.Gen.dats m 0 c).arrAt 5 Cert.Kernel4Ideal.cfg0.N, Cert.Kernel4Ideal.Value.run_blocks (F := Ideal) m ρ, ?_⟩
  refine (θ_run Cert.Reference4Ideal.defs _ _).mono (fun _ h c => ⟨(h c).1.trans ?_, (h c).2⟩) (Cert.Reference4Ideal.Value.run (F := Ideal) m' ρ')
  obtain ⟨h0, h1, h2, h3⟩ := hm c
  refine (Cert.Reference4Ideal.Pool.result_eq m' c).trans ?_
  rw [h0, h1, h2, h3]
  exact (Cert.Pool.same_array m c).symm

theorem frame_rows : Cert.quiescent_Kernel5 := fun m ρ _ => Cert.Kernel5.Gen.frame m ρ

theorem frame_rows_ideal : Cert.quiescent_Kernel5Ideal := fun m ρ _ => Cert.Kernel5Ideal.Gen.frame m ρ

theorem frame_rows_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

theorem value_rows : Cert.algebraic_Kernel5Ideal_Reference5Ideal_pre_ranked_tokens := fun m ρ m' ρ' hp hm => by
  refine ⟨fun c => (Cert.Kernel5Ideal.Gen.dats m 0 c).arrAt 2 Cert.Kernel5Ideal.cfg0.N, Cert.Kernel5Ideal.Value.run_blocks (F := Ideal) m ρ, ?_⟩
  refine (θ_run Cert.Reference5Ideal.defs _ _).mono (fun _ h c => ⟨(h c).1.trans ?_, (h c).2⟩) (Cert.Reference5Ideal.Rows.result_eq m' ρ')
  obtain ⟨h0, h1⟩ := hm c
  rw [h0, h1]
  exact (Cert.Rows.same_rows m c (hp c)).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_counts_of_all_tokens.Gen.facts, Cert.Pre_ranked_tokens.Gen.facts,
  frame_kernel, frame_ideal, frame_reference, frame_attention, frame_attention_ideal, frame_attention_reference, frame_memory, frame_memory_ideal, frame_memory_reference,
  frame_pool, frame_pool_ideal, frame_pool_reference, frame_rows, frame_rows_ideal, fun m ρ _ => frame_rows_ideal m ρ trivial, frame_rows_reference, fun m ρ _ => frame_rows_reference m ρ trivial,
  trivial, value, trivial, value_attention, trivial, value_memory, trivial, value_pool, trivial, value_rows⟩

end Cert.Proof

end
